-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_cotangent [hPre_finite_cotangent : Cert.Pre_finite_cotangent.Facts] (m : (ℓ : Loc Cert.GateIdeal.nD Cert.GateIdeal.τ Cert.GateIdeal.sig) → Buf (Elt Ideal) ℓ) : Prop :=
  ∀ c : Dev Cert.GateIdeal.nD,
    (Cert.Pre_finite_cotangent.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).1 = (fun _ => 1#1)
    ∧ (Cert.Pre_finite_cotangent.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.1 = (fun _ => 1#1)
    ∧ (Cert.Pre_finite_cotangent.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_cotangent [hPre_finite_cotangent : Cert.Pre_finite_cotangent.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_cotangent.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).1 = (fun _ => 1#1)
    ∧ (Cert.Pre_finite_cotangent.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.1 = (fun _ => 1#1)
    ∧ (Cert.Pre_finite_cotangent.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))).2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInRefIdeal (m : (ℓ : Loc Cert.MlpInRefIdeal.nD Cert.MlpInRefIdeal.τ Cert.MlpInRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attention [hPre_finite_attention : Cert.Pre_finite_attention.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attention [hPre_finite_attention : Cert.Pre_finite_attention.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_DwORefIdeal (m : (ℓ : Loc Cert.DwORefIdeal.nD Cert.DwORefIdeal.τ Cert.DwORefIdeal.sig) → Buf (Elt Ideal) ℓ) : Prop :=
  True

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInRefIdeal (m : (ℓ : Loc Cert.HgrnInRefIdeal.nD Cert.HgrnInRefIdeal.τ Cert.HgrnInRefIdeal.sig) → Buf (Elt Ideal) ℓ) : Prop :=
  True

def Pre_QkvBwd (m : (ℓ : Loc Cert.QkvBwd.nD Cert.QkvBwd.τ Cert.QkvBwd.sig) → Buf (Elt Bits) ℓ) : Prop :=
  True

def Pre_QkvBwdIdeal (m : (ℓ : Loc Cert.QkvBwdIdeal.nD Cert.QkvBwdIdeal.τ Cert.QkvBwdIdeal.sig) → Buf (Elt Ideal) ℓ) : Prop :=
  True

def Pre_QkvBwdRefIdeal (m : (ℓ : Loc Cert.QkvBwdRefIdeal.nD Cert.QkvBwdRefIdeal.τ Cert.QkvBwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_HgrnOutRefIdeal (m : (ℓ : Loc Cert.HgrnOutRefIdeal.nD Cert.HgrnOutRefIdeal.τ Cert.HgrnOutRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvRefIdeal (m : (ℓ : Loc Cert.AdamQkvRefIdeal.nD Cert.AdamQkvRefIdeal.τ Cert.AdamQkvRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_finite_cotangent [hGateIdeal : Cert.GateIdeal.Facts] [hPre_finite_cotangent : Cert.Pre_finite_cotangent.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_cotangent m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_finite_cotangent [hGateRefIdeal : Cert.GateRefIdeal.Facts] [hPre_finite_cotangent : Cert.Pre_finite_cotangent.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_cotangent m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1)
      ∧ r.2.mem ((c.tc : Thread Cert.MlpIn.nD Cert.MlpIn.τ).loc Cert.MlpIn.main_arg2) = m ((c.tc : Thread Cert.MlpIn.nD Cert.MlpIn.τ).loc Cert.MlpIn.main_arg2)
      ∧ r.2.mem ((c.tc : Thread Cert.MlpIn.nD Cert.MlpIn.τ).loc Cert.MlpIn.main_arg3) = m ((c.tc : Thread Cert.MlpIn.nD Cert.MlpIn.τ).loc Cert.MlpIn.main_arg3)
      ∧ r.2.mem ((c.tc : Thread Cert.MlpIn.nD Cert.MlpIn.τ).loc Cert.MlpIn.main_arg4) = m ((c.tc : Thread Cert.MlpIn.nD Cert.MlpIn.τ).loc Cert.MlpIn.main_arg4))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
      ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2)
      ∧ r.2.mem ((c.tc : Thread Cert.MlpInIdeal.nD Cert.MlpInIdeal.τ).loc Cert.MlpInIdeal.main_arg3) = m ((c.tc : Thread Cert.MlpInIdeal.nD Cert.MlpInIdeal.τ).loc Cert.MlpInIdeal.main_arg3)
      ∧ r.2.mem ((c.tc : Thread Cert.MlpInIdeal.nD Cert.MlpInIdeal.τ).loc Cert.MlpInIdeal.main_arg4) = m ((c.tc : Thread Cert.MlpInIdeal.nD Cert.MlpInIdeal.τ).loc Cert.MlpInIdeal.main_arg4))
      ∧ r.2.sem = fun _ => 0)

def quiescent_MlpInRefIdeal [hMlpInRefIdeal : Cert.MlpInRefIdeal.Facts] : Prop :=
  ∀ (m : (ℓ : Loc Cert.MlpInRefIdeal.nD Cert.MlpInRefIdeal.τ Cert.MlpInRefIdeal.sig) → Buf (Elt Ideal) ℓ) (g : Dev Cert.MlpInRefIdeal.nD → PrngReg), Pre_MlpInRefIdeal m →
    θ_run (Cert.MlpInRefIdeal.defs (F := Ideal)) (onTc (τ := Cert.MlpInRefIdeal.τ) (Cert.MlpInRefIdeal.main (F := Ideal))) ⟨m, fun _ => 0, g⟩ (fun r => (∀ c : Dev Cert.MlpInRefIdeal.nD,
      r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1)
      ∧ r.2.mem ((c.tc : Thread Cert.MlpInRefIdeal.nD Cert.MlpInRefIdeal.τ).loc Cert.MlpInRefIdeal.main_arg2) = m ((c.tc : Thread Cert.MlpInRefIdeal.nD Cert.MlpInRefIdeal.τ).loc Cert.MlpInRefIdeal.main_arg2)
      ∧ r.2.mem ((c.tc : Thread Cert.MlpInRefIdeal.nD Cert.MlpInRefIdeal.τ).loc Cert.MlpInRefIdeal.main_arg3) = m ((c.tc : Thread Cert.MlpInRefIdeal.nD Cert.MlpInRefIdeal.τ).loc Cert.MlpInRefIdeal.main_arg3)
      ∧ r.2.mem ((c.tc : Thread Cert.MlpInRefIdeal.nD Cert.MlpInRefIdeal.τ).loc Cert.MlpInRefIdeal.main_arg4) = m ((c.tc : Thread Cert.MlpInRefIdeal.nD Cert.MlpInRefIdeal.τ).loc Cert.MlpInRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite_attention [hAttnIdeal : Cert.AttnIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attention m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite_attention [hAttnRefIdeal : Cert.AttnRefIdeal.Facts] [hPre_finite_attention : Cert.Pre_finite_attention.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attention m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ r.2.sem = fun _ => 0)

def quiescent_DwORefIdeal [hDwORefIdeal : Cert.DwORefIdeal.Facts] : Prop :=
  ∀ (m : (ℓ : Loc Cert.DwORefIdeal.nD Cert.DwORefIdeal.τ Cert.DwORefIdeal.sig) → Buf (Elt Ideal) ℓ) (g : Dev Cert.DwORefIdeal.nD → PrngReg), Pre_DwORefIdeal m →
    θ_run (Cert.DwORefIdeal.defs (F := Ideal)) (onTc (τ := Cert.DwORefIdeal.τ) (Cert.DwORefIdeal.main (F := Ideal))) ⟨m, fun _ => 0, g⟩ (fun r => (∀ c : Dev Cert.DwORefIdeal.nD,
      r.2.mem ((c.tc : Thread Cert.DwORefIdeal.nD Cert.DwORefIdeal.τ).loc Cert.DwORefIdeal.main_arg0) = m ((c.tc : Thread Cert.DwORefIdeal.nD Cert.DwORefIdeal.τ).loc Cert.DwORefIdeal.main_arg0)
      ∧ r.2.mem ((c.tc : Thread Cert.DwORefIdeal.nD Cert.DwORefIdeal.τ).loc Cert.DwORefIdeal.main_arg1) = m ((c.tc : Thread Cert.DwORefIdeal.nD Cert.DwORefIdeal.τ).loc Cert.DwORefIdeal.main_arg1))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1)
      ∧ r.2.mem ((c.tc : Thread Cert.HgrnIn.nD Cert.HgrnIn.τ).loc Cert.HgrnIn.main_arg2) = m ((c.tc : Thread Cert.HgrnIn.nD Cert.HgrnIn.τ).loc Cert.HgrnIn.main_arg2)
      ∧ r.2.mem ((c.tc : Thread Cert.HgrnIn.nD Cert.HgrnIn.τ).loc Cert.HgrnIn.main_arg3) = m ((c.tc : Thread Cert.HgrnIn.nD Cert.HgrnIn.τ).loc Cert.HgrnIn.main_arg3)
      ∧ r.2.mem ((c.tc : Thread Cert.HgrnIn.nD Cert.HgrnIn.τ).loc Cert.HgrnIn.main_arg4) = m ((c.tc : Thread Cert.HgrnIn.nD Cert.HgrnIn.τ).loc Cert.HgrnIn.main_arg4)
      ∧ r.2.mem ((c.tc : Thread Cert.HgrnIn.nD Cert.HgrnIn.τ).loc Cert.HgrnIn.main_arg5) = m ((c.tc : Thread Cert.HgrnIn.nD Cert.HgrnIn.τ).loc Cert.HgrnIn.main_arg5)
      ∧ r.2.mem ((c.tc : Thread Cert.HgrnIn.nD Cert.HgrnIn.τ).loc Cert.HgrnIn.main_arg6) = m ((c.tc : Thread Cert.HgrnIn.nD Cert.HgrnIn.τ).loc Cert.HgrnIn.main_arg6)
      ∧ r.2.mem ((c.tc : Thread Cert.HgrnIn.nD Cert.HgrnIn.τ).loc Cert.HgrnIn.main_arg7) = m ((c.tc : Thread Cert.HgrnIn.nD Cert.HgrnIn.τ).loc Cert.HgrnIn.main_arg7))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
      ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2)
      ∧ r.2.mem ((c.tc : Thread Cert.HgrnInIdeal.nD Cert.HgrnInIdeal.τ).loc Cert.HgrnInIdeal.main_arg3) = m ((c.tc : Thread Cert.HgrnInIdeal.nD Cert.HgrnInIdeal.τ).loc Cert.HgrnInIdeal.main_arg3)
      ∧ r.2.mem ((c.tc : Thread Cert.HgrnInIdeal.nD Cert.HgrnInIdeal.τ).loc Cert.HgrnInIdeal.main_arg4) = m ((c.tc : Thread Cert.HgrnInIdeal.nD Cert.HgrnInIdeal.τ).loc Cert.HgrnInIdeal.main_arg4)
      ∧ r.2.mem ((c.tc : Thread Cert.HgrnInIdeal.nD Cert.HgrnInIdeal.τ).loc Cert.HgrnInIdeal.main_arg5) = m ((c.tc : Thread Cert.HgrnInIdeal.nD Cert.HgrnInIdeal.τ).loc Cert.HgrnInIdeal.main_arg5)
      ∧ r.2.mem ((c.tc : Thread Cert.HgrnInIdeal.nD Cert.HgrnInIdeal.τ).loc Cert.HgrnInIdeal.main_arg6) = m ((c.tc : Thread Cert.HgrnInIdeal.nD Cert.HgrnInIdeal.τ).loc Cert.HgrnInIdeal.main_arg6)
      ∧ r.2.mem ((c.tc : Thread Cert.HgrnInIdeal.nD Cert.HgrnInIdeal.τ).loc Cert.HgrnInIdeal.main_arg7) = m ((c.tc : Thread Cert.HgrnInIdeal.nD Cert.HgrnInIdeal.τ).loc Cert.HgrnInIdeal.main_arg7))
      ∧ r.2.sem = fun _ => 0)

def quiescent_HgrnInRefIdeal [hHgrnInRefIdeal : Cert.HgrnInRefIdeal.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1)
      ∧ r.2.mem ((c.tc : Thread Cert.HgrnInRefIdeal.nD Cert.HgrnInRefIdeal.τ).loc Cert.HgrnInRefIdeal.main_arg2) = m ((c.tc : Thread Cert.HgrnInRefIdeal.nD Cert.HgrnInRefIdeal.τ).loc Cert.HgrnInRefIdeal.main_arg2)
      ∧ r.2.mem ((c.tc : Thread Cert.HgrnInRefIdeal.nD Cert.HgrnInRefIdeal.τ).loc Cert.HgrnInRefIdeal.main_arg3) = m ((c.tc : Thread Cert.HgrnInRefIdeal.nD Cert.HgrnInRefIdeal.τ).loc Cert.HgrnInRefIdeal.main_arg3)
      ∧ r.2.mem ((c.tc : Thread Cert.HgrnInRefIdeal.nD Cert.HgrnInRefIdeal.τ).loc Cert.HgrnInRefIdeal.main_arg4) = m ((c.tc : Thread Cert.HgrnInRefIdeal.nD Cert.HgrnInRefIdeal.τ).loc Cert.HgrnInRefIdeal.main_arg4)
      ∧ r.2.mem ((c.tc : Thread Cert.HgrnInRefIdeal.nD Cert.HgrnInRefIdeal.τ).loc Cert.HgrnInRefIdeal.main_arg5) = m ((c.tc : Thread Cert.HgrnInRefIdeal.nD Cert.HgrnInRefIdeal.τ).loc Cert.HgrnInRefIdeal.main_arg5)
      ∧ r.2.mem ((c.tc : Thread Cert.HgrnInRefIdeal.nD Cert.HgrnInRefIdeal.τ).loc Cert.HgrnInRefIdeal.main_arg6) = m ((c.tc : Thread Cert.HgrnInRefIdeal.nD Cert.HgrnInRefIdeal.τ).loc Cert.HgrnInRefIdeal.main_arg6)
      ∧ r.2.mem ((c.tc : Thread Cert.HgrnInRefIdeal.nD Cert.HgrnInRefIdeal.τ).loc Cert.HgrnInRefIdeal.main_arg7) = m ((c.tc : Thread Cert.HgrnInRefIdeal.nD Cert.HgrnInRefIdeal.τ).loc Cert.HgrnInRefIdeal.main_arg7))
      ∧ r.2.sem = fun _ => 0)

def quiescent_QkvBwd [hQkvBwd : Cert.QkvBwd.Facts] : Prop :=
  ∀ (m : (ℓ : Loc Cert.QkvBwd.nD Cert.QkvBwd.τ Cert.QkvBwd.sig) → Buf (Elt Bits) ℓ) (g : Dev Cert.QkvBwd.nD → PrngReg), Pre_QkvBwd m →
    θ_run (Cert.QkvBwd.defs (F := Bits)) (onTc (τ := Cert.QkvBwd.τ) (Cert.QkvBwd.main (F := Bits))) ⟨m, fun _ => 0, g⟩ (fun r => (∀ c : Dev Cert.QkvBwd.nD,
      r.2.mem ((c.tc : Thread Cert.QkvBwd.nD Cert.QkvBwd.τ).loc Cert.QkvBwd.main_arg0) = m ((c.tc : Thread Cert.QkvBwd.nD Cert.QkvBwd.τ).loc Cert.QkvBwd.main_arg0)
      ∧ r.2.mem ((c.tc : Thread Cert.QkvBwd.nD Cert.QkvBwd.τ).loc Cert.QkvBwd.main_arg1) = m ((c.tc : Thread Cert.QkvBwd.nD Cert.QkvBwd.τ).loc Cert.QkvBwd.main_arg1)
      ∧ r.2.mem ((c.tc : Thread Cert.QkvBwd.nD Cert.QkvBwd.τ).loc Cert.QkvBwd.main_arg2) = m ((c.tc : Thread Cert.QkvBwd.nD Cert.QkvBwd.τ).loc Cert.QkvBwd.main_arg2)
      ∧ r.2.mem ((c.tc : Thread Cert.QkvBwd.nD Cert.QkvBwd.τ).loc Cert.QkvBwd.main_arg3) = m ((c.tc : Thread Cert.QkvBwd.nD Cert.QkvBwd.τ).loc Cert.QkvBwd.main_arg3)
      ∧ r.2.mem ((c.tc : Thread Cert.QkvBwd.nD Cert.QkvBwd.τ).loc Cert.QkvBwd.main_arg4) = m ((c.tc : Thread Cert.QkvBwd.nD Cert.QkvBwd.τ).loc Cert.QkvBwd.main_arg4))
      ∧ r.2.sem = fun _ => 0)

def quiescent_QkvBwdIdeal [hQkvBwdIdeal : Cert.QkvBwdIdeal.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg), Pre_QkvBwdIdeal m →
    θ_run (Cert.QkvBwdIdeal.defs (F := Ideal)) (onTc (τ := Cert.QkvBwdIdeal.τ) (Cert.QkvBwdIdeal.main (F := Ideal))) ⟨m, fun _ => 0, g⟩ (fun r => (∀ c : Dev Cert.QkvBwdIdeal.nD,
      r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
      ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
      ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
      ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
      ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4))
      ∧ r.2.sem = fun _ => 0)

def quiescent_QkvBwdRefIdeal [hQkvBwdRefIdeal : Cert.QkvBwdRefIdeal.Facts] : Prop :=
  ∀ (m : (ℓ : Loc Cert.QkvBwdRefIdeal.nD Cert.QkvBwdRefIdeal.τ Cert.QkvBwdRefIdeal.sig) → Buf (Elt Ideal) ℓ) (g : Dev Cert.QkvBwdRefIdeal.nD → PrngReg), Pre_QkvBwdRefIdeal m →
    θ_run (Cert.QkvBwdRefIdeal.defs (F := Ideal)) (onTc (τ := Cert.QkvBwdRefIdeal.τ) (Cert.QkvBwdRefIdeal.main (F := Ideal))) ⟨m, fun _ => 0, g⟩ (fun r => (∀ c : Dev Cert.QkvBwdRefIdeal.nD,
      r.2.mem ((c.tc : Thread Cert.QkvBwdRefIdeal.nD Cert.QkvBwdRefIdeal.τ).loc Cert.QkvBwdRefIdeal.main_arg0) = m ((c.tc : Thread Cert.QkvBwdRefIdeal.nD Cert.QkvBwdRefIdeal.τ).loc Cert.QkvBwdRefIdeal.main_arg0)
      ∧ r.2.mem ((c.tc : Thread Cert.QkvBwdRefIdeal.nD Cert.QkvBwdRefIdeal.τ).loc Cert.QkvBwdRefIdeal.main_arg1) = m ((c.tc : Thread Cert.QkvBwdRefIdeal.nD Cert.QkvBwdRefIdeal.τ).loc Cert.QkvBwdRefIdeal.main_arg1)
      ∧ r.2.mem ((c.tc : Thread Cert.QkvBwdRefIdeal.nD Cert.QkvBwdRefIdeal.τ).loc Cert.QkvBwdRefIdeal.main_arg2) = m ((c.tc : Thread Cert.QkvBwdRefIdeal.nD Cert.QkvBwdRefIdeal.τ).loc Cert.QkvBwdRefIdeal.main_arg2)
      ∧ r.2.mem ((c.tc : Thread Cert.QkvBwdRefIdeal.nD Cert.QkvBwdRefIdeal.τ).loc Cert.QkvBwdRefIdeal.main_arg3) = m ((c.tc : Thread Cert.QkvBwdRefIdeal.nD Cert.QkvBwdRefIdeal.τ).loc Cert.QkvBwdRefIdeal.main_arg3)
      ∧ r.2.mem ((c.tc : Thread Cert.QkvBwdRefIdeal.nD Cert.QkvBwdRefIdeal.τ).loc Cert.QkvBwdRefIdeal.main_arg4) = m ((c.tc : Thread Cert.QkvBwdRefIdeal.nD Cert.QkvBwdRefIdeal.τ).loc Cert.QkvBwdRefIdeal.main_arg4))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1)
      ∧ r.2.mem ((c.tc : Thread Cert.HgrnOut.nD Cert.HgrnOut.τ).loc Cert.HgrnOut.main_arg2) = m ((c.tc : Thread Cert.HgrnOut.nD Cert.HgrnOut.τ).loc Cert.HgrnOut.main_arg2)
      ∧ r.2.mem ((c.tc : Thread Cert.HgrnOut.nD Cert.HgrnOut.τ).loc Cert.HgrnOut.main_arg3) = m ((c.tc : Thread Cert.HgrnOut.nD Cert.HgrnOut.τ).loc Cert.HgrnOut.main_arg3)
      ∧ r.2.mem ((c.tc : Thread Cert.HgrnOut.nD Cert.HgrnOut.τ).loc Cert.HgrnOut.main_arg4) = m ((c.tc : Thread Cert.HgrnOut.nD Cert.HgrnOut.τ).loc Cert.HgrnOut.main_arg4))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
      ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3)
      ∧ r.2.mem ((c.tc : Thread Cert.HgrnOutIdeal.nD Cert.HgrnOutIdeal.τ).loc Cert.HgrnOutIdeal.main_arg4) = m ((c.tc : Thread Cert.HgrnOutIdeal.nD Cert.HgrnOutIdeal.τ).loc Cert.HgrnOutIdeal.main_arg4))
      ∧ r.2.sem = fun _ => 0)

def quiescent_HgrnOutRefIdeal [hHgrnOutRefIdeal : Cert.HgrnOutRefIdeal.Facts] : Prop :=
  ∀ (m : (ℓ : Loc Cert.HgrnOutRefIdeal.nD Cert.HgrnOutRefIdeal.τ Cert.HgrnOutRefIdeal.sig) → Buf (Elt Ideal) ℓ) (g : Dev Cert.HgrnOutRefIdeal.nD → PrngReg), Pre_HgrnOutRefIdeal m →
    θ_run (Cert.HgrnOutRefIdeal.defs (F := Ideal)) (onTc (τ := Cert.HgrnOutRefIdeal.τ) (Cert.HgrnOutRefIdeal.main (F := Ideal))) ⟨m, fun _ => 0, g⟩ (fun r => (∀ c : Dev Cert.HgrnOutRefIdeal.nD,
      r.2.mem ((c.tc : Thread Cert.HgrnOutRefIdeal.nD Cert.HgrnOutRefIdeal.τ).loc Cert.HgrnOutRefIdeal.main_arg0) = m ((c.tc : Thread Cert.HgrnOutRefIdeal.nD Cert.HgrnOutRefIdeal.τ).loc Cert.HgrnOutRefIdeal.main_arg0)
      ∧ r.2.mem ((c.tc : Thread Cert.HgrnOutRefIdeal.nD Cert.HgrnOutRefIdeal.τ).loc Cert.HgrnOutRefIdeal.main_arg1) = m ((c.tc : Thread Cert.HgrnOutRefIdeal.nD Cert.HgrnOutRefIdeal.τ).loc Cert.HgrnOutRefIdeal.main_arg1)
      ∧ r.2.mem ((c.tc : Thread Cert.HgrnOutRefIdeal.nD Cert.HgrnOutRefIdeal.τ).loc Cert.HgrnOutRefIdeal.main_arg2) = m ((c.tc : Thread Cert.HgrnOutRefIdeal.nD Cert.HgrnOutRefIdeal.τ).loc Cert.HgrnOutRefIdeal.main_arg2)
      ∧ r.2.mem ((c.tc : Thread Cert.HgrnOutRefIdeal.nD Cert.HgrnOutRefIdeal.τ).loc Cert.HgrnOutRefIdeal.main_arg3) = m ((c.tc : Thread Cert.HgrnOutRefIdeal.nD Cert.HgrnOutRefIdeal.τ).loc Cert.HgrnOutRefIdeal.main_arg3)
      ∧ r.2.mem ((c.tc : Thread Cert.HgrnOutRefIdeal.nD Cert.HgrnOutRefIdeal.τ).loc Cert.HgrnOutRefIdeal.main_arg4) = m ((c.tc : Thread Cert.HgrnOutRefIdeal.nD Cert.HgrnOutRefIdeal.τ).loc Cert.HgrnOutRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ r.2.sem = fun _ => 0)

def quiescent_AdamQkvRefIdeal [hAdamQkvRefIdeal : Cert.AdamQkvRefIdeal.Facts] : Prop :=
  ∀ (m : (ℓ : Loc Cert.AdamQkvRefIdeal.nD Cert.AdamQkvRefIdeal.τ Cert.AdamQkvRefIdeal.sig) → Buf (Elt Ideal) ℓ) (g : Dev Cert.AdamQkvRefIdeal.nD → PrngReg), Pre_AdamQkvRefIdeal m →
    θ_run (Cert.AdamQkvRefIdeal.defs (F := Ideal)) (onTc (τ := Cert.AdamQkvRefIdeal.τ) (Cert.AdamQkvRefIdeal.main (F := Ideal))) ⟨m, fun _ => 0, g⟩ (fun r => (∀ c : Dev Cert.AdamQkvRefIdeal.nD,
      r.2.mem ((c.tc : Thread Cert.AdamQkvRefIdeal.nD Cert.AdamQkvRefIdeal.τ).loc Cert.AdamQkvRefIdeal.main_arg0) = m ((c.tc : Thread Cert.AdamQkvRefIdeal.nD Cert.AdamQkvRefIdeal.τ).loc Cert.AdamQkvRefIdeal.main_arg0)
      ∧ r.2.mem ((c.tc : Thread Cert.AdamQkvRefIdeal.nD Cert.AdamQkvRefIdeal.τ).loc Cert.AdamQkvRefIdeal.main_arg1) = m ((c.tc : Thread Cert.AdamQkvRefIdeal.nD Cert.AdamQkvRefIdeal.τ).loc Cert.AdamQkvRefIdeal.main_arg1)
      ∧ r.2.mem ((c.tc : Thread Cert.AdamQkvRefIdeal.nD Cert.AdamQkvRefIdeal.τ).loc Cert.AdamQkvRefIdeal.main_arg2) = m ((c.tc : Thread Cert.AdamQkvRefIdeal.nD Cert.AdamQkvRefIdeal.τ).loc Cert.AdamQkvRefIdeal.main_arg2)
      ∧ r.2.mem ((c.tc : Thread Cert.AdamQkvRefIdeal.nD Cert.AdamQkvRefIdeal.τ).loc Cert.AdamQkvRefIdeal.main_arg3) = m ((c.tc : Thread Cert.AdamQkvRefIdeal.nD Cert.AdamQkvRefIdeal.τ).loc Cert.AdamQkvRefIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def preserves_Gate_GateIdeal : Prop :=
  True

def algebraic_GateIdeal_GateRefIdeal_pre_finite_cotangent [hGateIdeal : Cert.GateIdeal.Facts] [hGateRefIdeal : Cert.GateRefIdeal.Facts] [hPre_finite_cotangent : Cert.Pre_finite_cotangent.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_cotangent m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v2_0)) (v1 : (c : Dev Cert.GateIdeal.nD) → Buf (Elt Ideal) ((c.tc : Thread Cert.GateIdeal.nD Cert.GateIdeal.τ).loc Cert.GateIdeal.main_v2_1)) (v2 : (c : Dev Cert.GateIdeal.nD) → Buf (Elt Ideal) ((c.tc : Thread Cert.GateIdeal.nD Cert.GateIdeal.τ).loc Cert.GateIdeal.main_v2_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2_0) = v0 c
          ∧ r.2.mem ((c.tc : Thread Cert.GateIdeal.nD Cert.GateIdeal.τ).loc Cert.GateIdeal.main_v2_1) = v1 c
          ∧ r.2.mem ((c.tc : Thread Cert.GateIdeal.nD Cert.GateIdeal.τ).loc Cert.GateIdeal.main_v2_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v46) = v0 c
          ∧ r.2.mem ((c.tc : Thread Cert.GateRefIdeal.nD Cert.GateRefIdeal.τ).loc Cert.GateRefIdeal.main_v47) = v1 c
          ∧ r.2.mem ((c.tc : Thread Cert.GateRefIdeal.nD Cert.GateRefIdeal.τ).loc Cert.GateRefIdeal.main_v48) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v1) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v12) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_MlpIn_MlpInIdeal : Prop :=
  True

def algebraic_MlpInIdeal_MlpInRefIdeal [hMlpInIdeal : Cert.MlpInIdeal.Facts] [hMlpInRefIdeal : Cert.MlpInRefIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInRefIdeal.nD Cert.MlpInRefIdeal.τ Cert.MlpInRefIdeal.sig) → Buf (Elt Ideal) ℓ) (g' : Dev Cert.MlpInRefIdeal.nD → PrngReg), Pre_MlpInIdeal m →
    (∀ c : Dev Cert.MlpInIdeal.nD,
      m' ((c.tc : Thread Cert.MlpInRefIdeal.nD Cert.MlpInRefIdeal.τ).loc Cert.MlpInRefIdeal.main_arg0) = m ((c.tc : Thread Cert.MlpInIdeal.nD Cert.MlpInIdeal.τ).loc Cert.MlpInIdeal.main_arg0)
      ∧ m' ((c.tc : Thread Cert.MlpInRefIdeal.nD Cert.MlpInRefIdeal.τ).loc Cert.MlpInRefIdeal.main_arg1) = m ((c.tc : Thread Cert.MlpInIdeal.nD Cert.MlpInIdeal.τ).loc Cert.MlpInIdeal.main_arg1)
      ∧ m' ((c.tc : Thread Cert.MlpInRefIdeal.nD Cert.MlpInRefIdeal.τ).loc Cert.MlpInRefIdeal.main_arg2) = m ((c.tc : Thread Cert.MlpInIdeal.nD Cert.MlpInIdeal.τ).loc Cert.MlpInIdeal.main_arg2)
      ∧ m' ((c.tc : Thread Cert.MlpInRefIdeal.nD Cert.MlpInRefIdeal.τ).loc Cert.MlpInRefIdeal.main_arg3) = m ((c.tc : Thread Cert.MlpInIdeal.nD Cert.MlpInIdeal.τ).loc Cert.MlpInIdeal.main_arg3)
      ∧ m' ((c.tc : Thread Cert.MlpInRefIdeal.nD Cert.MlpInRefIdeal.τ).loc Cert.MlpInRefIdeal.main_arg4) = m ((c.tc : Thread Cert.MlpInIdeal.nD Cert.MlpInIdeal.τ).loc Cert.MlpInIdeal.main_arg4)) →
    ∃ (v0 : (c : Dev Cert.MlpInIdeal.nD) → Buf (Elt Ideal) ((c.tc : Thread Cert.MlpInIdeal.nD Cert.MlpInIdeal.τ).loc Cert.MlpInIdeal.main_v5_0)) (v1 : (c : Dev Cert.MlpInIdeal.nD) → Buf (Elt Ideal) ((c.tc : Thread Cert.MlpInIdeal.nD Cert.MlpInIdeal.τ).loc Cert.MlpInIdeal.main_v5_1)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v5_0) = v0 c
          ∧ r.2.mem ((c.tc : Thread Cert.MlpInIdeal.nD Cert.MlpInIdeal.τ).loc Cert.MlpInIdeal.main_v5_1) = v1 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
          ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2)
          ∧ r.2.mem ((c.tc : Thread Cert.MlpInIdeal.nD Cert.MlpInIdeal.τ).loc Cert.MlpInIdeal.main_arg3) = m ((c.tc : Thread Cert.MlpInIdeal.nD Cert.MlpInIdeal.τ).loc Cert.MlpInIdeal.main_arg3)
          ∧ r.2.mem ((c.tc : Thread Cert.MlpInIdeal.nD Cert.MlpInIdeal.τ).loc Cert.MlpInIdeal.main_arg4) = m ((c.tc : Thread Cert.MlpInIdeal.nD Cert.MlpInIdeal.τ).loc Cert.MlpInIdeal.main_arg4))
      ∧ θ_run (Cert.MlpInRefIdeal.defs (F := Ideal)) (onTc (τ := Cert.MlpInRefIdeal.τ) (Cert.MlpInRefIdeal.main (F := Ideal))) ⟨m', fun _ => 0, g'⟩ (fun r => ∀ c : Dev Cert.MlpInRefIdeal.nD,
          r.2.mem ((c.tc : Thread Cert.MlpInRefIdeal.nD Cert.MlpInRefIdeal.τ).loc Cert.MlpInRefIdeal.main_v38) = v0 c
          ∧ r.2.mem ((c.tc : Thread Cert.MlpInRefIdeal.nD Cert.MlpInRefIdeal.τ).loc Cert.MlpInRefIdeal.main_v39) = v1 c
          ∧ r.2.mem ((c.tc : Thread Cert.MlpInRefIdeal.nD Cert.MlpInRefIdeal.τ).loc Cert.MlpInRefIdeal.main_arg0) = m' ((c.tc : Thread Cert.MlpInRefIdeal.nD Cert.MlpInRefIdeal.τ).loc Cert.MlpInRefIdeal.main_arg0)
          ∧ r.2.mem ((c.tc : Thread Cert.MlpInRefIdeal.nD Cert.MlpInRefIdeal.τ).loc Cert.MlpInRefIdeal.main_arg1) = m' ((c.tc : Thread Cert.MlpInRefIdeal.nD Cert.MlpInRefIdeal.τ).loc Cert.MlpInRefIdeal.main_arg1)
          ∧ r.2.mem ((c.tc : Thread Cert.MlpInRefIdeal.nD Cert.MlpInRefIdeal.τ).loc Cert.MlpInRefIdeal.main_arg2) = m' ((c.tc : Thread Cert.MlpInRefIdeal.nD Cert.MlpInRefIdeal.τ).loc Cert.MlpInRefIdeal.main_arg2)
          ∧ r.2.mem ((c.tc : Thread Cert.MlpInRefIdeal.nD Cert.MlpInRefIdeal.τ).loc Cert.MlpInRefIdeal.main_arg3) = m' ((c.tc : Thread Cert.MlpInRefIdeal.nD Cert.MlpInRefIdeal.τ).loc Cert.MlpInRefIdeal.main_arg3)
          ∧ r.2.mem ((c.tc : Thread Cert.MlpInRefIdeal.nD Cert.MlpInRefIdeal.τ).loc Cert.MlpInRefIdeal.main_arg4) = m' ((c.tc : Thread Cert.MlpInRefIdeal.nD Cert.MlpInRefIdeal.τ).loc Cert.MlpInRefIdeal.main_arg4))

def preserves_Attn_AttnIdeal : Prop :=
  IdealRules.named_const.Statement Cert.AttnIdeal.κ "mask" .f32 0xF149F2CA#32 ⊥

def algebraic_AttnIdeal_AttnRefIdeal_pre_finite_attention [hAttnIdeal : Cert.AttnIdeal.Facts] [hAttnRefIdeal : Cert.AttnRefIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attention m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v75) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v13) = v0 c
          ∧ r.2.mem ((c.tc : Thread Cert.UpRefIdeal.nD Cert.UpRefIdeal.τ).loc Cert.UpRefIdeal.main_v14) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_v4) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v1)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v1) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v5) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v2)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v2) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v6) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwO_DwOIdeal : Prop :=
  True

def algebraic_DwOIdeal_DwORefIdeal [hDwOIdeal : Cert.DwOIdeal.Facts] [hDwORefIdeal : Cert.DwORefIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.DwORefIdeal.nD Cert.DwORefIdeal.τ Cert.DwORefIdeal.sig) → Buf (Elt Ideal) ℓ) (g' : Dev Cert.DwORefIdeal.nD → PrngReg), Pre_DwOIdeal m →
    (∀ c : Dev Cert.DwOIdeal.nD,
      m' ((c.tc : Thread Cert.DwORefIdeal.nD Cert.DwORefIdeal.τ).loc Cert.DwORefIdeal.main_arg0) = m ((c.tc : Thread Cert.DwOIdeal.nD Cert.DwOIdeal.τ).loc Cert.DwOIdeal.main_arg0)
      ∧ m' ((c.tc : Thread Cert.DwORefIdeal.nD Cert.DwORefIdeal.τ).loc Cert.DwORefIdeal.main_arg1) = m ((c.tc : Thread Cert.DwOIdeal.nD Cert.DwOIdeal.τ).loc Cert.DwOIdeal.main_arg1)) →
    ∃ (v0 : (c : Dev Cert.DwOIdeal.nD) → Buf (Elt Ideal) ((c.tc : Thread Cert.DwOIdeal.nD Cert.DwOIdeal.τ).loc Cert.DwOIdeal.main_v1)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v1) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ θ_run (Cert.DwORefIdeal.defs (F := Ideal)) (onTc (τ := Cert.DwORefIdeal.τ) (Cert.DwORefIdeal.main (F := Ideal))) ⟨m', fun _ => 0, g'⟩ (fun r => ∀ c : Dev Cert.DwORefIdeal.nD,
          r.2.mem ((c.tc : Thread Cert.DwORefIdeal.nD Cert.DwORefIdeal.τ).loc Cert.DwORefIdeal.main_v5) = v0 c
          ∧ r.2.mem ((c.tc : Thread Cert.DwORefIdeal.nD Cert.DwORefIdeal.τ).loc Cert.DwORefIdeal.main_arg0) = m' ((c.tc : Thread Cert.DwORefIdeal.nD Cert.DwORefIdeal.τ).loc Cert.DwORefIdeal.main_arg0)
          ∧ r.2.mem ((c.tc : Thread Cert.DwORefIdeal.nD Cert.DwORefIdeal.τ).loc Cert.DwORefIdeal.main_arg1) = m' ((c.tc : Thread Cert.DwORefIdeal.nD Cert.DwORefIdeal.τ).loc Cert.DwORefIdeal.main_arg1))

def preserves_HgrnIn_HgrnInIdeal : Prop :=
  True

def algebraic_HgrnInIdeal_HgrnInRefIdeal [hHgrnInIdeal : Cert.HgrnInIdeal.Facts] [hHgrnInRefIdeal : Cert.HgrnInRefIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)
      ∧ m' ((c.tc : Thread Cert.HgrnInRefIdeal.nD Cert.HgrnInRefIdeal.τ).loc Cert.HgrnInRefIdeal.main_arg2) = m ((c.tc : Thread Cert.HgrnInIdeal.nD Cert.HgrnInIdeal.τ).loc Cert.HgrnInIdeal.main_arg2)
      ∧ m' ((c.tc : Thread Cert.HgrnInRefIdeal.nD Cert.HgrnInRefIdeal.τ).loc Cert.HgrnInRefIdeal.main_arg3) = m ((c.tc : Thread Cert.HgrnInIdeal.nD Cert.HgrnInIdeal.τ).loc Cert.HgrnInIdeal.main_arg3)
      ∧ m' ((c.tc : Thread Cert.HgrnInRefIdeal.nD Cert.HgrnInRefIdeal.τ).loc Cert.HgrnInRefIdeal.main_arg4) = m ((c.tc : Thread Cert.HgrnInIdeal.nD Cert.HgrnInIdeal.τ).loc Cert.HgrnInIdeal.main_arg4)
      ∧ m' ((c.tc : Thread Cert.HgrnInRefIdeal.nD Cert.HgrnInRefIdeal.τ).loc Cert.HgrnInRefIdeal.main_arg5) = m ((c.tc : Thread Cert.HgrnInIdeal.nD Cert.HgrnInIdeal.τ).loc Cert.HgrnInIdeal.main_arg5)
      ∧ m' ((c.tc : Thread Cert.HgrnInRefIdeal.nD Cert.HgrnInRefIdeal.τ).loc Cert.HgrnInRefIdeal.main_arg6) = m ((c.tc : Thread Cert.HgrnInIdeal.nD Cert.HgrnInIdeal.τ).loc Cert.HgrnInIdeal.main_arg6)
      ∧ m' ((c.tc : Thread Cert.HgrnInRefIdeal.nD Cert.HgrnInRefIdeal.τ).loc Cert.HgrnInRefIdeal.main_arg7) = m ((c.tc : Thread Cert.HgrnInIdeal.nD Cert.HgrnInIdeal.τ).loc Cert.HgrnInIdeal.main_arg7)) →
    ∃ (v0 : (c : Dev Cert.HgrnInIdeal.nD) → Buf (Elt Ideal) ((c.tc : Thread Cert.HgrnInIdeal.nD Cert.HgrnInIdeal.τ).loc Cert.HgrnInIdeal.main_v8_0)) (v1 : (c : Dev Cert.HgrnInIdeal.nD) → Buf (Elt Ideal) ((c.tc : Thread Cert.HgrnInIdeal.nD Cert.HgrnInIdeal.τ).loc Cert.HgrnInIdeal.main_v8_1)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v8_0) = v0 c
          ∧ r.2.mem ((c.tc : Thread Cert.HgrnInIdeal.nD Cert.HgrnInIdeal.τ).loc Cert.HgrnInIdeal.main_v8_1) = v1 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
          ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2)
          ∧ r.2.mem ((c.tc : Thread Cert.HgrnInIdeal.nD Cert.HgrnInIdeal.τ).loc Cert.HgrnInIdeal.main_arg3) = m ((c.tc : Thread Cert.HgrnInIdeal.nD Cert.HgrnInIdeal.τ).loc Cert.HgrnInIdeal.main_arg3)
          ∧ r.2.mem ((c.tc : Thread Cert.HgrnInIdeal.nD Cert.HgrnInIdeal.τ).loc Cert.HgrnInIdeal.main_arg4) = m ((c.tc : Thread Cert.HgrnInIdeal.nD Cert.HgrnInIdeal.τ).loc Cert.HgrnInIdeal.main_arg4)
          ∧ r.2.mem ((c.tc : Thread Cert.HgrnInIdeal.nD Cert.HgrnInIdeal.τ).loc Cert.HgrnInIdeal.main_arg5) = m ((c.tc : Thread Cert.HgrnInIdeal.nD Cert.HgrnInIdeal.τ).loc Cert.HgrnInIdeal.main_arg5)
          ∧ r.2.mem ((c.tc : Thread Cert.HgrnInIdeal.nD Cert.HgrnInIdeal.τ).loc Cert.HgrnInIdeal.main_arg6) = m ((c.tc : Thread Cert.HgrnInIdeal.nD Cert.HgrnInIdeal.τ).loc Cert.HgrnInIdeal.main_arg6)
          ∧ r.2.mem ((c.tc : Thread Cert.HgrnInIdeal.nD Cert.HgrnInIdeal.τ).loc Cert.HgrnInIdeal.main_arg7) = m ((c.tc : Thread Cert.HgrnInIdeal.nD Cert.HgrnInIdeal.τ).loc Cert.HgrnInIdeal.main_arg7))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v43) = v0 c
          ∧ r.2.mem ((c.tc : Thread Cert.HgrnInRefIdeal.nD Cert.HgrnInRefIdeal.τ).loc Cert.HgrnInRefIdeal.main_v44) = v1 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1)
          ∧ r.2.mem ((c.tc : Thread Cert.HgrnInRefIdeal.nD Cert.HgrnInRefIdeal.τ).loc Cert.HgrnInRefIdeal.main_arg2) = m' ((c.tc : Thread Cert.HgrnInRefIdeal.nD Cert.HgrnInRefIdeal.τ).loc Cert.HgrnInRefIdeal.main_arg2)
          ∧ r.2.mem ((c.tc : Thread Cert.HgrnInRefIdeal.nD Cert.HgrnInRefIdeal.τ).loc Cert.HgrnInRefIdeal.main_arg3) = m' ((c.tc : Thread Cert.HgrnInRefIdeal.nD Cert.HgrnInRefIdeal.τ).loc Cert.HgrnInRefIdeal.main_arg3)
          ∧ r.2.mem ((c.tc : Thread Cert.HgrnInRefIdeal.nD Cert.HgrnInRefIdeal.τ).loc Cert.HgrnInRefIdeal.main_arg4) = m' ((c.tc : Thread Cert.HgrnInRefIdeal.nD Cert.HgrnInRefIdeal.τ).loc Cert.HgrnInRefIdeal.main_arg4)
          ∧ r.2.mem ((c.tc : Thread Cert.HgrnInRefIdeal.nD Cert.HgrnInRefIdeal.τ).loc Cert.HgrnInRefIdeal.main_arg5) = m' ((c.tc : Thread Cert.HgrnInRefIdeal.nD Cert.HgrnInRefIdeal.τ).loc Cert.HgrnInRefIdeal.main_arg5)
          ∧ r.2.mem ((c.tc : Thread Cert.HgrnInRefIdeal.nD Cert.HgrnInRefIdeal.τ).loc Cert.HgrnInRefIdeal.main_arg6) = m' ((c.tc : Thread Cert.HgrnInRefIdeal.nD Cert.HgrnInRefIdeal.τ).loc Cert.HgrnInRefIdeal.main_arg6)
          ∧ r.2.mem ((c.tc : Thread Cert.HgrnInRefIdeal.nD Cert.HgrnInRefIdeal.τ).loc Cert.HgrnInRefIdeal.main_arg7) = m' ((c.tc : Thread Cert.HgrnInRefIdeal.nD Cert.HgrnInRefIdeal.τ).loc Cert.HgrnInRefIdeal.main_arg7))

def preserves_QkvBwd_QkvBwdIdeal : Prop :=
  True

def algebraic_QkvBwdIdeal_QkvBwdRefIdeal [hQkvBwdIdeal : Cert.QkvBwdIdeal.Facts] [hQkvBwdRefIdeal : Cert.QkvBwdRefIdeal.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg)
    (m' : (ℓ : Loc Cert.QkvBwdRefIdeal.nD Cert.QkvBwdRefIdeal.τ Cert.QkvBwdRefIdeal.sig) → Buf (Elt Ideal) ℓ) (g' : Dev Cert.QkvBwdRefIdeal.nD → PrngReg), Pre_QkvBwdIdeal m →
    (∀ c : Dev Cert.QkvBwdIdeal.nD,
      m' ((c.tc : Thread Cert.QkvBwdRefIdeal.nD Cert.QkvBwdRefIdeal.τ).loc Cert.QkvBwdRefIdeal.main_arg0) = m ((c.tc : Thread Cert.QkvBwdIdeal.nD Cert.QkvBwdIdeal.τ).loc Cert.QkvBwdIdeal.main_arg0)
      ∧ m' ((c.tc : Thread Cert.QkvBwdRefIdeal.nD Cert.QkvBwdRefIdeal.τ).loc Cert.QkvBwdRefIdeal.main_arg1) = m ((c.tc : Thread Cert.QkvBwdIdeal.nD Cert.QkvBwdIdeal.τ).loc Cert.QkvBwdIdeal.main_arg1)
      ∧ m' ((c.tc : Thread Cert.QkvBwdRefIdeal.nD Cert.QkvBwdRefIdeal.τ).loc Cert.QkvBwdRefIdeal.main_arg2) = m ((c.tc : Thread Cert.QkvBwdIdeal.nD Cert.QkvBwdIdeal.τ).loc Cert.QkvBwdIdeal.main_arg2)
      ∧ m' ((c.tc : Thread Cert.QkvBwdRefIdeal.nD Cert.QkvBwdRefIdeal.τ).loc Cert.QkvBwdRefIdeal.main_arg3) = m ((c.tc : Thread Cert.QkvBwdIdeal.nD Cert.QkvBwdIdeal.τ).loc Cert.QkvBwdIdeal.main_arg3)
      ∧ m' ((c.tc : Thread Cert.QkvBwdRefIdeal.nD Cert.QkvBwdRefIdeal.τ).loc Cert.QkvBwdRefIdeal.main_arg4) = m ((c.tc : Thread Cert.QkvBwdIdeal.nD Cert.QkvBwdIdeal.τ).loc Cert.QkvBwdIdeal.main_arg4)) →
    ∃ (v0 : (c : Dev Cert.QkvBwdIdeal.nD) → Buf (Elt Ideal) ((c.tc : Thread Cert.QkvBwdIdeal.nD Cert.QkvBwdIdeal.τ).loc Cert.QkvBwdIdeal.main_v3_0)) (v1 : (c : Dev Cert.QkvBwdIdeal.nD) → Buf (Elt Ideal) ((c.tc : Thread Cert.QkvBwdIdeal.nD Cert.QkvBwdIdeal.τ).loc Cert.QkvBwdIdeal.main_v3_1)) (v2 : (c : Dev Cert.QkvBwdIdeal.nD) → Buf (Elt Ideal) ((c.tc : Thread Cert.QkvBwdIdeal.nD Cert.QkvBwdIdeal.τ).loc Cert.QkvBwdIdeal.main_v3_2)),
      θ_run (Cert.QkvBwdIdeal.defs (F := Ideal)) (onTc (τ := Cert.QkvBwdIdeal.τ) (Cert.QkvBwdIdeal.main (F := Ideal))) ⟨m, fun _ => 0, g⟩ (fun r => ∀ c : Dev Cert.QkvBwdIdeal.nD,
          r.2.mem ((c.tc : Thread Cert.QkvBwdIdeal.nD Cert.QkvBwdIdeal.τ).loc Cert.QkvBwdIdeal.main_v3_0) = v0 c
          ∧ r.2.mem ((c.tc : Thread Cert.QkvBwdIdeal.nD Cert.QkvBwdIdeal.τ).loc Cert.QkvBwdIdeal.main_v3_1) = v1 c
          ∧ r.2.mem ((c.tc : Thread Cert.QkvBwdIdeal.nD Cert.QkvBwdIdeal.τ).loc Cert.QkvBwdIdeal.main_v3_2) = v2 c
          ∧ r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
          ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
          ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
          ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
          ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4))
      ∧ θ_run (Cert.QkvBwdRefIdeal.defs (F := Ideal)) (onTc (τ := Cert.QkvBwdRefIdeal.τ) (Cert.QkvBwdRefIdeal.main (F := Ideal))) ⟨m', fun _ => 0, g'⟩ (fun r => ∀ c : Dev Cert.QkvBwdRefIdeal.nD,
          r.2.mem ((c.tc : Thread Cert.QkvBwdRefIdeal.nD Cert.QkvBwdRefIdeal.τ).loc Cert.QkvBwdRefIdeal.main_v44) = v0 c
          ∧ r.2.mem ((c.tc : Thread Cert.QkvBwdRefIdeal.nD Cert.QkvBwdRefIdeal.τ).loc Cert.QkvBwdRefIdeal.main_v45) = v1 c
          ∧ r.2.mem ((c.tc : Thread Cert.QkvBwdRefIdeal.nD Cert.QkvBwdRefIdeal.τ).loc Cert.QkvBwdRefIdeal.main_v24) = v2 c
          ∧ r.2.mem ((c.tc : Thread Cert.QkvBwdRefIdeal.nD Cert.QkvBwdRefIdeal.τ).loc Cert.QkvBwdRefIdeal.main_arg0) = m' ((c.tc : Thread Cert.QkvBwdRefIdeal.nD Cert.QkvBwdRefIdeal.τ).loc Cert.QkvBwdRefIdeal.main_arg0)
          ∧ r.2.mem ((c.tc : Thread Cert.QkvBwdRefIdeal.nD Cert.QkvBwdRefIdeal.τ).loc Cert.QkvBwdRefIdeal.main_arg1) = m' ((c.tc : Thread Cert.QkvBwdRefIdeal.nD Cert.QkvBwdRefIdeal.τ).loc Cert.QkvBwdRefIdeal.main_arg1)
          ∧ r.2.mem ((c.tc : Thread Cert.QkvBwdRefIdeal.nD Cert.QkvBwdRefIdeal.τ).loc Cert.QkvBwdRefIdeal.main_arg2) = m' ((c.tc : Thread Cert.QkvBwdRefIdeal.nD Cert.QkvBwdRefIdeal.τ).loc Cert.QkvBwdRefIdeal.main_arg2)
          ∧ r.2.mem ((c.tc : Thread Cert.QkvBwdRefIdeal.nD Cert.QkvBwdRefIdeal.τ).loc Cert.QkvBwdRefIdeal.main_arg3) = m' ((c.tc : Thread Cert.QkvBwdRefIdeal.nD Cert.QkvBwdRefIdeal.τ).loc Cert.QkvBwdRefIdeal.main_arg3)
          ∧ r.2.mem ((c.tc : Thread Cert.QkvBwdRefIdeal.nD Cert.QkvBwdRefIdeal.τ).loc Cert.QkvBwdRefIdeal.main_arg4) = m' ((c.tc : Thread Cert.QkvBwdRefIdeal.nD Cert.QkvBwdRefIdeal.τ).loc Cert.QkvBwdRefIdeal.main_arg4))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v1)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v1) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v3) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_HgrnOut_HgrnOutIdeal : Prop :=
  True

def algebraic_HgrnOutIdeal_HgrnOutRefIdeal [hHgrnOutIdeal : Cert.HgrnOutIdeal.Facts] [hHgrnOutRefIdeal : Cert.HgrnOutRefIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.HgrnOutRefIdeal.nD Cert.HgrnOutRefIdeal.τ Cert.HgrnOutRefIdeal.sig) → Buf (Elt Ideal) ℓ) (g' : Dev Cert.HgrnOutRefIdeal.nD → PrngReg), Pre_HgrnOutIdeal m →
    (∀ c : Dev Cert.HgrnOutIdeal.nD,
      m' ((c.tc : Thread Cert.HgrnOutRefIdeal.nD Cert.HgrnOutRefIdeal.τ).loc Cert.HgrnOutRefIdeal.main_arg0) = m ((c.tc : Thread Cert.HgrnOutIdeal.nD Cert.HgrnOutIdeal.τ).loc Cert.HgrnOutIdeal.main_arg0)
      ∧ m' ((c.tc : Thread Cert.HgrnOutRefIdeal.nD Cert.HgrnOutRefIdeal.τ).loc Cert.HgrnOutRefIdeal.main_arg1) = m ((c.tc : Thread Cert.HgrnOutIdeal.nD Cert.HgrnOutIdeal.τ).loc Cert.HgrnOutIdeal.main_arg1)
      ∧ m' ((c.tc : Thread Cert.HgrnOutRefIdeal.nD Cert.HgrnOutRefIdeal.τ).loc Cert.HgrnOutRefIdeal.main_arg2) = m ((c.tc : Thread Cert.HgrnOutIdeal.nD Cert.HgrnOutIdeal.τ).loc Cert.HgrnOutIdeal.main_arg2)
      ∧ m' ((c.tc : Thread Cert.HgrnOutRefIdeal.nD Cert.HgrnOutRefIdeal.τ).loc Cert.HgrnOutRefIdeal.main_arg3) = m ((c.tc : Thread Cert.HgrnOutIdeal.nD Cert.HgrnOutIdeal.τ).loc Cert.HgrnOutIdeal.main_arg3)
      ∧ m' ((c.tc : Thread Cert.HgrnOutRefIdeal.nD Cert.HgrnOutRefIdeal.τ).loc Cert.HgrnOutRefIdeal.main_arg4) = m ((c.tc : Thread Cert.HgrnOutIdeal.nD Cert.HgrnOutIdeal.τ).loc Cert.HgrnOutIdeal.main_arg4)) →
    ∃ (v0 : (c : Dev Cert.HgrnOutIdeal.nD) → Buf (Elt Ideal) ((c.tc : Thread Cert.HgrnOutIdeal.nD Cert.HgrnOutIdeal.τ).loc Cert.HgrnOutIdeal.main_v2_0)) (v1 : (c : Dev Cert.HgrnOutIdeal.nD) → Buf (Elt Ideal) ((c.tc : Thread Cert.HgrnOutIdeal.nD Cert.HgrnOutIdeal.τ).loc Cert.HgrnOutIdeal.main_v2_1)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v2_0) = v0 c
          ∧ r.2.mem ((c.tc : Thread Cert.HgrnOutIdeal.nD Cert.HgrnOutIdeal.τ).loc Cert.HgrnOutIdeal.main_v2_1) = v1 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
          ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
          ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3)
          ∧ r.2.mem ((c.tc : Thread Cert.HgrnOutIdeal.nD Cert.HgrnOutIdeal.τ).loc Cert.HgrnOutIdeal.main_arg4) = m ((c.tc : Thread Cert.HgrnOutIdeal.nD Cert.HgrnOutIdeal.τ).loc Cert.HgrnOutIdeal.main_arg4))
      ∧ θ_run (Cert.HgrnOutRefIdeal.defs (F := Ideal)) (onTc (τ := Cert.HgrnOutRefIdeal.τ) (Cert.HgrnOutRefIdeal.main (F := Ideal))) ⟨m', fun _ => 0, g'⟩ (fun r => ∀ c : Dev Cert.HgrnOutRefIdeal.nD,
          r.2.mem ((c.tc : Thread Cert.HgrnOutRefIdeal.nD Cert.HgrnOutRefIdeal.τ).loc Cert.HgrnOutRefIdeal.main_v20) = v0 c
          ∧ r.2.mem ((c.tc : Thread Cert.HgrnOutRefIdeal.nD Cert.HgrnOutRefIdeal.τ).loc Cert.HgrnOutRefIdeal.main_v21) = v1 c
          ∧ r.2.mem ((c.tc : Thread Cert.HgrnOutRefIdeal.nD Cert.HgrnOutRefIdeal.τ).loc Cert.HgrnOutRefIdeal.main_arg0) = m' ((c.tc : Thread Cert.HgrnOutRefIdeal.nD Cert.HgrnOutRefIdeal.τ).loc Cert.HgrnOutRefIdeal.main_arg0)
          ∧ r.2.mem ((c.tc : Thread Cert.HgrnOutRefIdeal.nD Cert.HgrnOutRefIdeal.τ).loc Cert.HgrnOutRefIdeal.main_arg1) = m' ((c.tc : Thread Cert.HgrnOutRefIdeal.nD Cert.HgrnOutRefIdeal.τ).loc Cert.HgrnOutRefIdeal.main_arg1)
          ∧ r.2.mem ((c.tc : Thread Cert.HgrnOutRefIdeal.nD Cert.HgrnOutRefIdeal.τ).loc Cert.HgrnOutRefIdeal.main_arg2) = m' ((c.tc : Thread Cert.HgrnOutRefIdeal.nD Cert.HgrnOutRefIdeal.τ).loc Cert.HgrnOutRefIdeal.main_arg2)
          ∧ r.2.mem ((c.tc : Thread Cert.HgrnOutRefIdeal.nD Cert.HgrnOutRefIdeal.τ).loc Cert.HgrnOutRefIdeal.main_arg3) = m' ((c.tc : Thread Cert.HgrnOutRefIdeal.nD Cert.HgrnOutRefIdeal.τ).loc Cert.HgrnOutRefIdeal.main_arg3)
          ∧ r.2.mem ((c.tc : Thread Cert.HgrnOutRefIdeal.nD Cert.HgrnOutRefIdeal.τ).loc Cert.HgrnOutRefIdeal.main_arg4) = m' ((c.tc : Thread Cert.HgrnOutRefIdeal.nD Cert.HgrnOutRefIdeal.τ).loc Cert.HgrnOutRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v55) = v1 c
          ∧ r.2.mem ((c.tc : Thread Cert.LossRefIdeal.nD Cert.LossRefIdeal.τ).loc Cert.LossRefIdeal.main_v56) = v2 c
          ∧ r.2.mem ((c.tc : Thread Cert.LossRefIdeal.nD Cert.LossRefIdeal.τ).loc Cert.LossRefIdeal.main_v57) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)) →
    ∃ (v0 : (c : Dev Cert.DwQkvIdeal.nD) → Buf (Elt Ideal) ((c.tc : Thread Cert.DwQkvIdeal.nD Cert.DwQkvIdeal.τ).loc Cert.DwQkvIdeal.main_v2)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v2) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v3) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v58_0)) (v1 : (c : Dev Cert.QkvIdeal.nD) → Buf (Elt Ideal) ((c.tc : Thread Cert.QkvIdeal.nD Cert.QkvIdeal.τ).loc Cert.QkvIdeal.main_v58_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v58_0) = v0 c
          ∧ r.2.mem ((c.tc : Thread Cert.QkvIdeal.nD Cert.QkvIdeal.τ).loc Cert.QkvIdeal.main_v58_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v71) = v0 c
          ∧ r.2.mem ((c.tc : Thread Cert.QkvRefIdeal.nD Cert.QkvRefIdeal.τ).loc Cert.QkvRefIdeal.main_v72) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_AdamQkv_AdamQkvIdeal : Prop :=
  True

def algebraic_AdamQkvIdeal_AdamQkvRefIdeal [hAdamQkvIdeal : Cert.AdamQkvIdeal.Facts] [hAdamQkvRefIdeal : Cert.AdamQkvRefIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvRefIdeal.nD Cert.AdamQkvRefIdeal.τ Cert.AdamQkvRefIdeal.sig) → Buf (Elt Ideal) ℓ) (g' : Dev Cert.AdamQkvRefIdeal.nD → PrngReg), Pre_AdamQkvIdeal m →
    (∀ c : Dev Cert.AdamQkvIdeal.nD,
      m' ((c.tc : Thread Cert.AdamQkvRefIdeal.nD Cert.AdamQkvRefIdeal.τ).loc Cert.AdamQkvRefIdeal.main_arg0) = m ((c.tc : Thread Cert.AdamQkvIdeal.nD Cert.AdamQkvIdeal.τ).loc Cert.AdamQkvIdeal.main_arg0)
      ∧ m' ((c.tc : Thread Cert.AdamQkvRefIdeal.nD Cert.AdamQkvRefIdeal.τ).loc Cert.AdamQkvRefIdeal.main_arg1) = m ((c.tc : Thread Cert.AdamQkvIdeal.nD Cert.AdamQkvIdeal.τ).loc Cert.AdamQkvIdeal.main_arg1)
      ∧ m' ((c.tc : Thread Cert.AdamQkvRefIdeal.nD Cert.AdamQkvRefIdeal.τ).loc Cert.AdamQkvRefIdeal.main_arg2) = m ((c.tc : Thread Cert.AdamQkvIdeal.nD Cert.AdamQkvIdeal.τ).loc Cert.AdamQkvIdeal.main_arg2)
      ∧ m' ((c.tc : Thread Cert.AdamQkvRefIdeal.nD Cert.AdamQkvRefIdeal.τ).loc Cert.AdamQkvRefIdeal.main_arg3) = m ((c.tc : Thread Cert.AdamQkvIdeal.nD Cert.AdamQkvIdeal.τ).loc Cert.AdamQkvIdeal.main_arg3)) →
    ∃ (v0 : (c : Dev Cert.AdamQkvIdeal.nD) → Buf (Elt Ideal) ((c.tc : Thread Cert.AdamQkvIdeal.nD Cert.AdamQkvIdeal.τ).loc Cert.AdamQkvIdeal.main_v1_0)) (v1 : (c : Dev Cert.AdamQkvIdeal.nD) → Buf (Elt Ideal) ((c.tc : Thread Cert.AdamQkvIdeal.nD Cert.AdamQkvIdeal.τ).loc Cert.AdamQkvIdeal.main_v1_1)) (v2 : (c : Dev Cert.AdamQkvIdeal.nD) → Buf (Elt Ideal) ((c.tc : Thread Cert.AdamQkvIdeal.nD Cert.AdamQkvIdeal.τ).loc Cert.AdamQkvIdeal.main_v1_2)) (v3 : (c : Dev Cert.AdamQkvIdeal.nD) → Buf (Elt Ideal) ((c.tc : Thread Cert.AdamQkvIdeal.nD Cert.AdamQkvIdeal.τ).loc Cert.AdamQkvIdeal.main_v1_3)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v1_0) = v0 c
          ∧ r.2.mem ((c.tc : Thread Cert.AdamQkvIdeal.nD Cert.AdamQkvIdeal.τ).loc Cert.AdamQkvIdeal.main_v1_1) = v1 c
          ∧ r.2.mem ((c.tc : Thread Cert.AdamQkvIdeal.nD Cert.AdamQkvIdeal.τ).loc Cert.AdamQkvIdeal.main_v1_2) = v2 c
          ∧ r.2.mem ((c.tc : Thread Cert.AdamQkvIdeal.nD Cert.AdamQkvIdeal.τ).loc Cert.AdamQkvIdeal.main_v1_3) = v3 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ θ_run (Cert.AdamQkvRefIdeal.defs (F := Ideal)) (onTc (τ := Cert.AdamQkvRefIdeal.τ) (Cert.AdamQkvRefIdeal.main (F := Ideal))) ⟨m', fun _ => 0, g'⟩ (fun r => ∀ c : Dev Cert.AdamQkvRefIdeal.nD,
          r.2.mem ((c.tc : Thread Cert.AdamQkvRefIdeal.nD Cert.AdamQkvRefIdeal.τ).loc Cert.AdamQkvRefIdeal.main_v1) = v0 c
          ∧ r.2.mem ((c.tc : Thread Cert.AdamQkvRefIdeal.nD Cert.AdamQkvRefIdeal.τ).loc Cert.AdamQkvRefIdeal.main_v25) = v1 c
          ∧ r.2.mem ((c.tc : Thread Cert.AdamQkvRefIdeal.nD Cert.AdamQkvRefIdeal.τ).loc Cert.AdamQkvRefIdeal.main_v6) = v2 c
          ∧ r.2.mem ((c.tc : Thread Cert.AdamQkvRefIdeal.nD Cert.AdamQkvRefIdeal.τ).loc Cert.AdamQkvRefIdeal.main_v12) = v3 c
          ∧ r.2.mem ((c.tc : Thread Cert.AdamQkvRefIdeal.nD Cert.AdamQkvRefIdeal.τ).loc Cert.AdamQkvRefIdeal.main_arg0) = m' ((c.tc : Thread Cert.AdamQkvRefIdeal.nD Cert.AdamQkvRefIdeal.τ).loc Cert.AdamQkvRefIdeal.main_arg0)
          ∧ r.2.mem ((c.tc : Thread Cert.AdamQkvRefIdeal.nD Cert.AdamQkvRefIdeal.τ).loc Cert.AdamQkvRefIdeal.main_arg1) = m' ((c.tc : Thread Cert.AdamQkvRefIdeal.nD Cert.AdamQkvRefIdeal.τ).loc Cert.AdamQkvRefIdeal.main_arg1)
          ∧ r.2.mem ((c.tc : Thread Cert.AdamQkvRefIdeal.nD Cert.AdamQkvRefIdeal.τ).loc Cert.AdamQkvRefIdeal.main_arg2) = m' ((c.tc : Thread Cert.AdamQkvRefIdeal.nD Cert.AdamQkvRefIdeal.τ).loc Cert.AdamQkvRefIdeal.main_arg2)
          ∧ r.2.mem ((c.tc : Thread Cert.AdamQkvRefIdeal.nD Cert.AdamQkvRefIdeal.τ).loc Cert.AdamQkvRefIdeal.main_arg3) = m' ((c.tc : Thread Cert.AdamQkvRefIdeal.nD Cert.AdamQkvRefIdeal.τ).loc Cert.AdamQkvRefIdeal.main_arg3))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)) →
    ∃ (v0 : (c : Dev Cert.AdamOIdeal.nD) → Buf (Elt Ideal) ((c.tc : Thread Cert.AdamOIdeal.nD Cert.AdamOIdeal.τ).loc Cert.AdamOIdeal.main_v1_0)) (v1 : (c : Dev Cert.AdamOIdeal.nD) → Buf (Elt Ideal) ((c.tc : Thread Cert.AdamOIdeal.nD Cert.AdamOIdeal.τ).loc Cert.AdamOIdeal.main_v1_1)) (v2 : (c : Dev Cert.AdamOIdeal.nD) → Buf (Elt Ideal) ((c.tc : Thread Cert.AdamOIdeal.nD Cert.AdamOIdeal.τ).loc Cert.AdamOIdeal.main_v1_2)) (v3 : (c : Dev Cert.AdamOIdeal.nD) → Buf (Elt Ideal) ((c.tc : Thread Cert.AdamOIdeal.nD Cert.AdamOIdeal.τ).loc Cert.AdamOIdeal.main_v1_3)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v1_0) = v0 c
          ∧ r.2.mem ((c.tc : Thread Cert.AdamOIdeal.nD Cert.AdamOIdeal.τ).loc Cert.AdamOIdeal.main_v1_1) = v1 c
          ∧ r.2.mem ((c.tc : Thread Cert.AdamOIdeal.nD Cert.AdamOIdeal.τ).loc Cert.AdamOIdeal.main_v1_2) = v2 c
          ∧ r.2.mem ((c.tc : Thread Cert.AdamOIdeal.nD Cert.AdamOIdeal.τ).loc Cert.AdamOIdeal.main_v1_3) = v3 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v1) = v0 c
          ∧ r.2.mem ((c.tc : Thread Cert.AdamORefIdeal.nD Cert.AdamORefIdeal.τ).loc Cert.AdamORefIdeal.main_v25) = v1 c
          ∧ r.2.mem ((c.tc : Thread Cert.AdamORefIdeal.nD Cert.AdamORefIdeal.τ).loc Cert.AdamORefIdeal.main_v6) = v2 c
          ∧ r.2.mem ((c.tc : Thread Cert.AdamORefIdeal.nD Cert.AdamORefIdeal.τ).loc Cert.AdamORefIdeal.main_v12) = v3 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v2_0)) (v1 : (c : Dev Cert.AdamUpIdeal.nD) → Buf (Elt Ideal) ((c.tc : Thread Cert.AdamUpIdeal.nD Cert.AdamUpIdeal.τ).loc Cert.AdamUpIdeal.main_v2_1)) (v2 : (c : Dev Cert.AdamUpIdeal.nD) → Buf (Elt Ideal) ((c.tc : Thread Cert.AdamUpIdeal.nD Cert.AdamUpIdeal.τ).loc Cert.AdamUpIdeal.main_v2_2)) (v3 : (c : Dev Cert.AdamUpIdeal.nD) → Buf (Elt Ideal) ((c.tc : Thread Cert.AdamUpIdeal.nD Cert.AdamUpIdeal.τ).loc Cert.AdamUpIdeal.main_v2_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v2_0) = v0 c
          ∧ r.2.mem ((c.tc : Thread Cert.AdamUpIdeal.nD Cert.AdamUpIdeal.τ).loc Cert.AdamUpIdeal.main_v2_1) = v1 c
          ∧ r.2.mem ((c.tc : Thread Cert.AdamUpIdeal.nD Cert.AdamUpIdeal.τ).loc Cert.AdamUpIdeal.main_v2_2) = v2 c
          ∧ r.2.mem ((c.tc : Thread Cert.AdamUpIdeal.nD Cert.AdamUpIdeal.τ).loc Cert.AdamUpIdeal.main_v2_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v4) = v0 c
          ∧ r.2.mem ((c.tc : Thread Cert.AdamUpRefIdeal.nD Cert.AdamUpRefIdeal.τ).loc Cert.AdamUpRefIdeal.main_v28) = v1 c
          ∧ r.2.mem ((c.tc : Thread Cert.AdamUpRefIdeal.nD Cert.AdamUpRefIdeal.τ).loc Cert.AdamUpRefIdeal.main_v9) = v2 c
          ∧ r.2.mem ((c.tc : Thread Cert.AdamUpRefIdeal.nD Cert.AdamUpRefIdeal.τ).loc Cert.AdamUpRefIdeal.main_v15) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v2_0)) (v1 : (c : Dev Cert.AdamDownIdeal.nD) → Buf (Elt Ideal) ((c.tc : Thread Cert.AdamDownIdeal.nD Cert.AdamDownIdeal.τ).loc Cert.AdamDownIdeal.main_v2_1)) (v2 : (c : Dev Cert.AdamDownIdeal.nD) → Buf (Elt Ideal) ((c.tc : Thread Cert.AdamDownIdeal.nD Cert.AdamDownIdeal.τ).loc Cert.AdamDownIdeal.main_v2_2)) (v3 : (c : Dev Cert.AdamDownIdeal.nD) → Buf (Elt Ideal) ((c.tc : Thread Cert.AdamDownIdeal.nD Cert.AdamDownIdeal.τ).loc Cert.AdamDownIdeal.main_v2_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v2_0) = v0 c
          ∧ r.2.mem ((c.tc : Thread Cert.AdamDownIdeal.nD Cert.AdamDownIdeal.τ).loc Cert.AdamDownIdeal.main_v2_1) = v1 c
          ∧ r.2.mem ((c.tc : Thread Cert.AdamDownIdeal.nD Cert.AdamDownIdeal.τ).loc Cert.AdamDownIdeal.main_v2_2) = v2 c
          ∧ r.2.mem ((c.tc : Thread Cert.AdamDownIdeal.nD Cert.AdamDownIdeal.τ).loc Cert.AdamDownIdeal.main_v2_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v4) = v0 c
          ∧ r.2.mem ((c.tc : Thread Cert.AdamDownRefIdeal.nD Cert.AdamDownRefIdeal.τ).loc Cert.AdamDownRefIdeal.main_v28) = v1 c
          ∧ r.2.mem ((c.tc : Thread Cert.AdamDownRefIdeal.nD Cert.AdamDownRefIdeal.τ).loc Cert.AdamDownRefIdeal.main_v9) = v2 c
          ∧ r.2.mem ((c.tc : Thread Cert.AdamDownRefIdeal.nD Cert.AdamDownRefIdeal.τ).loc Cert.AdamDownRefIdeal.main_v15) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def Claim : Prop :=
  ∃ (hGate : Cert.Gate.Facts) (hGateIdeal : Cert.GateIdeal.Facts) (hGateRefIdeal : Cert.GateRefIdeal.Facts) (hAct : Cert.Act.Facts) (hActIdeal : Cert.ActIdeal.Facts) (hActRefIdeal : Cert.ActRefIdeal.Facts) (hMlpIn : Cert.MlpIn.Facts) (hMlpInIdeal : Cert.MlpInIdeal.Facts) (hMlpInRefIdeal : Cert.MlpInRefIdeal.Facts) (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDwIn : Cert.DwIn.Facts) (hDwInIdeal : Cert.DwInIdeal.Facts) (hDwInRefIdeal : Cert.DwInRefIdeal.Facts) (hDwO : Cert.DwO.Facts) (hDwOIdeal : Cert.DwOIdeal.Facts) (hDwORefIdeal : Cert.DwORefIdeal.Facts) (hHgrnIn : Cert.HgrnIn.Facts) (hHgrnInIdeal : Cert.HgrnInIdeal.Facts) (hHgrnInRefIdeal : Cert.HgrnInRefIdeal.Facts) (hQkvBwd : Cert.QkvBwd.Facts) (hQkvBwdIdeal : Cert.QkvBwdIdeal.Facts) (hQkvBwdRefIdeal : Cert.QkvBwdRefIdeal.Facts) (hOutBwd : Cert.OutBwd.Facts) (hOutBwdIdeal : Cert.OutBwdIdeal.Facts) (hOutBwdRefIdeal : Cert.OutBwdRefIdeal.Facts) (hOut : Cert.Out.Facts) (hOutIdeal : Cert.OutIdeal.Facts) (hOutRefIdeal : Cert.OutRefIdeal.Facts) (hHgrnOut : Cert.HgrnOut.Facts) (hHgrnOutIdeal : Cert.HgrnOutIdeal.Facts) (hHgrnOutRefIdeal : Cert.HgrnOutRefIdeal.Facts) (hLoss : Cert.Loss.Facts) (hLossIdeal : Cert.LossIdeal.Facts) (hLossRefIdeal : Cert.LossRefIdeal.Facts) (hDwQkv : Cert.DwQkv.Facts) (hDwQkvIdeal : Cert.DwQkvIdeal.Facts) (hDwQkvRefIdeal : Cert.DwQkvRefIdeal.Facts) (hQkv : Cert.Qkv.Facts) (hQkvIdeal : Cert.QkvIdeal.Facts) (hQkvRefIdeal : Cert.QkvRefIdeal.Facts) (hAdamQkv : Cert.AdamQkv.Facts) (hAdamQkvIdeal : Cert.AdamQkvIdeal.Facts) (hAdamQkvRefIdeal : Cert.AdamQkvRefIdeal.Facts) (hAdamO : Cert.AdamO.Facts) (hAdamOIdeal : Cert.AdamOIdeal.Facts) (hAdamORefIdeal : Cert.AdamORefIdeal.Facts) (hAdamIn : Cert.AdamIn.Facts) (hAdamInIdeal : Cert.AdamInIdeal.Facts) (hAdamInRefIdeal : Cert.AdamInRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hPre_finite_cotangent : Cert.Pre_finite_cotangent.Facts) (hPre_finite_attention : Cert.Pre_finite_attention.Facts),
    quiescent_Gate (hGate := hGate)
    ∧ quiescent_GateIdeal (hGateIdeal := hGateIdeal)
    ∧ quiescent_GateIdeal_pre_finite_cotangent (hGateIdeal := hGateIdeal) (hPre_finite_cotangent := hPre_finite_cotangent)
    ∧ quiescent_GateRefIdeal (hGateRefIdeal := hGateRefIdeal)
    ∧ quiescent_GateRefIdeal_pre_finite_cotangent (hGateRefIdeal := hGateRefIdeal) (hPre_finite_cotangent := hPre_finite_cotangent)
    ∧ quiescent_Act (hAct := hAct)
    ∧ quiescent_ActIdeal (hActIdeal := hActIdeal)
    ∧ quiescent_ActRefIdeal (hActRefIdeal := hActRefIdeal)
    ∧ quiescent_MlpIn (hMlpIn := hMlpIn)
    ∧ quiescent_MlpInIdeal (hMlpInIdeal := hMlpInIdeal)
    ∧ quiescent_MlpInRefIdeal (hMlpInRefIdeal := hMlpInRefIdeal)
    ∧ quiescent_Attn (hAttn := hAttn)
    ∧ quiescent_AttnIdeal (hAttnIdeal := hAttnIdeal)
    ∧ quiescent_AttnIdeal_pre_finite_attention (hAttnIdeal := hAttnIdeal) (hPre_finite_attention := hPre_finite_attention)
    ∧ quiescent_AttnRefIdeal (hAttnRefIdeal := hAttnRefIdeal)
    ∧ quiescent_AttnRefIdeal_pre_finite_attention (hAttnRefIdeal := hAttnRefIdeal) (hPre_finite_attention := hPre_finite_attention)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwO (hDwO := hDwO)
    ∧ quiescent_DwOIdeal (hDwOIdeal := hDwOIdeal)
    ∧ quiescent_DwORefIdeal (hDwORefIdeal := hDwORefIdeal)
    ∧ quiescent_HgrnIn (hHgrnIn := hHgrnIn)
    ∧ quiescent_HgrnInIdeal (hHgrnInIdeal := hHgrnInIdeal)
    ∧ quiescent_HgrnInRefIdeal (hHgrnInRefIdeal := hHgrnInRefIdeal)
    ∧ quiescent_QkvBwd (hQkvBwd := hQkvBwd)
    ∧ quiescent_QkvBwdIdeal (hQkvBwdIdeal := hQkvBwdIdeal)
    ∧ quiescent_QkvBwdRefIdeal (hQkvBwdRefIdeal := hQkvBwdRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_Out (hOut := hOut)
    ∧ quiescent_OutIdeal (hOutIdeal := hOutIdeal)
    ∧ quiescent_OutRefIdeal (hOutRefIdeal := hOutRefIdeal)
    ∧ quiescent_HgrnOut (hHgrnOut := hHgrnOut)
    ∧ quiescent_HgrnOutIdeal (hHgrnOutIdeal := hHgrnOutIdeal)
    ∧ quiescent_HgrnOutRefIdeal (hHgrnOutRefIdeal := hHgrnOutRefIdeal)
    ∧ quiescent_Loss (hLoss := hLoss)
    ∧ quiescent_LossIdeal (hLossIdeal := hLossIdeal)
    ∧ quiescent_LossRefIdeal (hLossRefIdeal := hLossRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_Qkv (hQkv := hQkv)
    ∧ quiescent_QkvIdeal (hQkvIdeal := hQkvIdeal)
    ∧ quiescent_QkvRefIdeal (hQkvRefIdeal := hQkvRefIdeal)
    ∧ quiescent_AdamQkv (hAdamQkv := hAdamQkv)
    ∧ quiescent_AdamQkvIdeal (hAdamQkvIdeal := hAdamQkvIdeal)
    ∧ quiescent_AdamQkvRefIdeal (hAdamQkvRefIdeal := hAdamQkvRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ preserves_Gate_GateIdeal
    ∧ algebraic_GateIdeal_GateRefIdeal_pre_finite_cotangent (hGateIdeal := hGateIdeal) (hGateRefIdeal := hGateRefIdeal) (hPre_finite_cotangent := hPre_finite_cotangent)
    ∧ preserves_Act_ActIdeal
    ∧ algebraic_ActIdeal_ActRefIdeal (hActIdeal := hActIdeal) (hActRefIdeal := hActRefIdeal)
    ∧ preserves_MlpIn_MlpInIdeal
    ∧ algebraic_MlpInIdeal_MlpInRefIdeal (hMlpInIdeal := hMlpInIdeal) (hMlpInRefIdeal := hMlpInRefIdeal)
    ∧ preserves_Attn_AttnIdeal
    ∧ algebraic_AttnIdeal_AttnRefIdeal_pre_finite_attention (hAttnIdeal := hAttnIdeal) (hAttnRefIdeal := hAttnRefIdeal) (hPre_finite_attention := hPre_finite_attention)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_DwIn_DwInIdeal
    ∧ algebraic_DwInIdeal_DwInRefIdeal (hDwInIdeal := hDwInIdeal) (hDwInRefIdeal := hDwInRefIdeal)
    ∧ preserves_DwO_DwOIdeal
    ∧ algebraic_DwOIdeal_DwORefIdeal (hDwOIdeal := hDwOIdeal) (hDwORefIdeal := hDwORefIdeal)
    ∧ preserves_HgrnIn_HgrnInIdeal
    ∧ algebraic_HgrnInIdeal_HgrnInRefIdeal (hHgrnInIdeal := hHgrnInIdeal) (hHgrnInRefIdeal := hHgrnInRefIdeal)
    ∧ preserves_QkvBwd_QkvBwdIdeal
    ∧ algebraic_QkvBwdIdeal_QkvBwdRefIdeal (hQkvBwdIdeal := hQkvBwdIdeal) (hQkvBwdRefIdeal := hQkvBwdRefIdeal)
    ∧ preserves_OutBwd_OutBwdIdeal
    ∧ algebraic_OutBwdIdeal_OutBwdRefIdeal (hOutBwdIdeal := hOutBwdIdeal) (hOutBwdRefIdeal := hOutBwdRefIdeal)
    ∧ preserves_Out_OutIdeal
    ∧ algebraic_OutIdeal_OutRefIdeal (hOutIdeal := hOutIdeal) (hOutRefIdeal := hOutRefIdeal)
    ∧ preserves_HgrnOut_HgrnOutIdeal
    ∧ algebraic_HgrnOutIdeal_HgrnOutRefIdeal (hHgrnOutIdeal := hHgrnOutIdeal) (hHgrnOutRefIdeal := hHgrnOutRefIdeal)
    ∧ preserves_Loss_LossIdeal
    ∧ algebraic_LossIdeal_LossRefIdeal (hLossIdeal := hLossIdeal) (hLossRefIdeal := hLossRefIdeal)
    ∧ preserves_DwQkv_DwQkvIdeal
    ∧ algebraic_DwQkvIdeal_DwQkvRefIdeal (hDwQkvIdeal := hDwQkvIdeal) (hDwQkvRefIdeal := hDwQkvRefIdeal)
    ∧ preserves_Qkv_QkvIdeal
    ∧ algebraic_QkvIdeal_QkvRefIdeal (hQkvIdeal := hQkvIdeal) (hQkvRefIdeal := hQkvRefIdeal)
    ∧ preserves_AdamQkv_AdamQkvIdeal
    ∧ algebraic_AdamQkvIdeal_AdamQkvRefIdeal (hAdamQkvIdeal := hAdamQkvIdeal) (hAdamQkvRefIdeal := hAdamQkvRefIdeal)
    ∧ preserves_AdamO_AdamOIdeal
    ∧ algebraic_AdamOIdeal_AdamORefIdeal (hAdamOIdeal := hAdamOIdeal) (hAdamORefIdeal := hAdamORefIdeal)
    ∧ preserves_AdamIn_AdamInIdeal
    ∧ algebraic_AdamInIdeal_AdamInRefIdeal (hAdamInIdeal := hAdamInIdeal) (hAdamInRefIdeal := hAdamInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
-- ==== Pre_finite_attention.lean ====
abbrev S1x8192x1536 : Shape := ⟨3, ![1, 8192, 1536]⟩
abbrev S1x16 : Shape := ⟨2, ![1, 16]⟩
abbrev S_ : Shape := ⟨0, ![]⟩

class Facts : Prop where
  bcast_S_S1x8192x1536 : S_.BroadcastsInDim S1x8192x1536 (![] : Fin 0 → Fin S1x8192x1536.rank)
  bcast_S_S1x16 : S_.BroadcastsInDim S1x16 (![] : Fin 0 → Fin S1x16.rank)

variable [Facts]

def fn {F : FTy → Type} [FloatOps F] (main_arg0 : FVec F S1x8192x1536 .f32) (main_arg1 : FVec F S1x16 .f32) : IVec S1x8192x1536 1 × IVec S1x16 1 :=
  let main_v0 : FVec F S1x8192x1536 .f32 := Host.absf main_arg0
  let main_cst : FVec F S_ .f32 := constant S_ .f32 0x7F800000#32
  let main_v1 : FVec F S1x8192x1536 .f32 := broadcastInDim S1x8192x1536 ![] bcast_S_S1x8192x1536 main_cst
  let main_v2 : IVec S1x8192x1536 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  (main_v2, main_v5)
-- ==== Pre_finite_cotangent.lean ====
abbrev S8192x1024 : Shape := ⟨2, ![8192, 1024]⟩
abbrev S8192x4096 : Shape := ⟨2, ![8192, 4096]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x1024 .f32) (main_arg2 : FVec F S8192x4096 .f32) (main_arg3 : FVec F S1024x1024 .f32) (main_arg4 : FVec F S1024 .f32) : IVec S8192x1024 1 × IVec S1024x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1024 .f32 := Host.absf main_arg3
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024 .f32 := Host.absf main_arg4
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Gate.lean ====
abbrev S8192x1024 : Shape := ⟨2, ![8192, 1024]⟩
abbrev S8192x4096 : Shape := ⟨2, ![8192, 4096]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S1024x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateRefIdeal.lean ====
abbrev S8192x1024 : Shape := ⟨2, ![8192, 1024]⟩
abbrev S8192x4096 : Shape := ⟨2, ![8192, 4096]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .bf16⟩
  | .hbm, ⟨78, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v22_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v22_1 : Ref sig .tc := ⟨.hbm, 43, rfl⟩
abbrev main_v22_0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩

abbrev nD : Nat := 1
abbrev τ : Topo := Topo.v7x

variable {F : FTy → Type} [FloatOps F]
-- ==== Act.lean ====
abbrev S8192x1024 : Shape := ⟨2, ![8192, 1024]⟩
abbrev S8192x4096 : Shape := ⟨2, ![8192, 4096]⟩
abbrev S4096x1024 : Shape := ⟨2, ![4096, 1024]⟩
abbrev S512x1024 : Shape := ⟨2, ![512, 1024]⟩
abbrev S512x4096 : Shape := ⟨2, ![512, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S4096x1024, .bf16⟩
  | .hbm, ⟨4, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S512x4096, .f32⟩
  | .local _ .vmem, ⟨3, _⟩ => ⟨S512x4096, .f32⟩
  | .local _ .vmem, ⟨4, _⟩ => ⟨S4096x1024, .bf16⟩
  | .local _ .vmem, ⟨5, _⟩ => ⟨S512x4096, .bf16⟩
  | .local _ .vmem, ⟨6, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActRefIdeal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== MlpIn.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S1024x8x512 : Shape := ⟨3, ![1024, 8, 512]⟩
abbrev S8x1024x512 : Shape := ⟨3, ![8, 1024, 512]⟩
abbrev S1x1024 : Shape := ⟨2, ![1, 1024]⟩
abbrev S512x4096 : Shape := ⟨2, ![512, 4096]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S8192x4096, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024x512, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MlpInRefIdeal.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x4096, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Attn.lean ====
abbrev S1x8192x1536 : Shape := ⟨3, ![1, 8192, 1536]⟩
abbrev S1x16 : Shape := ⟨2, ![1, 16]⟩
abbrev S8192x1536 : Shape := ⟨2, ![8192, 1536]⟩
abbrev S8192x1024 : Shape := ⟨2, ![8192, 1024]⟩
abbrev S128x1024 : Shape := ⟨2, ![128, 1024]⟩
abbrev S128x256 : Shape := ⟨2, ![128, 256]⟩
abbrev S256x128 : Shape := ⟨2, ![256, 128]⟩
abbrev S1x128 : Shape := ⟨2, ![1, 128]⟩
abbrev S128x1 : Shape := ⟨2, ![128, 1]⟩
abbrev S128x128 : Shape := ⟨2, ![128, 128]⟩
abbrev S1x1 : Shape := ⟨2, ![1, 1]⟩
abbrev S128 : Shape := ⟨1, ![128]⟩

abbrev nBuf : Space → Nat
  | .hbm => 4
  | .vmem => 12
  | .smem => 1
  | _ => 0

abbrev bufTy : (tb : Table) → Fin (tcTables nBuf tb) → BufTy
  | .hbm, ⟨0, _⟩ => ⟨S1x8192x1536, .f32⟩
  | .hbm, ⟨1, _⟩ => ⟨S1x16, .f32⟩
  | .hbm, ⟨2, _⟩ => ⟨S8192x1536, .f32⟩
  | .hbm, ⟨3, _⟩ => ⟨S8192x1024, .bf16⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x1024, .bf16⟩
  | .local _ .vmem, ⟨11, _⟩ => ⟨S128x1024, .bf16⟩
  | .local _ .smem, ⟨0, _⟩ => ⟨S1x16, .f32⟩
  | _, _ => ⟨S1x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c5_i32 : BitVec 32 := 5#32
  let c0_i32 : BitVec 32 := 0#32
  ![v0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S1x8192x1536 : Shape := ⟨3, ![1, 8192, 1536]⟩
abbrev S1x16 : Shape := ⟨2, ![1, 16]⟩
abbrev S1x8192x1024 : Shape := ⟨3, ![1, 8192, 1024]⟩
abbrev S1x8192x4x4x64 : Shape := ⟨5, ![1, 8192, 4, 4, 64]⟩
abbrev S1x8192x256 : Shape := ⟨3, ![1, 8192, 256]⟩
abbrev S1x8192x4x64 : Shape := ⟨4, ![1, 8192, 4, 64]⟩
abbrev S1x64x128x4x4x64 : Shape := ⟨6, ![1, 64, 128, 4, 4, 64]⟩
abbrev S_ : Shape := ⟨0, ![]⟩
abbrev S1x128x4x64 : Shape := ⟨4, ![1, 128, 4, 64]⟩
abbrev S1x8320x4x64 : Shape := ⟨4, ![1, 8320, 4, 64]⟩
abbrev S1x65x128x4x64 : Shape := ⟨5, ![1, 65, 128, 4, 64]⟩
abbrev S1x64x128x4x64 : Shape := ⟨5, ![1, 64, 128, 4, 64]⟩
abbrev S1x64x256x4x64 : Shape := ⟨5, ![1, 64, 256, 4, 64]⟩
abbrev S1x64x4x256x128x4 : Shape := ⟨6, ![1, 64, 4, 256, 128, 4]⟩
abbrev S1x64x4x4x128x256 : Shape := ⟨6, ![1, 64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S1x1x4x4x1x1 : Shape := ⟨6, ![1, 1, 4, 4, 1, 1]⟩
abbrev S1x64x4x4x128 : Shape := ⟨5, ![1, 64, 4, 4, 128]⟩
abbrev S1x64x4x4x128x1 : Shape := ⟨6, ![1, 64, 4, 4, 128, 1]⟩
abbrev S1x64x4x64x4x128 : Shape := ⟨6, ![1, 64, 4, 64, 4, 128]⟩
abbrev S8192x1024 : Shape := ⟨2, ![8192, 1024]⟩

abbrev nBuf : Space → Nat
  | .hbm => 93
  | .vmem => 0
  | .smem => 0
  | _ => 0

abbrev bufTy : (tb : Table) → Fin (tcTables nBuf tb) → BufTy
  | .hbm, ⟨0, _⟩ => ⟨S1x8192x1536, .f32⟩
  | .hbm, ⟨1, _⟩ => ⟨S1x16, .f32⟩
  | .hbm, ⟨2, _⟩ => ⟨S1x8192x1024, .f32⟩
  | .hbm, ⟨3, _⟩ => ⟨S1x8192x4x4x64, .f32⟩
  | .hbm, ⟨4, _⟩ => ⟨S1x8192x256, .f32⟩
  | .hbm, ⟨5, _⟩ => ⟨S1x8192x4x64, .f32⟩
  | .hbm, ⟨6, _⟩ => ⟨S1x8192x256, .f32⟩
  | .hbm, ⟨7, _⟩ => ⟨S1x8192x4x64, .f32⟩
  | .hbm, ⟨8, _⟩ => ⟨S1x64x128x4x4x64, .f32⟩
  | .hbm, ⟨9, _⟩ => ⟨S_, .f32⟩
  | .hbm, ⟨10, _⟩ => ⟨S1x128x4x64, .f32⟩
  | .hbm, ⟨11, _⟩ => ⟨S1x8320x4x64, .f32⟩
  | .hbm, ⟨12, _⟩ => ⟨S1x65x128x4x64, .f32⟩
  | .hbm, ⟨13, _⟩ => ⟨S1x64x128x4x64, .f32⟩
  | .hbm, ⟨14, _⟩ => ⟨S1x64x128x4x64, .f32⟩
  | .hbm, ⟨15, _⟩ => ⟨S1x64x256x4x64, .f32⟩
  | .hbm, ⟨16, _⟩ => ⟨S_, .f32⟩
  | .hbm, ⟨17, _⟩ => ⟨S1x128x4x64, .f32⟩
  | .hbm, ⟨18, _⟩ => ⟨S1x8320x4x64, .f32⟩
  | .hbm, ⟨19, _⟩ => ⟨S1x65x128x4x64, .f32⟩
  | .hbm, ⟨20, _⟩ => ⟨S1x64x128x4x64, .f32⟩
  | .hbm, ⟨21, _⟩ => ⟨S1x64x128x4x64, .f32⟩
  | .hbm, ⟨22, _⟩ => ⟨S1x64x256x4x64, .f32⟩
  | .hbm, ⟨23, _⟩ => ⟨S1x64x4x256x128x4, .f32⟩
  | .hbm, ⟨24, _⟩ => ⟨S1x64x4x4x128x256, .f32⟩
  | .hbm, ⟨25, _⟩ => ⟨S_, .f32⟩
  | .hbm, ⟨26, _⟩ => ⟨S1x64x4x4x128x256, .f32⟩
  | .hbm, ⟨27, _⟩ => ⟨S1x64x4x4x128x256, .f32⟩
  | .hbm, ⟨28, _⟩ => ⟨S128, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x256, .i32⟩
  | .hbm, ⟨36, _⟩ => ⟨S128x256, .i32⟩
  | .hbm, ⟨37, _⟩ => ⟨S128x256, .i32⟩
  | .hbm, ⟨38, _⟩ => ⟨S64, .i32⟩
  | .hbm, ⟨39, _⟩ => ⟨S64x1x1, .i32⟩
  | .hbm, ⟨40, _⟩ => ⟨S_, .i32⟩
  | .hbm, ⟨41, _⟩ => ⟨S64x1x1, .i32⟩
  | .hbm, ⟨42, _⟩ => ⟨S64x1x1, .i32⟩
  | .hbm, ⟨43, _⟩ => ⟨S1x1x256, .i32⟩
  | .hbm, ⟨44, _⟩ => ⟨S64x1x256, .i32⟩
  | .hbm, ⟨45, _⟩ => ⟨S64x1x256, .i32⟩
  | .hbm, ⟨46, _⟩ => ⟨S64x1x256, .i32⟩
  | .hbm, ⟨47, _⟩ => ⟨S_, .i32⟩
  | .hbm, ⟨48, _⟩ => ⟨S64x1x256, .i32⟩
  | .hbm, ⟨49, _⟩ => ⟨S64x1x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S128x256, .i1⟩
  | .hbm, ⟨57, _⟩ => ⟨S_, .i32⟩
  | .hbm, ⟨58, _⟩ => ⟨S64x1x256, .i32⟩
  | .hbm, ⟨59, _⟩ => ⟨S64x1x256, .i1⟩
  | .hbm, ⟨60, _⟩ => ⟨S1x128x256, .i1⟩
  | .hbm, ⟨61, _⟩ => ⟨S64x128x256, .i1⟩
  | .hbm, ⟨62, _⟩ => ⟨S64x128x256, .i1⟩
  | .hbm, ⟨63, _⟩ => ⟨S64x128x256, .i1⟩
  | .hbm, ⟨64, _⟩ => ⟨S1x64x1x1x128x256, .i1⟩
  | .hbm, ⟨65, _⟩ => ⟨S_, .f32⟩
  | .hbm, ⟨66, _⟩ => ⟨S_, .f32⟩
  | .hbm, ⟨67, _⟩ => ⟨S1x64x4x4x128x256, .i1⟩
  | .hbm, ⟨68, _⟩ => ⟨S1x64x4x4x128x256, .f32⟩
  | .hbm, ⟨69, _⟩ => ⟨S1x64x4x4x128x256, .f32⟩
  | .hbm, ⟨70, _⟩ => ⟨S1x1x4x4x1x1, .f32⟩
  | .hbm, ⟨71, _⟩ => ⟨S_, .f32⟩
  | .hbm, ⟨72, _⟩ => ⟨S1x64x4x4x128, .f32⟩
  | .hbm, ⟨73, _⟩ => ⟨S1x64x4x4x128x1, .f32⟩
  | .hbm, ⟨74, _⟩ => ⟨S1x64x4x4x128x1, .f32⟩
  | .hbm, ⟨75, _⟩ => ⟨S1x64x4x4x128x1, .f32⟩
  | .hbm, ⟨76, _⟩ => ⟨S1x64x4x4x128x256, .f32⟩
  | .hbm, ⟨77, _⟩ => ⟨S1x64x4x4x128x256, .f32⟩
  | .hbm, ⟨78, _⟩ => ⟨S1x64x4x4x128x256, .f32⟩
  | .hbm, ⟨79, _⟩ => ⟨S_, .f32⟩
  | .hbm, ⟨80, _⟩ => ⟨S1x64x4x4x128, .f32⟩
  | .hbm, ⟨81, _⟩ => ⟨S1x64x4x4x128x1, .f32⟩
  | .hbm, ⟨82, _⟩ => ⟨S1x64x4x4x128x1, .f32⟩
  | .hbm, ⟨83, _⟩ => ⟨S1x64x4x4x128x1, .f32⟩
  | .hbm, ⟨84, _⟩ => ⟨S1x64x4x4x128x1, .f32⟩
  | .hbm, ⟨85, _⟩ => ⟨S1x64x4x4x128x1, .f32⟩
  | .hbm, ⟨86, _⟩ => ⟨S1x64x4x4x128x256, .f32⟩
  | .hbm, ⟨87, _⟩ => ⟨S1x64x4x4x128x256, .f32⟩
  | .hbm, ⟨88, _⟩ => ⟨S1x64x4x64x4x128, .f32⟩
  | .hbm, ⟨89, _⟩ => ⟨S1x64x128x4x4x64, .f32⟩
  | .hbm, ⟨90, _⟩ => ⟨S1x8192x1024, .f32⟩
  | .hbm, ⟨91, _⟩ => ⟨S8192x1024, .f32⟩
  | .hbm, ⟨92, _⟩ => ⟨S8192x1024, .bf16⟩
  | _, _ => ⟨S1x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_3 : Ref sig .tc := ⟨.hbm, 47, rfl⟩
abbrev main_v40 : Ref sig .tc := ⟨.hbm, 48, rfl⟩
abbrev main_v41 : Ref sig .tc := ⟨.hbm, 49, rfl⟩
abbrev main_c_4 : Ref sig .tc := ⟨.hbm, 50, rfl⟩
abbrev main_v42 : Ref sig .tc := ⟨.hbm, 51, rfl⟩
abbrev main_v43 : Ref sig .tc := ⟨.hbm, 52, rfl⟩
abbrev main_c_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== Up.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S1024x8x512 : Shape := ⟨3, ![1024, 8, 512]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S8192x4096, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S512x4096, .f32⟩
  | .local _ .vmem, ⟨5, _⟩ => ⟨S512x4096, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpRefIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Down.lean ====
abbrev S8192x4096 : Shape := ⟨2, ![8192, 4096]⟩
abbrev S4096x1024 : Shape := ⟨2, ![4096, 1024]⟩
abbrev S8192x1024 : Shape := ⟨2, ![8192, 1024]⟩
abbrev S512x4096 : Shape := ⟨2, ![512, 4096]⟩
abbrev S512x1024 : Shape := ⟨2, ![512, 1024]⟩
abbrev S256x1024 : Shape := ⟨2, ![256, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S8192x1024, .f32⟩
  | .hbm, ⟨5, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | .local _ .vmem, ⟨8, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S8192x1024, .f32⟩
  | .hbm, ⟨9, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== DwDown.lean ====
abbrev S8192x4096 : Shape := ⟨2, ![8192, 4096]⟩
abbrev S8192x1024 : Shape := ⟨2, ![8192, 1024]⟩
abbrev S8x512x1024 : Shape := ⟨3, ![8, 512, 1024]⟩
abbrev S2048x1024 : Shape := ⟨2, ![2048, 1024]⟩
abbrev S2x512x1024 : Shape := ⟨3, ![2, 512, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8x512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S2x512x1024, .bf16⟩
  | .local _ .vmem, ⟨5, _⟩ => ⟨S2x512x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S8x512x1024, .f32⟩
  | .hbm, ⟨8, _⟩ => ⟨S8x512x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwUp.lean ====
abbrev S8192x1024 : Shape := ⟨2, ![8192, 1024]⟩
abbrev S8192x4096 : Shape := ⟨2, ![8192, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwIn.lean ====
abbrev S8192x1024 : Shape := ⟨2, ![8192, 1024]⟩
abbrev S2x1024x512 : Shape := ⟨3, ![2, 1024, 512]⟩
abbrev S2048x1024 : Shape := ⟨2, ![2048, 1024]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S2x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwInRefIdeal.lean ====
abbrev S8192x1024 : Shape := ⟨2, ![8192, 1024]⟩
abbrev S_ : Shape := ⟨0, ![]⟩
abbrev S1024x1024 : Shape := ⟨2, ![1024, 1024]⟩
abbrev S1024x2x512 : Shape := ⟨3, ![1024, 2, 512]⟩
abbrev S2x1024x512 : Shape := ⟨3, ![2, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x2x512, .f32⟩
  | .hbm, ⟨8, _⟩ => ⟨S2x1024x512, .f32⟩
  | .hbm, ⟨9, _⟩ => ⟨S2x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwO.lean ====
abbrev S8192x1024 : Shape := ⟨2, ![8192, 1024]⟩
abbrev S8x128x1024 : Shape := ⟨3, ![8, 128, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8x128x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S8x128x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwORefIdeal.lean ====
abbrev S8192x1024 : Shape := ⟨2, ![8192, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S8x128x1024, .f32⟩
  | .hbm, ⟨8, _⟩ => ⟨S8x128x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== HgrnIn.lean ====
abbrev S8192x1024 : Shape := ⟨2, ![8192, 1024]⟩
abbrev S1024x4096 : Shape := ⟨2, ![1024, 4096]⟩
abbrev S1024 : Shape := ⟨1, ![1024]⟩
abbrev S1024x8x512 : Shape := ⟨3, ![1024, 8, 512]⟩
abbrev S8x1024x512 : Shape := ⟨3, ![8, 1024, 512]⟩
abbrev S1x1024 : Shape := ⟨2, ![1, 1024]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩

abbrev nBuf : Space → Nat
  | .hbm => 18
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x4096, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S1024x4096, .bf16⟩
  | .hbm, ⟨13, _⟩ => ⟨S1024x8x512, .bf16⟩
  | .hbm, ⟨14, _⟩ => ⟨S8x1024x512, .bf16⟩
  | .hbm, ⟨15, _⟩ => ⟨S1x1024, .f32⟩
  | .hbm, ⟨16, _⟩ => ⟨S8192x1024, .f32⟩
  | .hbm, ⟨17, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x1024x512, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== HgrnInRefIdeal.lean ====
abbrev S8192x1024 : Shape := ⟨2, ![8192, 1024]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x4096, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x4096, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x4096, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== QkvBwd.lean ====
abbrev S8192x1536 : Shape := ⟨2, ![8192, 1536]⟩
abbrev S1024x1536 : Shape := ⟨2, ![1024, 1536]⟩
abbrev S8192x1024 : Shape := ⟨2, ![8192, 1024]⟩
abbrev S1024 : Shape := ⟨1, ![1024]⟩
abbrev S1x1024 : Shape := ⟨2, ![1, 1024]⟩
abbrev S1x1536 : Shape := ⟨2, ![1, 1536]⟩
abbrev S512x1536 : Shape := ⟨2, ![512, 1536]⟩
abbrev S512x1024 : Shape := ⟨2, ![512, 1024]⟩
abbrev S256x1536 : Shape := ⟨2, ![256, 1536]⟩
abbrev S256x1024 : Shape := ⟨2, ![256, 1024]⟩
abbrev S256 : Shape := ⟨1, ![256]⟩
abbrev S256x1 : Shape := ⟨2, ![256, 1]⟩
abbrev S1536 : Shape := ⟨1, ![1536]⟩

abbrev nBuf : Space → Nat
  | .hbm => 11
  | .vmem => 12
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1536, .bf16⟩
  | .hbm, ⟨6, _⟩ => ⟨S1024x1536, .bf16⟩
  | .hbm, ⟨7, _⟩ => ⟨S1x1024, .f32⟩
  | .hbm, ⟨8, _⟩ => ⟨S8192x1024, .f32⟩
  | .hbm, ⟨9, _⟩ => ⟨S1x1024, .f32⟩
  | .hbm, ⟨10, _⟩ => ⟨S1x1536, .f32⟩
  | .local _ .vmem, ⟨0, _⟩ => ⟨S512x1536, .bf16⟩
  | .local _ .vmem, ⟨1, _⟩ => ⟨S512x1536, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1536, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1536, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QkvBwdRefIdeal.lean ====
abbrev S8192x1536 : Shape := ⟨2, ![8192, 1536]⟩
abbrev S1024x1536 : Shape := ⟨2, ![1024, 1536]⟩
abbrev S8192x1024 : Shape := ⟨2, ![8192, 1024]⟩
abbrev S1024 : Shape := ⟨1, ![1024]⟩
abbrev S_ : Shape := ⟨0, ![]⟩
abbrev S1x1536 : Shape := ⟨2, ![1, 1536]⟩
abbrev S8192 : Shape := ⟨1, ![8192]⟩
abbrev S8192x1 : Shape := ⟨2, ![8192, 1]⟩
abbrev S1x1024 : Shape := ⟨2, ![1, 1024]⟩
abbrev S1536 : Shape := ⟨1, ![1536]⟩

abbrev nBuf : Space → Nat
  | .hbm => 63
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S1x1536, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1536, .f32⟩
  | .hbm, ⟨31, _⟩ => ⟨S8192x1536, .f32⟩
  | .hbm, ⟨32, _⟩ => ⟨S8192x1536, .f32⟩
  | .hbm, ⟨33, _⟩ => ⟨S8192x1536, .f32⟩
  | .hbm, ⟨34, _⟩ => ⟨S_, .f32⟩
  | .hbm, ⟨35, _⟩ => ⟨S1536, .f32⟩
  | .hbm, ⟨36, _⟩ => ⟨S1x1536, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== OutBwd.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutBwdRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== HgrnOut.lean ====
abbrev S8192x1024 : Shape := ⟨2, ![8192, 1024]⟩
abbrev S8192x4096 : Shape := ⟨2, ![8192, 4096]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1024, .f32⟩
  | .hbm, ⟨3, _⟩ => ⟨S1024x1024, .f32⟩
  | .hbm, ⟨4, _⟩ => ⟨S8192x1024, .f32⟩
  | .hbm, ⟨5, _⟩ => ⟨S1x1024, .f32⟩
  | .hbm, ⟨6, _⟩ => ⟨S1024x1024, .bf16⟩
  | .hbm, ⟨7, _⟩ => ⟨S8192x1024, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== HgrnOutRefIdeal.lean ====
abbrev S8192x1024 : Shape := ⟨2, ![8192, 1024]⟩
abbrev S8192x4096 : Shape := ⟨2, ![8192, 4096]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Loss.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S4096x1024, .bf16⟩
  | .hbm, ⟨6, _⟩ => ⟨S1x1024, .f32⟩
  | .hbm, ⟨7, _⟩ => ⟨S8192x1024, .f32⟩
  | .hbm, ⟨8, _⟩ => ⟨S8192x4096, .bf16⟩
  | .hbm, ⟨9, _⟩ => ⟨S1x128, .f32⟩
  | .hbm, ⟨10, _⟩ => ⟨S1x1024, .f32⟩
  | .local _ .vmem, ⟨0, _⟩ => ⟨S512x4096, .f32⟩
  | .local _ .vmem, ⟨1, _⟩ => ⟨S512x4096, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x4096, .bf16⟩
  | .local _ .vmem, ⟨11, _⟩ => ⟨S512x4096, .bf16⟩
  | .local _ .vmem, ⟨12, _⟩ => ⟨S1x128, .f32⟩
  | .local _ .vmem, ⟨13, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x4096, .bf16⟩
  | .hbm, ⟨81, _⟩ => ⟨S1x128, .f32⟩
  | .hbm, ⟨82, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_cst_9 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_cst_11 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_12 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_cst_14 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== DwQkv.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x1024, .bf16⟩
  | .hbm, ⟨3, _⟩ => ⟨S8192x1536, .bf16⟩
  | .hbm, ⟨4, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQkvRefIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S_, .f32⟩
  | .hbm, ⟨3, _⟩ => ⟨S1024x1536, .f32⟩
  | .hbm, ⟨4, _⟩ => ⟨S8192x1536, .f32⟩
  | .hbm, ⟨5, _⟩ => ⟨S1536x1024, .f32⟩
  | .hbm, ⟨6, _⟩ => ⟨S1024x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Qkv.lean ====
abbrev S8192x1024 : Shape := ⟨2, ![8192, 1024]⟩
abbrev S8192 : Shape := ⟨1, ![8192]⟩
abbrev S1024 : Shape := ⟨1, ![1024]⟩
abbrev S1024x1536 : Shape := ⟨2, ![1024, 1536]⟩
abbrev S1x1536 : Shape := ⟨2, ![1, 1536]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S128 : Shape := ⟨1, ![128]⟩
abbrev S128x1 : Shape := ⟨2, ![128, 1]⟩
abbrev S8192x128 : Shape := ⟨2, ![8192, 128]⟩
abbrev S8192x384 : Shape := ⟨2, ![8192, 384]⟩
abbrev S1x1024 : Shape := ⟨2, ![1, 1024]⟩
abbrev S8192x1536 : Shape := ⟨2, ![8192, 1536]⟩
abbrev S512x1024 : Shape := ⟨2, ![512, 1024]⟩
abbrev S512x384 : Shape := ⟨2, ![512, 384]⟩
abbrev S512x1536 : Shape := ⟨2, ![512, 1536]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512 : Shape := ⟨2, ![1, 512]⟩
abbrev S512x128 : Shape := ⟨2, ![512, 128]⟩
abbrev S512x256 : Shape := ⟨2, ![512, 256]⟩

abbrev nBuf : Space → Nat
  | .hbm => 133
  | .vmem => 11
  | .smem => 0
  | _ => 0

abbrev hbmTy0_0 (i : Nat) : BufTy := match i % 128 with
  | 0 => ⟨S8192x1024, .f32⟩
  | 1 => ⟨S8192, .i32⟩
  | 2 => ⟨S1024, .f32⟩
  | 3 => ⟨S1024x1536, .f32⟩
  | 4 => ⟨S1x1536, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S8192, .f32⟩
  | 20 => ⟨S8192x1, .f32⟩
  | 21 => ⟨S1x8, .f32⟩
  | 22 => ⟨S8192x8, .f32⟩
  | 23 => ⟨S8192x8, .f32⟩
  | 24 => ⟨S8192x8, .f32⟩
  | 25 => ⟨S8192x8, .f32⟩
  | 26 => ⟨S8192x8, .f32⟩
  | 27 => ⟨S128, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S128, .i32⟩
  | 35 => ⟨S128, .i32⟩
  | 36 => ⟨S_, .i32⟩
  | 37 => ⟨S128, .i32⟩
  | 38 => ⟨S128, .i1⟩
  | 39 => ⟨S_, .i32⟩
  | 40 => ⟨S128, .i32⟩
  | 41 => ⟨S128, .i1⟩
  | 42 => ⟨S_, .i32⟩
  | 43 => ⟨S_, .i1⟩
  | 44 => ⟨S128, .i1⟩
  | 45 => ⟨S128, .i1⟩
  | 46 => ⟨S128, .i1⟩
  | 47 => ⟨S128, .i32⟩
  | 48 => ⟨S128, .i32⟩
  | 49 => ⟨S128, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S128, .i32⟩
  | 57 => ⟨S128, .i32⟩
  | 58 => ⟨S_, .i32⟩
  | 59 => ⟨S128, .i32⟩
  | 60 => ⟨S128, .i1⟩
  | 61 => ⟨S_, .i32⟩
  | 62 => ⟨S128, .i32⟩
  | 63 => ⟨S128, .i1⟩
  | 64 => ⟨S_, .i32⟩
  | 65 => ⟨S_, .i1⟩
  | 66 => ⟨S128, .i1⟩
  | 67 => ⟨S128, .i1⟩
  | 68 => ⟨S128, .i1⟩
  | 69 => ⟨S128, .i32⟩
  | 70 => ⟨S128, .i32⟩
  | 71 => ⟨S128, .i32⟩
  | 72 => ⟨S_, .i32⟩
  | 73 => ⟨S128, .i32⟩
  | 74 => ⟨S128, .i1⟩
  | 75 => ⟨S_, .i32⟩
  | 76 => ⟨S128, .i32⟩
  | 77 => ⟨S128, .i1⟩
  | 78 => ⟨S_, .i32⟩
  | 79 => ⟨S128, .i32⟩
  | 80 => ⟨S128, .i32⟩
  | 81 => ⟨S128, .i32⟩
  | 82 => ⟨S128x1, .i32⟩
  | 83 => ⟨S8192x128, .f32⟩
  | 84 => ⟨S_, .f32⟩
  | 85 => ⟨S_, .f32⟩
  | 86 => ⟨S8192x128, .i1⟩
  | 87 => ⟨S8192x128, .f32⟩
  | 88 => ⟨S8192x128, .f32⟩
  | 89 => ⟨S_, .i32⟩
  | 90 => ⟨S128, .i32⟩
  | 91 => ⟨S128, .i1⟩
  | 92 => ⟨S_, .i32⟩
  | 93 => ⟨S128, .i32⟩
  | 94 => ⟨S128, .i1⟩
  | 95 => ⟨S128, .i1⟩
  | 96 => ⟨S_, .i32⟩
  | 97 => ⟨S128, .i32⟩
  | 98 => ⟨S128, .i1⟩
  | 99 => ⟨S_, .i32⟩
  | 100 => ⟨S128, .i32⟩
  | 101 => ⟨S128, .i32⟩
  | 102 => ⟨S128, .i32⟩
  | 103 => ⟨S128x1, .i32⟩
  | 104 => ⟨S8192x128, .f32⟩
  | 105 => ⟨S_, .f32⟩
  | 106 => ⟨S_, .f32⟩
  | 107 => ⟨S8192x128, .i1⟩
  | 108 => ⟨S8192x128, .f32⟩
  | 109 => ⟨S8192x128, .f32⟩
  | 110 => ⟨S_, .i32⟩
  | 111 => ⟨S128, .i32⟩
  | 112 => ⟨S128, .i1⟩
  | 113 => ⟨S_, .i32⟩
  | 114 => ⟨S128, .i32⟩
  | 115 => ⟨S128, .i1⟩
  | 116 => ⟨S_, .i32⟩
  | 117 => ⟨S128, .i32⟩
  | 118 => ⟨S128, .i32⟩
  | 119 => ⟨S128, .i32⟩
  | 120 => ⟨S128x1, .i32⟩
  | 121 => ⟨S8192x128, .f32⟩
  | 122 => ⟨S8192x128, .f32⟩
  | 123 => ⟨S_, .f32⟩
  | 124 => ⟨S_, .f32⟩
  | 125 => ⟨S8192x128, .i1⟩
  | 126 => ⟨S8192x128, .f32⟩
  | 127 => ⟨S8192x128, .f32⟩
  | _ => ⟨S8192x1024, .f32⟩

abbrev hbmTy0_1 (i : Nat) : BufTy := match i % 128 with
  | 0 => ⟨S8192x384, .f32⟩
  | 1 => ⟨S1x1024, .f32⟩
  | 2 => ⟨S1024x1536, .bf16⟩
  | 3 => ⟨S8192x1536, .f32⟩
  | 4 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x384, .f32⟩
  | .local _ .vmem, ⟨3, _⟩ => ⟨S512x384, .f32⟩
  | .local _ .vmem, ⟨4, _⟩ => ⟨S1x1024, .f32⟩
  | .local _ .vmem, ⟨5, _⟩ => ⟨S1024x1536, .bf16⟩
  | .local _ .vmem, ⟨6, _⟩ => ⟨S1x1536, .f32⟩
  | .local _ .vmem, ⟨7, _⟩ => ⟨S512x1536, .f32⟩
  | .local _ .vmem, ⟨8, _⟩ => ⟨S512x1536, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v19 : Ref sig .tc := ⟨.hbm, 49, rfl⟩
abbrev main_c_3 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_1 : Ref sig .tc := ⟨.hbm, 58, rfl⟩
abbrev main_call1_v5 : Ref sig .tc := ⟨.hbm, 59, rfl⟩
abbrev main_call1_v6 : Ref sig .tc := ⟨.hbm, 60, rfl⟩
abbrev main_call1_c_2 : Ref sig .tc := ⟨.hbm, 61, rfl⟩
abbrev main_call1_v7 : Ref sig .tc := ⟨.hbm, 62, rfl⟩
abbrev main_call1_v8 : Ref sig .tc := ⟨.hbm, 63, rfl⟩
abbrev main_call1_c_3 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_v20 : Ref sig .tc := ⟨.hbm, 71, rfl⟩
abbrev main_c_4 : Ref sig .tc := ⟨.hbm, 72, rfl⟩
abbrev main_v21 : Ref sig .tc := ⟨.hbm, 73, rfl⟩
abbrev main_v22 : Ref sig .tc := ⟨.hbm, 74, rfl⟩
abbrev main_c_5 : Ref sig .tc := ⟨.hbm, 75, rfl⟩
abbrev main_v23 : Ref sig .tc := ⟨.hbm, 76, rfl⟩
abbrev main_v24 : Ref sig .tc := ⟨.hbm, 77, rfl⟩
abbrev main_c_6 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_cst_7 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v30 : Ref sig .tc := ⟨.hbm, 88, rfl⟩
abbrev main_c_8 : Ref sig .tc := ⟨.hbm, 89, rfl⟩
abbrev main_v31 : Ref sig .tc := ⟨.hbm, 90, rfl⟩
abbrev main_v32 : Ref sig .tc := ⟨.hbm, 91, rfl⟩
abbrev main_c_9 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_c_10 : Ref sig .tc := ⟨.hbm, 96, rfl⟩
abbrev main_v36 : Ref sig .tc := ⟨.hbm, 97, rfl⟩
abbrev main_v37 : Ref sig .tc := ⟨.hbm, 98, rfl⟩
abbrev main_c_11 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_cst_12 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_v43 : Ref sig .tc := ⟨.hbm, 109, rfl⟩
abbrev main_c_13 : Ref sig .tc := ⟨.hbm, 110, rfl⟩
abbrev main_v44 : Ref sig .tc := ⟨.hbm, 111, rfl⟩
abbrev main_v45 : Ref sig .tc := ⟨.hbm, 112, rfl⟩
abbrev main_c_14 : Ref sig .tc := ⟨.hbm, 113, rfl⟩
abbrev main_v46 : Ref sig .tc := ⟨.hbm, 114, rfl⟩
abbrev main_v47 : Ref sig .tc := ⟨.hbm, 115, rfl⟩
abbrev main_c_15 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_cst_16 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58_0 : Ref sig .tc := ⟨.hbm, 131, rfl⟩
abbrev main_v58_1 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvRefIdeal.lean ====
abbrev S8192x1024 : Shape := ⟨2, ![8192, 1024]⟩
abbrev S8192 : Shape := ⟨1, ![8192]⟩
abbrev S1024 : Shape := ⟨1, ![1024]⟩
abbrev S1024x1536 : Shape := ⟨2, ![1024, 1536]⟩
abbrev S1x1536 : Shape := ⟨2, ![1, 1536]⟩
abbrev S_ : Shape := ⟨0, ![]⟩
abbrev S8192x1 : Shape := ⟨2, ![8192, 1]⟩
abbrev S1x1024 : Shape := ⟨2, ![1, 1024]⟩
abbrev S8192x1536 : Shape := ⟨2, ![8192, 1536]⟩
abbrev S8 : Shape := ⟨1, ![8]⟩
abbrev S1x8 : Shape := ⟨2, ![1, 8]⟩
abbrev S8192x8 : Shape := ⟨2, ![8192, 8]⟩
abbrev S8192x1x8 : Shape := ⟨3, ![8192, 1, 8]⟩
abbrev S8192x16x64 : Shape := ⟨3, ![8192, 16, 64]⟩
abbrev S8192x16x8 : Shape := ⟨3, ![8192, 16, 8]⟩
abbrev S8192x16x48 : Shape := ⟨3, ![8192, 16, 48]⟩
abbrev S8192x256 : Shape := ⟨2, ![8192, 256]⟩
abbrev S8192x4x64 : Shape := ⟨3, ![8192, 4, 64]⟩
abbrev S8192x4x8 : Shape := ⟨3, ![8192, 4, 8]⟩
abbrev S8192x4x48 : Shape := ⟨3, ![8192, 4, 48]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1024, .f32⟩
  | .hbm, ⟨3, _⟩ => ⟨S1024x1536, .f32⟩
  | .hbm, ⟨4, _⟩ => ⟨S1x1536, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1536, .f32⟩
  | .hbm, ⟨22, _⟩ => ⟨S8192x1536, .f32⟩
  | .hbm, ⟨23, _⟩ => ⟨S8192x1536, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8192, .f32⟩
  | .hbm, ⟨39, _⟩ => ⟨S8192x1, .f32⟩
  | .hbm, ⟨40, _⟩ => ⟨S1x8, .f32⟩
  | .hbm, ⟨41, _⟩ => ⟨S8192x8, .f32⟩
  | .hbm, ⟨42, _⟩ => ⟨S8192x8, .f32⟩
  | .hbm, ⟨43, _⟩ => ⟨S8192x8, .f32⟩
  | .hbm, ⟨44, _⟩ => ⟨S8192x8, .f32⟩
  | .hbm, ⟨45, _⟩ => ⟨S8192x1x8, .f32⟩
  | .hbm, ⟨46, _⟩ => ⟨S8192x8, .f32⟩
  | .hbm, ⟨47, _⟩ => ⟨S8192x1x8, .f32⟩
  | .hbm, ⟨48, _⟩ => ⟨S8192x1024, .f32⟩
  | .hbm, ⟨49, _⟩ => ⟨S8192x16x64, .f32⟩
  | .hbm, ⟨50, _⟩ => ⟨S8192x16x8, .f32⟩
  | .hbm, ⟨51, _⟩ => ⟨S8192x16x8, .f32⟩
  | .hbm, ⟨52, _⟩ => ⟨S8192x16x8, .f32⟩
  | .hbm, ⟨53, _⟩ => ⟨S8192x16x8, .f32⟩
  | .hbm, ⟨54, _⟩ => ⟨S8192x16x8, .f32⟩
  | .hbm, ⟨55, _⟩ => ⟨S8192x16x8, .f32⟩
  | .hbm, ⟨56, _⟩ => ⟨S8192x16x8, .f32⟩
  | .hbm, ⟨57, _⟩ => ⟨S8192x16x8, .f32⟩
  | .hbm, ⟨58, _⟩ => ⟨S8192x16x8, .f32⟩
  | .hbm, ⟨59, _⟩ => ⟨S8192x16x8, .f32⟩
  | .hbm, ⟨60, _⟩ => ⟨S8192x16x8, .f32⟩
  | .hbm, ⟨61, _⟩ => ⟨S8192x16x8, .f32⟩
  | .hbm, ⟨62, _⟩ => ⟨S8192x16x48, .f32⟩
  | .hbm, ⟨63, _⟩ => ⟨S8192x16x64, .f32⟩
  | .hbm, ⟨64, _⟩ => ⟨S8192x1024, .f32⟩
  | .hbm, ⟨65, _⟩ => ⟨S8192x256, .f32⟩
  | .hbm, ⟨66, _⟩ => ⟨S8192x4x64, .f32⟩
  | .hbm, ⟨67, _⟩ => ⟨S8192x4x8, .f32⟩
  | .hbm, ⟨68, _⟩ => ⟨S8192x4x8, .f32⟩
  | .hbm, ⟨69, _⟩ => ⟨S8192x4x8, .f32⟩
  | .hbm, ⟨70, _⟩ => ⟨S8192x4x8, .f32⟩
  | .hbm, ⟨71, _⟩ => ⟨S8192x4x8, .f32⟩
  | .hbm, ⟨72, _⟩ => ⟨S8192x4x8, .f32⟩
  | .hbm, ⟨73, _⟩ => ⟨S8192x4x8, .f32⟩
  | .hbm, ⟨74, _⟩ => ⟨S8192x4x8, .f32⟩
  | .hbm, ⟨75, _⟩ => ⟨S8192x4x8, .f32⟩
  | .hbm, ⟨76, _⟩ => ⟨S8192x4x8, .f32⟩
  | .hbm, ⟨77, _⟩ => ⟨S8192x4x8, .f32⟩
  | .hbm, ⟨78, _⟩ => ⟨S8192x4x8, .f32⟩
  | .hbm, ⟨79, _⟩ => ⟨S8192x4x48, .f32⟩
  | .hbm, ⟨80, _⟩ => ⟨S8192x4x64, .f32⟩
  | .hbm, ⟨81, _⟩ => ⟨S8192x256, .f32⟩
  | .hbm, ⟨82, _⟩ => ⟨S8192x256, .f32⟩
  | .hbm, ⟨83, _⟩ => ⟨S8192x1536, .f32⟩
  | .hbm, ⟨84, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩

abbrev nD : Nat := 1
abbrev τ : Topo := Topo.v7x

variable {F : FTy → Type} [FloatOps F]
-- ==== AdamQkv.lean ====
abbrev S8x1024x192 : Shape := ⟨3, ![8, 1024, 192]⟩
abbrev S1x1024x192 : Shape := ⟨3, ![1, 1024, 192]⟩
abbrev S8x128x192 : Shape := ⟨3, ![8, 128, 192]⟩
abbrev S1x128x192 : Shape := ⟨3, ![1, 128, 192]⟩
abbrev S128x192 : Shape := ⟨2, ![128, 192]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x192, .f32⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S8x1024x192, .bf16⟩
  | .hbm, ⟨5, _⟩ => ⟨S1x1024x192, .f32⟩
  | .hbm, ⟨6, _⟩ => ⟨S1x1024x192, .f32⟩
  | .hbm, ⟨7, _⟩ => ⟨S1x1024x192, .f32⟩
  | .hbm, ⟨8, _⟩ => ⟨S1x1024x192, .f32⟩
  | .local _ .vmem, ⟨0, _⟩ => ⟨S8x128x192, .bf16⟩
  | .local _ .vmem, ⟨1, _⟩ => ⟨S8x128x192, .bf16⟩
  | .local _ .vmem, ⟨2, _⟩ => ⟨S1x128x192, .f32⟩
  | .local _ .vmem, ⟨3, _⟩ => ⟨S1x128x192, .f32⟩
  | .local _ .vmem, ⟨4, _⟩ => ⟨S1x128x192, .f32⟩
  | .local _ .vmem, ⟨5, _⟩ => ⟨S1x128x192, .f32⟩
  | .local _ .vmem, ⟨6, _⟩ => ⟨S1x128x192, .f32⟩
  | .local _ .vmem, ⟨7, _⟩ => ⟨S1x128x192, .f32⟩
  | .local _ .vmem, ⟨8, _⟩ => ⟨S1x128x192, .f32⟩
  | .local _ .vmem, ⟨9, _⟩ => ⟨S1x128x192, .f32⟩
  | .local _ .vmem, ⟨10, _⟩ => ⟨S1x128x192, .f32⟩
  | .local _ .vmem, ⟨11, _⟩ => ⟨S1x128x192, .f32⟩
  | .local _ .vmem, ⟨12, _⟩ => ⟨S1x128x192, .f32⟩
  | .local _ .vmem, ⟨13, _⟩ => ⟨S1x128x192, .f32⟩
  | .local _ .vmem, ⟨14, _⟩ => ⟨S1x128x192, .f32⟩
  | .local _ .vmem, ⟨15, _⟩ => ⟨S1x128x192, .f32⟩
  | _, _ => ⟨S8x1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQkvIdeal.lean ====
abbrev S8x1024x192 : Shape := ⟨3, ![8, 1024, 192]⟩
abbrev S1x1024x192 : Shape := ⟨3, ![1, 1024, 192]⟩
abbrev S8x128x192 : Shape := ⟨3, ![8, 128, 192]⟩
abbrev S1x128x192 : Shape := ⟨3, ![1, 128, 192]⟩
abbrev S128x192 : Shape := ⟨2, ![128, 192]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x192, .f32⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S8x1024x192, .bf16⟩
  | .hbm, ⟨5, _⟩ => ⟨S1x1024x192, .f32⟩
  | .hbm, ⟨6, _⟩ => ⟨S1x1024x192, .f32⟩
  | .hbm, ⟨7, _⟩ => ⟨S1x1024x192, .f32⟩
  | .hbm, ⟨8, _⟩ => ⟨S1x1024x192, .f32⟩
  | .local _ .vmem, ⟨0, _⟩ => ⟨S8x128x192, .bf16⟩
  | .local _ .vmem, ⟨1, _⟩ => ⟨S8x128x192, .bf16⟩
  | .local _ .vmem, ⟨2, _⟩ => ⟨S1x128x192, .f32⟩
  | .local _ .vmem, ⟨3, _⟩ => ⟨S1x128x192, .f32⟩
  | .local _ .vmem, ⟨4, _⟩ => ⟨S1x128x192, .f32⟩
  | .local _ .vmem, ⟨5, _⟩ => ⟨S1x128x192, .f32⟩
  | .local _ .vmem, ⟨6, _⟩ => ⟨S1x128x192, .f32⟩
  | .local _ .vmem, ⟨7, _⟩ => ⟨S1x128x192, .f32⟩
  | .local _ .vmem, ⟨8, _⟩ => ⟨S1x128x192, .f32⟩
  | .local _ .vmem, ⟨9, _⟩ => ⟨S1x128x192, .f32⟩
  | .local _ .vmem, ⟨10, _⟩ => ⟨S1x128x192, .f32⟩
  | .local _ .vmem, ⟨11, _⟩ => ⟨S1x128x192, .f32⟩
  | .local _ .vmem, ⟨12, _⟩ => ⟨S1x128x192, .f32⟩
  | .local _ .vmem, ⟨13, _⟩ => ⟨S1x128x192, .f32⟩
  | .local _ .vmem, ⟨14, _⟩ => ⟨S1x128x192, .f32⟩
  | .local _ .vmem, ⟨15, _⟩ => ⟨S1x128x192, .f32⟩
  | _, _ => ⟨S8x1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQkvRefIdeal.lean ====
abbrev S8x1024x192 : Shape := ⟨3, ![8, 1024, 192]⟩
abbrev S1x1024x192 : Shape := ⟨3, ![1, 1024, 192]⟩
abbrev S_ : Shape := ⟨0, ![]⟩
abbrev S1024x192 : Shape := ⟨2, ![1024, 192]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x192, .f32⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S_, .f32⟩
  | .hbm, ⟨5, _⟩ => ⟨S1024x192, .f32⟩
  | .hbm, ⟨6, _⟩ => ⟨S1x1024x192, .f32⟩
  | .hbm, ⟨7, _⟩ => ⟨S_, .f32⟩
  | .hbm, ⟨8, _⟩ => ⟨S1x1024x192, .f32⟩
  | .hbm, ⟨9, _⟩ => ⟨S1x1024x192, .f32⟩
  | .hbm, ⟨10, _⟩ => ⟨S_, .f32⟩
  | .hbm, ⟨11, _⟩ => ⟨S1x1024x192, .f32⟩
  | .hbm, ⟨12, _⟩ => ⟨S1x1024x192, .f32⟩
  | .hbm, ⟨13, _⟩ => ⟨S1x1024x192, .f32⟩
  | .hbm, ⟨14, _⟩ => ⟨S_, .f32⟩
  | .hbm, ⟨15, _⟩ => ⟨S1x1024x192, .f32⟩
  | .hbm, ⟨16, _⟩ => ⟨S1x1024x192, .f32⟩
  | .hbm, ⟨17, _⟩ => ⟨S1x1024x192, .f32⟩
  | .hbm, ⟨18, _⟩ => ⟨S_, .f32⟩
  | .hbm, ⟨19, _⟩ => ⟨S1x1024x192, .f32⟩
  | .hbm, ⟨20, _⟩ => ⟨S1x1024x192, .f32⟩
  | .hbm, ⟨21, _⟩ => ⟨S1x1024x192, .f32⟩
  | .hbm, ⟨22, _⟩ => ⟨S_, .f32⟩
  | .hbm, ⟨23, _⟩ => ⟨S1x1024x192, .f32⟩
  | .hbm, ⟨24, _⟩ => ⟨S1x1024x192, .f32⟩
  | .hbm, ⟨25, _⟩ => ⟨S_, .f32⟩
  | .hbm, ⟨26, _⟩ => ⟨S1x1024x192, .f32⟩
  | .hbm, ⟨27, _⟩ => ⟨S1x1024x192, .f32⟩
  | .hbm, ⟨28, _⟩ => ⟨S1x1024x192, .f32⟩
  | .hbm, ⟨29, _⟩ => ⟨S_, .f32⟩
  | .hbm, ⟨30, _⟩ => ⟨S1x1024x192, .f32⟩
  | .hbm, ⟨31, _⟩ => ⟨S1x1024x192, .f32⟩
  | .hbm, ⟨32, _⟩ => ⟨S1x1024x192, .f32⟩
  | .hbm, ⟨33, _⟩ => ⟨S_, .f32⟩
  | .hbm, ⟨34, _⟩ => ⟨S1x1024x192, .f32⟩
  | .hbm, ⟨35, _⟩ => ⟨S1x1024x192, .f32⟩
  | .hbm, ⟨36, _⟩ => ⟨S1x1024x192, .f32⟩
  | .hbm, ⟨37, _⟩ => ⟨S_, .f32⟩
  | .hbm, ⟨38, _⟩ => ⟨S1x1024x192, .f32⟩
  | .hbm, ⟨39, _⟩ => ⟨S1x1024x192, .f32⟩
  | _, _ => ⟨S8x1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamO.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .bf16⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOIdeal.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .bf16⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamORefIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S_, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S_, .f32⟩
  | .hbm, ⟨15, _⟩ => ⟨S1x128x1024, .f32⟩
  | .hbm, ⟨16, _⟩ => ⟨S1x128x1024, .f32⟩
  | .hbm, ⟨17, _⟩ => ⟨S1x128x1024, .f32⟩
  | .hbm, ⟨18, _⟩ => ⟨S_, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S_, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S_, .f32⟩
  | .hbm, ⟨34, _⟩ => ⟨S1x128x1024, .f32⟩
  | .hbm, ⟨35, _⟩ => ⟨S1x128x1024, .f32⟩
  | .hbm, ⟨36, _⟩ => ⟨S1x128x1024, .f32⟩
  | .hbm, ⟨37, _⟩ => ⟨S_, .f32⟩
  | .hbm, ⟨38, _⟩ => ⟨S1x128x1024, .f32⟩
  | .hbm, ⟨39, _⟩ => ⟨S1x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamIn.lean ====
abbrev S8x1024x512 : Shape := ⟨3, ![8, 1024, 512]⟩
abbrev S1x1024x512 : Shape := ⟨3, ![1, 1024, 512]⟩
abbrev S8x128x512 : Shape := ⟨3, ![8, 128, 512]⟩
abbrev S1x128x512 : Shape := ⟨3, ![1, 128, 512]⟩
abbrev S128x512 : Shape := ⟨2, ![128, 512]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S8x1024x512, .bf16⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x512, .f32⟩
  | .local _ .vmem, ⟨0, _⟩ => ⟨S8x128x512, .bf16⟩
  | .local _ .vmem, ⟨1, _⟩ => ⟨S8x128x512, .bf16⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x1024x512 : Shape := ⟨3, ![8, 1024, 512]⟩
abbrev S1x1024x512 : Shape := ⟨3, ![1, 1024, 512]⟩
abbrev S8x128x512 : Shape := ⟨3, ![8, 128, 512]⟩
abbrev S1x128x512 : Shape := ⟨3, ![1, 128, 512]⟩
abbrev S128x512 : Shape := ⟨2, ![128, 512]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S8x1024x512, .bf16⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x512, .f32⟩
  | .local _ .vmem, ⟨0, _⟩ => ⟨S8x128x512, .bf16⟩
  | .local _ .vmem, ⟨1, _⟩ => ⟨S8x128x512, .bf16⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x1024x512 : Shape := ⟨3, ![8, 1024, 512]⟩
abbrev S1x1024x512 : Shape := ⟨3, ![1, 1024, 512]⟩
abbrev S_ : Shape := ⟨0, ![]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S_, .f32⟩
  | .hbm, ⟨5, _⟩ => ⟨S1024x512, .f32⟩
  | .hbm, ⟨6, _⟩ => ⟨S1x1024x512, .f32⟩
  | .hbm, ⟨7, _⟩ => ⟨S_, .f32⟩
  | .hbm, ⟨8, _⟩ => ⟨S1x1024x512, .f32⟩
  | .hbm, ⟨9, _⟩ => ⟨S1x1024x512, .f32⟩
  | .hbm, ⟨10, _⟩ => ⟨S_, .f32⟩
  | .hbm, ⟨11, _⟩ => ⟨S1x1024x512, .f32⟩
  | .hbm, ⟨12, _⟩ => ⟨S1x1024x512, .f32⟩
  | .hbm, ⟨13, _⟩ => ⟨S1x1024x512, .f32⟩
  | .hbm, ⟨14, _⟩ => ⟨S_, .f32⟩
  | .hbm, ⟨15, _⟩ => ⟨S1x1024x512, .f32⟩
  | .hbm, ⟨16, _⟩ => ⟨S1x1024x512, .f32⟩
  | .hbm, ⟨17, _⟩ => ⟨S1x1024x512, .f32⟩
  | .hbm, ⟨18, _⟩ => ⟨S_, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S_, .f32⟩
  | .hbm, ⟨26, _⟩ => ⟨S1x1024x512, .f32⟩
  | .hbm, ⟨27, _⟩ => ⟨S1x1024x512, .f32⟩
  | .hbm, ⟨28, _⟩ => ⟨S1x1024x512, .f32⟩
  | .hbm, ⟨29, _⟩ => ⟨S_, .f32⟩
  | .hbm, ⟨30, _⟩ => ⟨S1x1024x512, .f32⟩
  | .hbm, ⟨31, _⟩ => ⟨S1x1024x512, .f32⟩
  | .hbm, ⟨32, _⟩ => ⟨S1x1024x512, .f32⟩
  | .hbm, ⟨33, _⟩ => ⟨S_, .f32⟩
  | .hbm, ⟨34, _⟩ => ⟨S1x1024x512, .f32⟩
  | .hbm, ⟨35, _⟩ => ⟨S1x1024x512, .f32⟩
  | .hbm, ⟨36, _⟩ => ⟨S1x1024x512, .f32⟩
  | .hbm, ⟨37, _⟩ => ⟨S_, .f32⟩
  | .hbm, ⟨38, _⟩ => ⟨S1x1024x512, .f32⟩
  | .hbm, ⟨39, _⟩ => ⟨S1x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S8x1024x512 : Shape := ⟨3, ![8, 1024, 512]⟩
abbrev S2x1024x512 : Shape := ⟨3, ![2, 1024, 512]⟩
abbrev S8x128x512 : Shape := ⟨3, ![8, 128, 512]⟩
abbrev S2x128x512 : Shape := ⟨3, ![2, 128, 512]⟩
abbrev S1x128x512 : Shape := ⟨3, ![1, 128, 512]⟩
abbrev S128x512 : Shape := ⟨2, ![128, 512]⟩

abbrev nBuf : Space → Nat
  | .hbm => 11
  | .vmem => 18
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S8x1024x512, .bf16⟩
  | .hbm, ⟨6, _⟩ => ⟨S8x1024x512, .bf16⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .local _ .vmem, ⟨0, _⟩ => ⟨S8x128x512, .bf16⟩
  | .local _ .vmem, ⟨1, _⟩ => ⟨S8x128x512, .bf16⟩
  | .local _ .vmem, ⟨2, _⟩ => ⟨S8x128x512, .bf16⟩
  | .local _ .vmem, ⟨3, _⟩ => ⟨S8x128x512, .bf16⟩
  | .local _ .vmem, ⟨4, _⟩ => ⟨S2x128x512, .f32⟩
  | .local _ .vmem, ⟨5, _⟩ => ⟨S2x128x512, .f32⟩
  | .local _ .vmem, ⟨6, _⟩ => ⟨S2x128x512, .f32⟩
  | .local _ .vmem, ⟨7, _⟩ => ⟨S2x128x512, .f32⟩
  | .local _ .vmem, ⟨8, _⟩ => ⟨S2x128x512, .f32⟩
  | .local _ .vmem, ⟨9, _⟩ => ⟨S2x128x512, .f32⟩
  | .local _ .vmem, ⟨10, _⟩ => ⟨S2x128x512, .f32⟩
  | .local _ .vmem, ⟨11, _⟩ => ⟨S2x128x512, .f32⟩
  | .local _ .vmem, ⟨12, _⟩ => ⟨S2x128x512, .f32⟩
  | .local _ .vmem, ⟨13, _⟩ => ⟨S2x128x512, .f32⟩
  | .local _ .vmem, ⟨14, _⟩ => ⟨S2x128x512, .f32⟩
  | .local _ .vmem, ⟨15, _⟩ => ⟨S2x128x512, .f32⟩
  | .local _ .vmem, ⟨16, _⟩ => ⟨S2x128x512, .f32⟩
  | .local _ .vmem, ⟨17, _⟩ => ⟨S2x128x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpIdeal.lean ====
abbrev S8x1024x512 : Shape := ⟨3, ![8, 1024, 512]⟩
abbrev S2x1024x512 : Shape := ⟨3, ![2, 1024, 512]⟩
abbrev S8x128x512 : Shape := ⟨3, ![8, 128, 512]⟩
abbrev S2x128x512 : Shape := ⟨3, ![2, 128, 512]⟩
abbrev S1x128x512 : Shape := ⟨3, ![1, 128, 512]⟩
abbrev S128x512 : Shape := ⟨2, ![128, 512]⟩

abbrev nBuf : Space → Nat
  | .hbm => 11
  | .vmem => 18
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S8x1024x512, .bf16⟩
  | .hbm, ⟨6, _⟩ => ⟨S8x1024x512, .bf16⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .local _ .vmem, ⟨0, _⟩ => ⟨S8x128x512, .bf16⟩
  | .local _ .vmem, ⟨1, _⟩ => ⟨S8x128x512, .bf16⟩
  | .local _ .vmem, ⟨2, _⟩ => ⟨S8x128x512, .bf16⟩
  | .local _ .vmem, ⟨3, _⟩ => ⟨S8x128x512, .bf16⟩
  | .local _ .vmem, ⟨4, _⟩ => ⟨S2x128x512, .f32⟩
  | .local _ .vmem, ⟨5, _⟩ => ⟨S2x128x512, .f32⟩
  | .local _ .vmem, ⟨6, _⟩ => ⟨S2x128x512, .f32⟩
  | .local _ .vmem, ⟨7, _⟩ => ⟨S2x128x512, .f32⟩
  | .local _ .vmem, ⟨8, _⟩ => ⟨S2x128x512, .f32⟩
  | .local _ .vmem, ⟨9, _⟩ => ⟨S2x128x512, .f32⟩
  | .local _ .vmem, ⟨10, _⟩ => ⟨S2x128x512, .f32⟩
  | .local _ .vmem, ⟨11, _⟩ => ⟨S2x128x512, .f32⟩
  | .local _ .vmem, ⟨12, _⟩ => ⟨S2x128x512, .f32⟩
  | .local _ .vmem, ⟨13, _⟩ => ⟨S2x128x512, .f32⟩
  | .local _ .vmem, ⟨14, _⟩ => ⟨S2x128x512, .f32⟩
  | .local _ .vmem, ⟨15, _⟩ => ⟨S2x128x512, .f32⟩
  | .local _ .vmem, ⟨16, _⟩ => ⟨S2x128x512, .f32⟩
  | .local _ .vmem, ⟨17, _⟩ => ⟨S2x128x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S8x1024x512 : Shape := ⟨3, ![8, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1x1024x512, .f32⟩
  | .hbm, ⟨10, _⟩ => ⟨S1x1024x512, .f32⟩
  | .hbm, ⟨11, _⟩ => ⟨S2x1024x512, .f32⟩
  | .hbm, ⟨12, _⟩ => ⟨S_, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S2x1024x512, .f32⟩
  | .hbm, ⟨23, _⟩ => ⟨S_, .f32⟩
  | .hbm, ⟨24, _⟩ => ⟨S2x1024x512, .f32⟩
  | .hbm, ⟨25, _⟩ => ⟨S2x1024x512, .f32⟩
  | .hbm, ⟨26, _⟩ => ⟨S2x1024x512, .f32⟩
  | .hbm, ⟨27, _⟩ => ⟨S_, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2x1024x512, .f32⟩
  | .hbm, ⟨38, _⟩ => ⟨S_, .f32⟩
  | .hbm, ⟨39, _⟩ => ⟨S2x1024x512, .f32⟩
  | .hbm, ⟨40, _⟩ => ⟨S2x1024x512, .f32⟩
  | .hbm, ⟨41, _⟩ => ⟨S2x1024x512, .f32⟩
  | .hbm, ⟨42, _⟩ => ⟨S_, .f32⟩
  | .hbm, ⟨43, _⟩ => ⟨S2x1024x512, .f32⟩
  | .hbm, ⟨44, _⟩ => ⟨S2x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamDown.lean ====
abbrev S8x512x1024 : Shape := ⟨3, ![8, 512, 1024]⟩
abbrev S2x512x1024 : Shape := ⟨3, ![2, 512, 1024]⟩
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 11
  | .vmem => 18
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S8x512x1024, .bf16⟩
  | .hbm, ⟨6, _⟩ => ⟨S8x512x1024, .bf16⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x1024, .f32⟩
  | .local _ .vmem, ⟨9, _⟩ => ⟨S2x128x1024, .f32⟩
  | .local _ .vmem, ⟨10, _⟩ => ⟨S2x128x1024, .f32⟩
  | .local _ .vmem, ⟨11, _⟩ => ⟨S2x128x1024, .f32⟩
  | .local _ .vmem, ⟨12, _⟩ => ⟨S2x128x1024, .f32⟩
  | .local _ .vmem, ⟨13, _⟩ => ⟨S2x128x1024, .f32⟩
  | .local _ .vmem, ⟨14, _⟩ => ⟨S2x128x1024, .f32⟩
  | .local _ .vmem, ⟨15, _⟩ => ⟨S2x128x1024, .f32⟩
  | .local _ .vmem, ⟨16, _⟩ => ⟨S2x128x1024, .f32⟩
  | .local _ .vmem, ⟨17, _⟩ => ⟨S2x128x1024, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S8x512x1024 : Shape := ⟨3, ![8, 512, 1024]⟩
abbrev S2x512x1024 : Shape := ⟨3, ![2, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S1x512x1024, .f32⟩
  | .hbm, ⟨10, _⟩ => ⟨S1x512x1024, .f32⟩
  | .hbm, ⟨11, _⟩ => ⟨S2x512x1024, .f32⟩
  | .hbm, ⟨12, _⟩ => ⟨S_, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S2x512x1024, .f32⟩
  | .hbm, ⟨23, _⟩ => ⟨S_, .f32⟩
  | .hbm, ⟨24, _⟩ => ⟨S2x512x1024, .f32⟩
  | .hbm, ⟨25, _⟩ => ⟨S2x512x1024, .f32⟩
  | .hbm, ⟨26, _⟩ => ⟨S2x512x1024, .f32⟩
  | .hbm, ⟨27, _⟩ => ⟨S_, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | .hbm, ⟨37, _⟩ => ⟨S2x512x1024, .f32⟩
  | .hbm, ⟨38, _⟩ => ⟨S_, .f32⟩
  | .hbm, ⟨39, _⟩ => ⟨S2x512x1024, .f32⟩
  | .hbm, ⟨40, _⟩ => ⟨S2x512x1024, .f32⟩
  | .hbm, ⟨41, _⟩ => ⟨S2x512x1024, .f32⟩
  | .hbm, ⟨42, _⟩ => ⟨S_, .f32⟩
  | .hbm, ⟨43, _⟩ => ⟨S2x512x1024, .f32⟩
  | .hbm, ⟨44, _⟩ => ⟨S2x512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.NormGrad.lean ====
/-
  The gradient through a root-mean-square normalisation, for one row: the form a hand-written backward pass uses and
  the form differentiation gives are the same extended real, for every row and every incoming gradient.
-/
module

public import Idealize.ShloMosaic.Lib.Pointwise
public import Idealize.ShloMosaic.Lib.Pipeline.ValueKit

@[expose] public section

set_option maxRecDepth 16384

noncomputable section

open Idealize.ShloMosaic

namespace Cert.NormGrad

theorem two : Ideal.ofBits .f32 0x40000000#32 = ((2 : ℝ) : EReal) := by
  simp [Ideal.ofBits, Ideal.ieee, -EReal.coe_mul, -EReal.coe_neg]; norm_num

theorem width : Ideal.ofBits .f32 0x44800000#32 = ((1024 : ℝ) : EReal) := by
  simp [Ideal.ofBits, Ideal.ieee, -EReal.coe_mul, -EReal.coe_neg]; norm_num

theorem neg_half : Ideal.ofBits .f32 0xBF000000#32 = ((-(1 / 2) : ℝ) : EReal) := by
  simp [Ideal.ofBits, Ideal.ieee, -EReal.coe_mul, -EReal.coe_neg]; norm_num

theorem eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The mean of the squares plus the small constant. -/
def ms {n : ℕ} (x : Fin n → EReal) : EReal :=
  Ideal.div (∑ k, x k * x k) (Ideal.ofBits .f32 0x44800000#32) + Ideal.ofBits .f32 0x3727C5AC#32

/-- The row's scale. -/
def scale {n : ℕ} (x : Fin n → EReal) : EReal := Ideal.rsqrt (ms x)

/-- The gradient to entry `i` of the row from the gradients `d` to the scaled entries. -/
def grad {n : ℕ} (x d : Fin n → EReal) (i : Fin n) : EReal :=
  scale x * (d i - x i * scale x * Ideal.div (∑ k, d k * (x k * scale x)) (Ideal.ofBits .f32 0x44800000#32))

theorem mul_sum_real {ι : Type*} (s : Finset ι) (r : ℝ) (hr : 0 ≤ r) (f : ι → EReal) :
    ∑ i ∈ s, (r : EReal) * f i = (r : EReal) * ∑ i ∈ s, f i := by
  classical
  induction s using Finset.induction_on with
  | empty => simp
  | insert a s ha ih =>
    rw [Finset.sum_insert ha, Finset.sum_insert ha, ih,
      EReal.left_distrib_of_nonneg_of_ne_top (by exact_mod_cast hr) (EReal.coe_ne_top r)]

theorem sum_coe {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sq_nonneg (a : EReal) : 0 ≤ a * a := by
  induction a with
  | bot => simp
  | top => simp
  | coe r => exact_mod_cast mul_self_nonneg r

theorem div_width (a : EReal) : Ideal.div a (Ideal.ofBits .f32 0x44800000#32) = a * ((1 / 1024 : ℝ) : EReal) := by
  rw [width, Ideal.div_coe (by norm_num)]

/-- Either the scale is zero and the mean square infinite, or the row, its mean square and its scale are real. -/
theorem scale_cases {n : ℕ} (x : Fin n → EReal) :
    (ms x = ⊤ ∧ scale x = 0) ∨ ∃ (y : Fin n → ℝ) (w : ℝ), 0 < w ∧ (∀ k, x k = (y k : EReal)) ∧ ms x = (w : EReal)
      ∧ scale x = (((Real.sqrt w)⁻¹ : ℝ) : EReal) := by
  obtain ⟨e, he, hee⟩ := eps_pos
  have hs : 0 ≤ ∑ k, x k * x k := Finset.sum_nonneg fun k _ => sq_nonneg (x k)
  by_cases ht : ∑ k, x k * x k = ⊤
  · left
    have : ms x = ⊤ := by
      rw [ms, ht, div_width, hee, EReal.top_mul_coe_of_pos (by norm_num)]; rfl
    exact ⟨this, by rw [scale, this]; rfl⟩
  · right
    have hk : ∀ k, x k * x k ≠ ⊤ := fun k h => ht (top_le_iff.mp
      (h ▸ Finset.single_le_sum (f := fun k => x k * x k) (fun k _ => sq_nonneg (x k)) (Finset.mem_univ k)))
    have hr : ∀ k, ∃ y : ℝ, x k = (y : EReal) := fun k => by
      have := hk k
      generalize x k = a at this
      induction a with
      | bot => simp at this
      | top => simp at this
      | coe r => exact ⟨r, rfl⟩
    choose y hy using hr
    have hsum : ∑ k, x k * x k = ((∑ k, y k * y k : ℝ) : EReal) := by
      rw [sum_coe]
      exact Finset.sum_congr rfl fun k _ => by rw [hy k, EReal.coe_mul]
    have hw : 0 < (∑ k, y k * y k) * (1 / 1024) + e :=
      add_pos_of_nonneg_of_pos (mul_nonneg (Finset.sum_nonneg fun k _ => mul_self_nonneg _) (by norm_num)) he
    have hms : ms x = (((∑ k, y k * y k) * (1 / 1024) + e : ℝ) : EReal) := by
      rw [ms, hsum, div_width, hee]; norm_cast
    refine ⟨y, _, hw, hy, hms, ?_⟩
    rw [scale, hms]
    show (if _ < 0 then _ else if _ = 0 then _ else _) = _
    rw [if_neg (not_lt.mpr hw.le), if_neg hw.ne']

/-- The scale is a real that is not negative. -/
theorem scale_real {n : ℕ} (x : Fin n → EReal) : ∃ r : ℝ, 0 ≤ r ∧ scale x = (r : EReal) := by
  rcases scale_cases x with ⟨_, h⟩ | ⟨_, w, _, _, _, h⟩
  · exact ⟨0, le_rfl, h⟩
  · exact ⟨_, inv_nonneg.mpr (Real.sqrt_nonneg w), h⟩

/-- A scaled entry is real. -/
theorem scaled_real {n : ℕ} (x : Fin n → EReal) (i : Fin n) : ∃ r : ℝ, x i * scale x = (r : EReal) := by
  rcases scale_cases x with ⟨_, h⟩ | ⟨y, w, _, hy, _, h⟩
  · exact ⟨0, by rw [h, mul_zero]; rfl⟩
  · exact ⟨_, by rw [hy i, h, ← EReal.coe_mul]⟩

/-- What differentiation gives is `grad`. -/
theorem vjp {n : ℕ} (x d : Fin n → EReal) (i : Fin n) :
    d i * scale x + Ideal.div ((∑ k, x k * d k) * (Ideal.ofBits .f32 0xBF000000#32 * Ideal.div (scale x) (ms x)))
        (Ideal.ofBits .f32 0x44800000#32) * (Ideal.ofBits .f32 0x40000000#32 * x i) = grad x d i := by
  rw [grad, div_width, div_width]
  rcases scale_cases x with ⟨hm, hs⟩ | ⟨y, w, hw, hy, hm, hs⟩
  · rw [hs, hm]
    simp [Ideal.div]
  · have hq : 0 < Real.sqrt w := Real.sqrt_pos.mpr hw
    have hS : ∑ k, d k * (x k * scale x) = ((Real.sqrt w)⁻¹ : ℝ) * ∑ k, x k * d k := by
      rw [← mul_sum_real _ _ (inv_nonneg.mpr hq.le)]
      exact Finset.sum_congr rfl fun k _ => by rw [hs]; ac_rfl
    rw [hS, hs, hm, Ideal.div_coe hw.ne', neg_half, two, hy i]
    generalize ∑ k, x k * d k = S
    rw [sub_eq_add_neg, EReal.left_distrib_of_nonneg_of_ne_top (by exact_mod_cast (inv_nonneg.mpr hq.le)) (EReal.coe_ne_top _),
      mul_comm (d i)]
    congr 1
    have hsq : Real.sqrt w * Real.sqrt w = w := Real.mul_self_sqrt hw.le
    have e1 : S * (((-(1 / 2) : ℝ) : EReal) * ((((Real.sqrt w)⁻¹ : ℝ) : EReal) * ((1 / w : ℝ) : EReal))) * ((1 / 1024 : ℝ) : EReal)
        * (((2 : ℝ) : EReal) * (y i : EReal)) = S * ((-(1 / 2) * ((Real.sqrt w)⁻¹ * (1 / w)) * (1 / 1024) * (2 * y i) : ℝ) : EReal) := by
      push_cast; ac_rfl
    have e2 : (((Real.sqrt w)⁻¹ : ℝ) : EReal) * -((y i : EReal) * (((Real.sqrt w)⁻¹ : ℝ) : EReal)
        * ((((Real.sqrt w)⁻¹ : ℝ) : EReal) * S * ((1 / 1024 : ℝ) : EReal)))
        = S * ((-((Real.sqrt w)⁻¹ * (y i * (Real.sqrt w)⁻¹ * ((Real.sqrt w)⁻¹ * (1 / 1024)))) : ℝ) : EReal) := by
      rw [mul_neg, EReal.coe_neg, mul_neg]
      push_cast; congr 1; ac_rfl
    rw [e1, e2]
    congr 2
    have : (1 : ℝ) / w = (Real.sqrt w)⁻¹ * (Real.sqrt w)⁻¹ := by
      rw [← mul_inv, hsq, one_div]
    rw [this]; ring

/-- A finite sum of reals is real. -/
theorem sum_real {ι : Type*} (s : Finset ι) (f : ι → EReal) (h : ∀ i, ∃ r : ℝ, f i = (r : EReal)) : ∃ r : ℝ, ∑ i ∈ s, f i = (r : EReal) := by
  choose g hg using h
  exact ⟨∑ i ∈ s, g i, by rw [sum_coe]; exact Finset.sum_congr rfl fun i _ => hg i⟩

/-- A product of reals is real. -/
theorem mul_real {a b : EReal} (ha : ∃ r : ℝ, a = (r : EReal)) (hb : ∃ r : ℝ, b = (r : EReal)) : ∃ r : ℝ, a * b = (r : EReal) := by
  obtain ⟨x, rfl⟩ := ha
  obtain ⟨y, rfl⟩ := hb
  exact ⟨x * y, (EReal.coe_mul x y).symm⟩

/-- The SiLU gate's gradient, factored and term by term, for a real incoming gradient and any gate. -/
theorem silu (p : ℝ) (g : EReal) : (p : EReal) * Ideal.logistic g + g * (p : EReal) * (Ideal.logistic g * (1 - Ideal.logistic g))
    = (p : EReal) * (Ideal.logistic g * (1 + g * (1 - Ideal.logistic g))) := by
  induction g with
  | bot =>
    have h : Ideal.logistic ⊥ = 0 := by
      show Ideal.div 1 (1 + Ideal.exp (-⊥)) = 0
      rw [EReal.neg_bot]
      show Ideal.div 1 (1 + ⊤) = 0
      have : (1 : EReal) + ⊤ = ⊤ := EReal.coe_add_top 1
      rw [this]
      simp [Ideal.div]
    rw [h]; simp
  | top =>
    have h : Ideal.logistic ⊤ = 1 := by
      show Ideal.div 1 (1 + Ideal.exp (-⊤)) = 1
      rw [EReal.neg_top]
      show Ideal.div 1 (1 + 0) = 1
      simp [Ideal.div]
    rw [h]
    have h1 : (1 : EReal) - 1 = 0 := by
      show ((1 : ℝ) : EReal) - ((1 : ℝ) : EReal) = 0
      rw [← EReal.coe_sub, sub_self, EReal.coe_zero]
    simp [h1]
  | coe r =>
    have h : Ideal.logistic (r : EReal) = ((1 / (1 + Real.exp (-r)) : ℝ) : EReal) := by
      show Ideal.div 1 (1 + Ideal.exp (-(r : EReal))) = _
      rw [← EReal.coe_neg]
      show Ideal.div 1 (1 + ((Real.exp (-r) : ℝ) : EReal)) = _
      rw [← EReal.coe_one, ← EReal.coe_add, Ideal.div_coe (by positivity), ← EReal.coe_mul, one_mul]
    rw [h]
    norm_cast
    ring_nf

end Cert.NormGrad

end
-- ==== Proof.GateValue.lean ====
/-
  The gradient through the gated recurrence's output (hgrn_out_bwd): the output projection, the SiLU gate and the
  normalisation, from what one grid point stores to the whole arrays.
-/
module

public import proofs.«01_k».proof.Proof.Gen.GateIdeal.Value
public import proofs.«01_k».proof.Proof.Gen.GateRefIdeal.Read
public import proofs.«01_k».proof.Proof.NormGrad
public import proofs.«01_k».proof.Proof.Gen.Pre_finite_cotangent
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Value

open Cert.GateIdeal Cert.GateIdeal.Gen

variable (m : (ℓ : Loc nD τ sig) → Buf (Elt Ideal) ℓ)

/-- The gradient to the gated output: the incoming gradient times the transposed projection. -/
def back (dx : FVec Ideal S8192x1024 .f32) (w : FVec Ideal S1024x1024 .f32) (i : Fin 8192) (j : Fin 1024) : EReal :=
  ∑ k : Fin 1024, dx (ix2 i k) * w (ix2 j k)

/-- The gate's entry of the projected input: its last quarter. -/
def gate (z : FVec Ideal S8192x4096 .f32) (i : Fin 8192) (j : Fin 1024) : EReal := z (ix2 i ⟨3072 + j.val, by omega⟩)

/-- The gradient to the normalised output. -/
def normed (dx : FVec Ideal S8192x1024 .f32) (z : FVec Ideal S8192x4096 .f32) (w : FVec Ideal S1024x1024 .f32)
    (i : Fin 8192) (j : Fin 1024) : EReal :=
  back dx w i j * (gate z i j * Ideal.logistic (gate z i j))

def outGrad (dx : FVec Ideal S8192x1024 .f32) (o : FVec Ideal S8192x1024 .f32) (z : FVec Ideal S8192x4096 .f32)
    (w : FVec Ideal S1024x1024 .f32) (g : FVec Ideal S1024 .f32) : FVec Ideal S8192x1024 .f32 :=
  fun i => NormGrad.grad (fun k => o (ix2 (i 0) k)) (fun k => normed dx z w (i 0) k * g (ix1 k)) (i 1)

def gateGrad (dx : FVec Ideal S8192x1024 .f32) (o : FVec Ideal S8192x1024 .f32) (z : FVec Ideal S8192x4096 .f32)
    (w : FVec Ideal S1024x1024 .f32) (g : FVec Ideal S1024 .f32) : FVec Ideal S8192x1024 .bf16 :=
  fun i => back dx w (i 0) (i 1) * (o i * NormGrad.scale (fun k => o (ix2 (i 0) k)) * g (ix1 (i 1)))
    * (Ideal.logistic (gate z (i 0) (i 1)) * (1 + gate z (i 0) (i 1) * (1 - Ideal.logistic (gate z (i 0) (i 1)))))

def gainGrad (dx : FVec Ideal S8192x1024 .f32) (o : FVec Ideal S8192x1024 .f32) (z : FVec Ideal S8192x4096 .f32)
    (w : FVec Ideal S1024x1024 .f32) : FVec Ideal S1x1024 .f32 :=
  fun i => ∑ t : Fin 8192, normed dx z w t (i 1) * (o (ix2 t (i 1)) * NormGrad.scale fun k => o (ix2 t k))

theorem idx : ∀ t : Fin cfg0.N, win0_0.index t = ![t.val, 0] ∧ win0_1.index t = ![t.val, 0] ∧ win0_2.index t = ![t.val, 3]
    ∧ win0_3.index t = ![0, 0] ∧ win0_4.index t = ![0, 0] ∧ win0_5.index t = ![t.val, 0] ∧ win0_6.index t = ![t.val, 0]
    ∧ win0_7.index t = ![0, 0] :=
  (by decide +kernel : ∀ t : Fin grid0.N, _)

theorem point5 (c : Dev nD) (t : Fin cfg0.N) (y) : (outsAt0 m c t.val t.isLt).1 y
    = outGrad (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  by_cases h0 : t.val % 16 = 0
  on_goal 1 => rw [outsAt0_A m c t h0]
  on_goal 2 => rw [outsAt0_B m c t h0]
  all_goals
    try unfold out0_A_5
    try unfold out0_B_5
    frame_out
    pointwise [k0_pay1, k0_pay2, k0_pay3, k0_pay4, k0_pay5, k0_pay6, k0_pay7, k0_pay8, k0_pay9, k0_pay10, outGrad, normed, back, gate,
      NormGrad.grad, NormGrad.scale, NormGrad.ms]
    blk_point [iblk, V, idx t]

theorem point6 (c : Dev nD) (t : Fin cfg0.N) (y) : (outsAt0 m c t.val t.isLt).2.1 y
    = gateGrad (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  by_cases h0 : t.val % 16 = 0
  on_goal 1 => rw [outsAt0_A m c t h0]
  on_goal 2 => rw [outsAt0_B m c t h0]
  all_goals
    try unfold out0_A_6
    try unfold out0_B_6
    frame_out
    pointwise [k0_pay1, k0_pay2, k0_pay3, k0_pay4, k0_pay5, k0_pay6, k0_pay7, k0_pay8, k0_pay9, k0_pay10, gateGrad, normed, back, gate,
      NormGrad.grad, NormGrad.scale, NormGrad.ms]
    blk_point [iblk, V, idx t]

/-- What one point adds to the gain's gradient. -/
def blockGain (x0 : FVec Ideal S512x1024 .f32) (x1 : FVec Ideal S512x1024 .f32) (x2 : FVec Ideal S512x1024 .f32)
    (x3 : FVec Ideal S1024x1024 .bf16) : FVec Ideal S1x1024 .f32 :=
  fun y => ∑ i : Fin 512, (∑ k : Fin 1024, x0 (ix2 i k) * x3 (ix2 (y 1) k)) * (x2 (ix2 i (y 1)) * Ideal.logistic (x2 (ix2 i (y 1))))
    * (x1 (ix2 i (y 1)) * NormGrad.scale fun k => x1 (ix2 i k))

theorem step_A (c : Dev nD) (t : Fin cfg0.N) (h0 : t.val % 16 = 0) (y) : (outsAt0 m c t.val t.isLt).2.2 y
    = 0 + blockGain (iblk m c 0 t) (iblk m c 1 t) (iblk m c 2 t) (iblk m c 3 t) y := by
  rw [outsAt0_A m c t h0]
  generalize iblk m c 0 t = x0, iblk m c 1 t = x1, iblk m c 2 t = x2, iblk m c 3 t = x3, iblk m c 4 t = x4
  unfold out0_A_7
  frame_out
  pointwise [k0_pay2, k0_pay3, k0_pay4, k0_pay6, k0_pay7, k0_pay8, k0_pay10, blockGain, NormGrad.scale, NormGrad.ms]

theorem step_B (c : Dev nD) (t : Fin cfg0.N) (h0 : ¬t.val % 16 = 0) (y) : (outsAt0 m c t.val t.isLt).2.2 y
    = (outsAt0 m c (t.val - 1) (by omega)).2.2 y + blockGain (iblk m c 0 t) (iblk m c 1 t) (iblk m c 2 t) (iblk m c 3 t) y := by
  rw [outsAt0_B m c t h0]
  generalize iblk m c 0 t = x0, iblk m c 1 t = x1, iblk m c 2 t = x2, iblk m c 3 t = x3, iblk m c 4 t = x4
  unfold out0_B_7
  frame_out
  pointwise [k0_pay2, k0_pay4, k0_pay6, k0_pay7, k0_pay8, k0_pay10, blockGain, NormGrad.scale, NormGrad.ms]

theorem final5 (c : Dev nD) : (dats m 0 c).arrAt 5 (cfgs 0).N
    = outGrad (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  exact point5 m c t y

theorem final6 (c : Dev nD) : (dats m 0 c).arrAt 6 (cfgs 0).N
    = gateGrad (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  exact point6 m c t y

theorem final7 (c : Dev nD) : (dats m 0 c).arrAt 7 (cfgs 0).N
    = gainGrad (m ((c : Thread nD τ).loc main_arg0)) (m ((c : Thread nD τ).loc main_arg1)) (m ((c : Thread nD τ).loc main_arg2))
        (m ((c : Thread nD τ).loc main_arg3)) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0) _
    (fun t h j => step_A m c t h j) (fun t h j => step_B m c t h j) (le_of_eq N_0) t0_15 rfl _, zero_add]
  unfold gainGrad blockGain
  refine Fin.sum_mul_add_congr fun s k hl => ?_
  idx_vars j
  pointwise [normed, back, gate, NormGrad.scale, NormGrad.ms]
  blk_point [iblk, V, idx s]

end Cert.GateIdeal.Value

namespace Cert.GateRefIdeal.Read

open Cert.GateRefIdeal Cert.GateRefIdeal.Gen
open Cert.GateIdeal.Value (outGrad gateGrad gainGrad normed back gate)

theorem value_o (dx : FVec Ideal S8192x1024 .f32) (o : FVec Ideal S8192x1024 .f32) (z : FVec Ideal S8192x4096 .f32)
    (w : FVec Ideal S1024x1024 .f32) (g : FVec Ideal S1024 .f32) :
    val_main_v46 (F := Ideal) dx o z w g = outGrad dx o z w g := by
  funext i
  idx_vars i
  show _ = NormGrad.grad (fun k => o (ix2 i0 k)) (fun k => normed dx z w i0 k * g (ix1 k)) i1
  rw [← NormGrad.vjp]
  pointwise [val_main_v46, val_main_v45, val_main_v44, val_main_v43, val_main_v42, val_main_v41, val_main_v40, val_main_v39, val_main_v38,
    val_main_v37, val_main_v36, val_main_v35, val_main_v33, val_main_v32, val_main_v27, val_main_v25, val_main_v22_0, val_main_v22_2,
    val_main_v19, val_main_v16, val_main_v15, val_main_v14, val_main_v13, val_main_v12, val_main_v11, val_main_v10, val_main_v9,
    val_main_v8, val_main_v7, val_main_v6, val_main_v5, val_main_v4, val_main_v3, val_main_call0_v0, val_main_call0_v1,
    val_main_call0_v2, val_main_call0_v3, val_main_call0_v4, val_main_call0_cst, val_main_call0_cst_0, val_main_cst, val_main_cst_0, val_main_cst_1,
    val_main_cst_2, val_main_cst_3, val_main_cst_6, val_main_cst_7, val_main_cst_8, NormGrad.scale, NormGrad.ms, normed, back, gate,
    Ideal.logistic]
  rw [Fin.sum_univ_one]

theorem value_gain (dx : FVec Ideal S8192x1024 .f32) (o : FVec Ideal S8192x1024 .f32) (z : FVec Ideal S8192x4096 .f32)
    (w : FVec Ideal S1024x1024 .f32) : val_main_v48 (F := Ideal) dx o z w = gainGrad dx o z w := by
  funext i
  idx_vars i
  pointwise [val_main_v48, val_main_v34, val_main_v31, val_main_v30, val_main_v29, val_main_v27, val_main_v25, val_main_v22_0, val_main_v22_2,
    val_main_v18, val_main_v17, val_main_v13, val_main_v12, val_main_v11, val_main_v10, val_main_v9,
    val_main_v8, val_main_v7, val_main_v4, val_main_v3, val_main_call0_v0, val_main_call0_v1,
    val_main_call0_v2, val_main_call0_v3, val_main_call0_v4, val_main_call0_cst, val_main_call0_cst_0, val_main_cst_0, val_main_cst_1,
    val_main_cst_2, val_main_cst_4, val_main_cst_5, NormGrad.scale, NormGrad.ms, normed, back, gate, gainGrad,
    Ideal.logistic]
  rw [Fin.sum_univ_one]
  exact Finset.sum_congr rfl fun t _ => mul_comm _ _

theorem value_gate (dx : FVec Ideal S8192x1024 .f32) (o : FVec Ideal S8192x1024 .f32) (z : FVec Ideal S8192x4096 .f32)
    (w : FVec Ideal S1024x1024 .f32) (g : FVec Ideal S1024 .f32)
    (hx : ∀ i, ∃ r : ℝ, dx i = (r : EReal)) (hw : ∀ i, ∃ r : ℝ, w i = (r : EReal)) (hg : ∀ i, ∃ r : ℝ, g i = (r : EReal)) :
    val_main_v47 (F := Ideal) dx o z w g = gateGrad dx o z w g := by
  funext i
  idx_vars i
  pointwise [val_main_v47, val_main_v28, val_main_call1_v0, val_main_call1_v1, val_main_call1_v2, val_main_v26, val_main_v25, val_main_v22_0,
    val_main_v22_1, val_main_v22_2, val_main_v21, val_main_v20, val_main_v19,
    val_main_v18, val_main_v17, val_main_v13, val_main_v12, val_main_v11, val_main_v10, val_main_v9,
    val_main_v8, val_main_v7, val_main_v4, val_main_v3, val_main_call0_v0, val_main_call0_v1,
    val_main_call0_v2, val_main_call0_v3, val_main_call0_v4, val_main_call0_cst, val_main_call0_cst_0, val_main_call0_cst_1,
    val_main_call0_v6, val_main_call0_v7, val_main_cst_0, val_main_cst_1,
    val_main_cst_2, NormGrad.ms, NormGrad.scale, Ideal.logistic, normed, back, gate, gateGrad]
  have hp : ∃ p : ℝ, o (ix2 i0 i1) * NormGrad.scale (fun k => o (ix2 i0 k)) * g (ix1 i1) * ∑ x, dx (ix2 i0 x) * w (ix2 i1 x) = (p : EReal) :=
    NormGrad.mul_real (NormGrad.mul_real (NormGrad.scaled_real (fun k => o (ix2 i0 k)) i1) (hg _))
      (NormGrad.sum_real _ _ fun k => NormGrad.mul_real (hx _) (hw _))
  obtain ⟨p, hp⟩ := hp
  have := NormGrad.silu p (z (ix2 i0 ⟨3072 + i1.val, by omega⟩))
  rw [← hp] at this
  simp only [NormGrad.ms, NormGrad.scale, Ideal.logistic] at this
  refine this.trans ?_
  rw [mul_comm (∑ x, dx (ix2 i0 x) * w (ix2 i1 x))]

end Cert.GateRefIdeal.Read

namespace Cert.Proof

/-- An extended real whose absolute value compares below infinity is real. -/
theorem real_of_cmp {a : EReal} (h : Ideal.cmp .olt (max a (-a)) (Ideal.ofBits .f32 0x7F800000#32) = 1#1) : ∃ r : ℝ, a = (r : EReal) := by
  have hi : Ideal.ofBits .f32 0x7F800000#32 = ⊤ := by simp [Ideal.ofBits, Ideal.ieee]
  rw [hi] at h
  induction a with
  | bot => simp [Ideal.cmp] at h
  | top => simp [Ideal.cmp] at h
  | coe r => exact ⟨r, rfl⟩

theorem algebraic_gate : Cert.algebraic_GateIdeal_GateRefIdeal_pre_finite_cotangent := by
  pair_intro
  · run_from Cert.GateIdeal.Gen.run_main m g
  · run_from Cert.GateRefIdeal.Value.run m' g'
    · rw [Cert.GateRefIdeal.Read.val_main_v46_eq, Cert.GateRefIdeal.Read.value_o]
      exact (Cert.GateIdeal.Value.final5 m c).symm
    · rw [Cert.GateRefIdeal.Read.val_main_v47_eq, Cert.GateRefIdeal.Read.value_gate _ _ _ _ _ (fun i => real_of_cmp (congrFun (hpre c).1 i))
        (fun i => real_of_cmp (congrFun (hpre c).2.1 i)) (fun i => real_of_cmp (congrFun (hpre c).2.2 i))]
      exact (Cert.GateIdeal.Value.final6 m c).symm
    · rw [Cert.GateRefIdeal.Read.val_main_v48_eq, Cert.GateRefIdeal.Read.value_gain]
      exact (Cert.GateIdeal.Value.final7 m c).symm

end Cert.Proof

end
-- ==== Proof.ActValue.lean ====
/-
  The gradient through the squared ReLU and the down projection (mlp1_bwd_act): what one grid point stores, read at an
  index, and the whole array against the reference's term.
-/
module

public import proofs.«01_k».proof.Proof.Gen.ActIdeal.Value
public import proofs.«01_k».proof.Proof.Gen.ActRefIdeal.Read
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ActIdeal.Value

open Cert.ActIdeal Cert.ActIdeal.Gen

variable (m : (ℓ : Loc nD τ sig) → Buf (Elt Ideal) ℓ)

/-- The incoming gradient times the transposed projection, times twice the positive part. -/
def actGrad (dy : FVec Ideal S8192x1024 .f32) (u : FVec Ideal S8192x4096 .f32) (w : FVec Ideal S4096x1024 .f32) :
    FVec Ideal S8192x4096 .bf16 :=
  fun i => (∑ k : Fin 1024, dy (ix2 (i 0) k) * w (ix2 (i 1) k)) * (Ideal.ofBits .f32 0x40000000#32 * max (u i) 0)

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem point (c : Dev nD) (t : Fin cfg0.N) (y) : out0_3 (iblk m c 0 t) (iblk m c 1 t) (iblk m c 2 t) y
    = actGrad (m ((c : Thread nD τ).loc main_arg0)) (m ((c : Thread nD τ).loc main_arg1)) (m ((c : Thread nD τ).loc main_arg2))
        (((cfg0.win 3).blk t).view.emb y) := by
  unfold out0_3
  canon_tiles x h
  all_goals
    pointwise [k0_pay1, k0_pay2, k0_pay3, k0_pay4, k0_pay5, k0_pay6, k0_pay7, actGrad]
    blk_point [iblk, V, idx t]

/-- The result array after the run. -/
theorem final (c : Dev nD) : (dats m 0 c).arrAt 3 (cfgs 0).N
    = actGrad (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.ActIdeal.Value

namespace Cert.ActRefIdeal.Read

open Cert.ActRefIdeal Cert.ActRefIdeal.Gen

/-- The reference's gradient: where the pre-activation is not positive both sides are zero. -/
theorem value (dy : FVec Ideal S8192x1024 .f32) (u : FVec Ideal S8192x4096 .f32) (w : FVec Ideal S4096x1024 .f32) :
    val_main_v12 (F := Ideal) dy u w = Cert.ActIdeal.Value.actGrad dy u w := by
  funext i
  idx_vars i
  pointwise [val_main_v12, val_main_v11, val_main_v10, val_main_v9, val_main_v8, val_main_v6, val_main_v5, val_main_v2, val_main_v1,
    val_main_v0, val_main_call0_v0, val_main_call0_cst, val_main_cst, val_main_cst_1, val_main_cst_2, Cert.ActIdeal.Value.actGrad]
  split_ifs with h
  · rfl
  · rw [max_eq_right (not_lt.mp h), mul_zero, mul_zero]

end Cert.ActRefIdeal.Read

namespace Cert.Proof

theorem algebraic_act : Cert.algebraic_ActIdeal_ActRefIdeal := by
  pair_intro
  · run_from Cert.ActIdeal.Gen.run_main m g
  · run_from Cert.ActRefIdeal.Value.run m' g'
    rw [Cert.ActRefIdeal.Read.val_main_v12_eq, Cert.ActRefIdeal.Read.value]
    exact (Cert.ActIdeal.Value.final m c).symm

end Cert.Proof

end
-- ==== Proof.MlpInValue.lean ====
/-
  The gradient through the up projection and the normalisation before it (mlp1_bwd_in): what one grid point stores, and
  the whole arrays against the reference's terms.
-/
module

public import proofs.«01_k».proof.Proof.Gen.MlpInIdeal.Value
public import proofs.«01_k».proof.Proof.Gen.MlpInRefIdeal.Read
public import proofs.«01_k».proof.Proof.NormGrad
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpInIdeal.Value

open Cert.MlpInIdeal Cert.MlpInIdeal.Gen

variable (m : (ℓ : Loc nD τ sig) → Buf (Elt Ideal) ℓ)

/-- The gradient to the normalised input: the incoming gradient times the transposed projection. -/
def back (du : FVec Ideal S8192x4096 .f32) (w : FVec Ideal S1024x4096 .f32) (i : Fin 8192) (j : Fin 1024) : EReal :=
  ∑ k : Fin 4096, du (ix2 i k) * w (ix2 j k)

/-- The gradient to the layer's input: the residual's gradient plus the gradient through the normalisation. -/
def inGrad (du : FVec Ideal S8192x4096 .f32) (w : FVec Ideal S1024x4096 .f32) (x : FVec Ideal S8192x1024 .f32)
    (g : FVec Ideal S1024 .f32) (dres : FVec Ideal S8192x1024 .f32) : FVec Ideal S8192x1024 .f32 :=
  fun i => dres i + NormGrad.grad (fun k => x (ix2 (i 0) k)) (fun k => back du w (i 0) k * g (ix1 k)) (i 1)

/-- The gradient to the normalisation's gain: a sum over the tokens. -/
def gainGrad (du : FVec Ideal S8192x4096 .f32) (w : FVec Ideal S1024x4096 .f32) (x : FVec Ideal S8192x1024 .f32) :
    FVec Ideal S1x1024 .f32 :=
  fun i => ∑ t : Fin 8192, back du w t (i 1) * (x (ix2 t (i 1)) * NormGrad.scale fun k => x (ix2 t k))

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![t.val, 0] ∧ win0_6.index t = ![0, 0] :=
  (by decide +kernel : ∀ t : Fin grid0.N, _)

/-- One block's gradient from the blocks the point reads: the row's normalisation gradient at the product summed chunk by chunk. -/
def blockBack (x0 : FVec Ideal S512x4096 .bf16) (x3 : FVec Ideal S8x1024x512 .bf16) (i : Fin 512) (j : Fin 1024) : EReal :=
  ∑ s : Fin 8, ∑ k : Fin 512, x0 (ix2 i ⟨s.val * 512 + k.val, by omega⟩) * x3 (ix3 s j k)

def blockGrad (x0 : FVec Ideal S512x4096 .bf16) (x1 : FVec Ideal S512x1024 .f32) (x2 : FVec Ideal S512x1024 .f32)
    (x3 : FVec Ideal S8x1024x512 .bf16) (x4 : FVec Ideal S1x1024 .f32) : FVec Ideal S512x1024 .f32 :=
  fun y => x2 y + NormGrad.grad (fun k => x1 (ix2 (y 0) k)) (fun k => blockBack x0 x3 (y 0) k * x4 (ix2 0 k)) (y 1)

theorem point (c : Dev nD) (t : Fin cfg0.N) : (outsAt0 m c t.val t.isLt).1
    = blockGrad (iblk m c 0 t) (iblk m c 1 t) (iblk m c 2 t) (iblk m c 3 t) (iblk m c 4 t) := by
  funext y
  by_cases h0 : t.val % 16 = 0
  on_goal 1 => rw [outsAt0_A m c t h0]
  on_goal 2 => rw [outsAt0_B m c t h0]
  all_goals
    generalize iblk m c 0 t = x0, iblk m c 1 t = x1, iblk m c 2 t = x2, iblk m c 3 t = x3, iblk m c 4 t = x4
    try unfold out0_A_5
    try unfold out0_B_5
    frame_out
    canon_tiles x h
    all_goals
      pointwise [k0_pay1, k0_pay2, k0_pay3, k0_pay4, k0_pay5, k0_pay6, k0_pay7, k0_pay8, k0_pay9, k0_pay10, k0_pay11, k0_pay12,
        k0_pay13, k0_pay14, k0_pay15, blockGrad, blockBack, NormGrad.grad, NormGrad.scale, NormGrad.ms, Fin.sum_univ_eight]
      blk_point []

/-- What one point adds to the gain's gradient. -/
def blockGain (x0 : FVec Ideal S512x4096 .bf16) (x1 : FVec Ideal S512x1024 .f32) (x3 : FVec Ideal S8x1024x512 .bf16) :
    FVec Ideal S1x1024 .f32 :=
  fun y => ∑ i : Fin 512, blockBack x0 x3 i (y 1) * (x1 (ix2 i (y 1)) * NormGrad.scale fun k => x1 (ix2 i k))

/-- The point adds its rows in two halves. -/
theorem halves {f : Fin 512 → EReal} : ∑ i, f i = (∑ k : Fin 256, f ⟨k.val, by omega⟩) + ∑ k : Fin 256, f ⟨256 + k.val, by omega⟩ := by
  rw [← Fin.sum_mul_add_congr (S := 2) (n := 256) (F := fun s k => f ⟨s.val * 256 + k.val, by omega⟩) (fun s k hl => rfl), Fin.sum_univ_two]
  simp

theorem row_lt (t : Fin cfg0.N) (i : Fin 512) : t.val * 512 + i.val < 8192 := by
  have h : t.val < 16 := lt_of_lt_of_eq t.isLt N_0
  omega

theorem blk0 (c : Dev nD) (t : Fin cfg0.N) (y) : iblk m c 0 t y
    = m ((c : Thread nD τ).loc main_arg0) (ix2 ⟨t.val * 512 + (y 0).val, row_lt t (y 0)⟩ (y 1)) := by
  blk_point [iblk, V, idx t]

theorem blk1 (c : Dev nD) (t : Fin cfg0.N) (y) : iblk m c 1 t y
    = m ((c : Thread nD τ).loc main_arg2) (ix2 ⟨t.val * 512 + (y 0).val, row_lt t (y 0)⟩ (y 1)) := by
  blk_point [iblk, V, idx t]

theorem blk2 (c : Dev nD) (t : Fin cfg0.N) (y) : iblk m c 2 t y
    = m ((c : Thread nD τ).loc main_arg4) (ix2 ⟨t.val * 512 + (y 0).val, row_lt t (y 0)⟩ (y 1)) := by
  blk_point [iblk, V, idx t]

theorem blk3 (c : Dev nD) (t : Fin cfg0.N) (a : Fin 8) (j : Fin 1024) (k : Fin 512) : iblk m c 3 t (ix3 a j k)
    = m ((c : Thread nD τ).loc main_arg1) (ix2 j ⟨a.val * 512 + k.val, by omega⟩) := by
  blk_point [iblk, V, idx t]

theorem blk4 (c : Dev nD) (t : Fin cfg0.N) (k : Fin 1024) : iblk m c 4 t (ix2 0 k) = m ((c : Thread nD τ).loc main_arg3) (ix1 k) := by
  blk_point [iblk, V, idx t]

theorem back_eq (c : Dev nD) (t : Fin cfg0.N) (i : Fin 512) (j : Fin 1024) : blockBack (iblk m c 0 t) (iblk m c 3 t) i j
    = back (m ((c : Thread nD τ).loc main_arg0)) (m ((c : Thread nD τ).loc main_arg1)) ⟨t.val * 512 + i.val, row_lt t i⟩ j := by
  unfold blockBack back
  refine Fin.sum_mul_add_congr fun s k hl => ?_
  rw [blk0, blk3]
  rfl

theorem step_A (c : Dev nD) (t : Fin cfg0.N) (h0 : t.val % 16 = 0) (y) : (outsAt0 m c t.val t.isLt).2 y
    = 0 + blockGain (iblk m c 0 t) (iblk m c 1 t) (iblk m c 3 t) y := by
  rw [outsAt0_A m c t h0]
  generalize iblk m c 0 t = x0, iblk m c 1 t = x1, iblk m c 2 t = x2, iblk m c 3 t = x3, iblk m c 4 t = x4
  unfold out0_A_6 blockGain
  rw [halves]
  frame_out
  pointwise [k0_pay1, k0_pay2, k0_pay3, k0_pay4, k0_pay5, k0_pay6, k0_pay7, k0_pay8, k0_pay9, k0_pay10, k0_pay11, k0_pay12,
    k0_pay13, k0_pay14, k0_pay15, blockBack, NormGrad.scale, NormGrad.ms, Fin.sum_univ_eight]
  try simp only [zero_add, add_assoc]

theorem step_B (c : Dev nD) (t : Fin cfg0.N) (h0 : ¬t.val % 16 = 0) (y) : (outsAt0 m c t.val t.isLt).2 y
    = (outsAt0 m c (t.val - 1) (by omega)).2 y + blockGain (iblk m c 0 t) (iblk m c 1 t) (iblk m c 3 t) y := by
  rw [outsAt0_B m c t h0]
  generalize iblk m c 0 t = x0, iblk m c 1 t = x1, iblk m c 2 t = x2, iblk m c 3 t = x3, iblk m c 4 t = x4
  unfold out0_B_6 blockGain
  rw [halves]
  frame_out
  pointwise [k0_pay1, k0_pay2, k0_pay3, k0_pay4, k0_pay5, k0_pay6, k0_pay7, k0_pay8, k0_pay9, k0_pay10, k0_pay11, k0_pay12,
    k0_pay13, k0_pay14, k0_pay15, blockBack, NormGrad.scale, NormGrad.ms, Fin.sum_univ_eight]
  try simp only [zero_add, add_assoc]

theorem emb5 (t : Fin cfg0.N) (y : S512x1024.Idx) : ((cfg0.win 5).blk t).view.emb y
    = ix2 ⟨t.val * 512 + (y 0).val, row_lt t (y 0)⟩ (y 1) := by
  blk_ext [idx t]

theorem final5 (c : Dev nD) : (dats m 0 c).arrAt 5 (cfgs 0).N
    = inGrad (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5, point]
  refine Eq.trans ?_ (congrArg (inGrad _ _ _ _ _) (emb5 t y).symm)
  idx_vars y
  refine (congrArg₂ (· + · : EReal → EReal → EReal) (blk2 m c t _) (congrArg₂ (fun a d => NormGrad.grad a d y1)
    (funext fun k => blk1 m c t _) (funext fun k => congrArg₂ (· * · : EReal → EReal → EReal) (back_eq m c t _ k) (blk4 m c t k)))).trans ?_
  rfl

theorem final6 (c : Dev nD) : (dats m 0 c).arrAt 6 (cfgs 0).N
    = gainGrad (m ((c : Thread nD τ).loc main_arg0)) (m ((c : Thread nD τ).loc main_arg1)) (m ((c : Thread nD τ).loc main_arg2)) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0) _
    (fun t h j => step_A m c t h j) (fun t h j => step_B m c t h j) (le_of_eq N_0) t0_15 rfl _, zero_add]
  unfold gainGrad blockGain
  refine Fin.sum_mul_add_congr fun s k hl => ?_
  idx_vars j
  exact congrArg₂ (· * · : EReal → EReal → EReal) (back_eq m c s k _) (congrArg₂ (· * · : EReal → EReal → EReal) (blk1 m c s _)
    (congrArg NormGrad.scale (funext fun a => blk1 m c s _)))

end Cert.MlpInIdeal.Value

namespace Cert.MlpInRefIdeal.Read

open Cert.MlpInRefIdeal Cert.MlpInRefIdeal.Gen

theorem value_x (du : FVec Ideal S8192x4096 .f32) (w : FVec Ideal S1024x4096 .f32) (x : FVec Ideal S8192x1024 .f32)
    (g : FVec Ideal S1024 .f32) (dres : FVec Ideal S8192x1024 .f32) :
    val_main_v38 (F := Ideal) du w x g dres = Cert.MlpInIdeal.Value.inGrad du w x g dres := by
  funext i
  idx_vars i
  show _ = dres (ix2 i0 i1) + NormGrad.grad (fun k => x (ix2 i0 k)) (fun k => Cert.MlpInIdeal.Value.back du w i0 k * g (ix1 k)) i1
  rw [← NormGrad.vjp]
  pointwise [val_main_v38, val_main_v37, val_main_v36, val_main_v35, val_main_v34, val_main_v33, val_main_v32, val_main_v31, val_main_v30,
    val_main_v29, val_main_v28, val_main_v27, val_main_v26, val_main_v24, val_main_v23, val_main_v19, val_main_v15, val_main_v12,
    val_main_v11, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_6,
    val_main_cst_7, val_main_cst_8, NormGrad.scale, NormGrad.ms, Cert.MlpInIdeal.Value.back]
  rw [Fin.sum_univ_one, add_assoc]

theorem value_gain (du : FVec Ideal S8192x4096 .f32) (w : FVec Ideal S1024x4096 .f32) (x : FVec Ideal S8192x1024 .f32) :
    val_main_v39 (F := Ideal) du w x = Cert.MlpInIdeal.Value.gainGrad du w x := by
  funext i
  idx_vars i
  pointwise [val_main_v39, val_main_v25, val_main_v22, val_main_v21, val_main_v20, val_main_v19, val_main_v14, val_main_v13,
    val_main_v9, val_main_v8, val_main_v7, val_main_v6, val_main_v5, val_main_v4, val_main_v3, val_main_v0,
    val_main_cst, val_main_cst_0, val_main_cst_1, val_main_cst_2, val_main_cst_4, val_main_cst_5, Cert.MlpInIdeal.Value.gainGrad,
    NormGrad.scale, NormGrad.ms, Cert.MlpInIdeal.Value.back]
  rw [Fin.sum_univ_one]
  exact Finset.sum_congr rfl fun t _ => mul_comm _ _

end Cert.MlpInRefIdeal.Read

namespace Cert.Proof

theorem algebraic_mlp_in : Cert.algebraic_MlpInIdeal_MlpInRefIdeal := by
  pair_intro
  · run_from Cert.MlpInIdeal.Gen.run_main m g
  · run_from Cert.MlpInRefIdeal.Value.run m' g'
    · rw [Cert.MlpInRefIdeal.Read.val_main_v38_eq, Cert.MlpInRefIdeal.Read.value_x]
      exact (Cert.MlpInIdeal.Value.final5 m c).symm
    · rw [Cert.MlpInRefIdeal.Read.val_main_v39_eq, Cert.MlpInRefIdeal.Read.value_gain]
      exact (Cert.MlpInIdeal.Value.final6 m c).symm

end Cert.Proof

end
-- ==== Proof.UpValue.lean ====
/-
  The norm and the product of an input projection (mlp0_up, mlp1_up, hgrn_in_proj), and the squared ReLU with the down
  projection and the residual (mlp0_down): what one grid point stores, and the whole arrays against the references' terms.
-/
module

public import proofs.«01_k».proof.Proof.Gen.UpIdeal.Value
public import proofs.«01_k».proof.Proof.Gen.UpRefIdeal.Read
public import proofs.«01_k».proof.Proof.NormGrad
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen

variable (m : (ℓ : Loc nD τ sig) → Buf (Elt Ideal) ℓ)

/-- The normalised input. -/
def normed (x : FVec Ideal S8192x1024 .f32) (g : FVec Ideal S1024 .f32) : FVec Ideal S8192x1024 .bf16 :=
  fun i => x i * NormGrad.scale (fun k => x (ix2 (i 0) k)) * g (ix1 (i 1))

/-- Its product with the weight. -/
def project (x : FVec Ideal S8192x1024 .f32) (g : FVec Ideal S1024 .f32) (w : FVec Ideal S1024x4096 .f32) :
    FVec Ideal S8192x4096 .f32 :=
  fun i => ∑ k : Fin 1024, normed x g (ix2 (i 0) k) * w (ix2 k (i 1))

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem final3 (c : Dev nD) : (dats m 0 c).arrAt 3 (cfgs 0).N
    = project (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  canon_tiles x h
  all_goals
    pointwise [k0_pay1, k0_pay2, k0_pay3, k0_pay4, k0_pay5, k0_pay6, k0_pay7, k0_pay8, k0_pay9, k0_pay10, project, normed,
      NormGrad.scale, NormGrad.ms]
    blk_point [iblk, V, idx t]

theorem final4 (c : Dev nD) : (dats m 0 c).arrAt 4 (cfgs 0).N
    = normed (m ((c : Thread nD τ).loc main_arg0)) (m ((c : Thread nD τ).loc main_arg1)) := by
  refine (dats m 0 c).arrAt_eq_of_covers 4 _ (by decide +kernel) fun t _ y => ?_
  blk_simp
  rw [after0_4]
  unfold out0_4
  canon_tiles x h
  all_goals
    pointwise [k0_pay6, normed, NormGrad.scale, NormGrad.ms]
    blk_point [iblk, V, idx t]

end Cert.UpIdeal.Value

namespace Cert.UpRefIdeal.Read

open Cert.UpRefIdeal Cert.UpRefIdeal.Gen

theorem value_norm (x : FVec Ideal S8192x1024 .f32) (g : FVec Ideal S1024 .f32) :
    val_main_v14 (F := Ideal) x g = Cert.UpIdeal.Value.normed x g := by
  funext i
  idx_vars i
  pointwise [val_main_v14, val_main_v12, val_main_v11, val_main_v10, val_main_v9, val_main_v8, val_main_v7, val_main_v6, val_main_v5,
    val_main_v4, val_main_v3, val_main_v2, val_main_v1, val_main_v0, val_main_cst, val_main_cst_0, val_main_cst_1,
    Cert.UpIdeal.Value.normed, NormGrad.scale, NormGrad.ms]

theorem value (x : FVec Ideal S8192x1024 .f32) (g : FVec Ideal S1024 .f32) (w : FVec Ideal S1024x4096 .f32) :
    val_main_v13 (F := Ideal) x g w = Cert.UpIdeal.Value.project x g w := by
  unfold Cert.UpIdeal.Value.project
  rw [← value_norm]
  funext i
  idx_vars i
  pointwise [val_main_v13, val_main_v14]

end Cert.UpRefIdeal.Read

namespace Cert.Proof

theorem algebraic_up : Cert.algebraic_UpIdeal_UpRefIdeal := by
  pair_intro
  · run_from Cert.UpIdeal.Gen.run_main m g
  · run_from Cert.UpRefIdeal.Value.run m' g'
    · refine Eq.trans (Eq.trans ?_ (Cert.UpRefIdeal.Read.value _ _ _)) (Cert.UpIdeal.Value.final3 m c).symm
      exact Cert.UpRefIdeal.Read.val_main_v13_eq (F := Ideal) _ _ _
    · rw [Cert.UpRefIdeal.Read.val_main_v14_eq, Cert.UpRefIdeal.Read.value_norm]
      exact (Cert.UpIdeal.Value.final4 m c).symm

end Cert.Proof

end
-- ==== Proof.DownValue.lean ====
/-
  The norm and the product of an input projection (mlp0_up, mlp1_up, hgrn_in_proj), and the squared ReLU with the down
  projection and the residual (mlp0_down): what one grid point stores, and the whole arrays against the references' terms.
-/
module

public import proofs.«01_k».proof.Proof.Gen.DownIdeal.Value
public import proofs.«01_k».proof.Proof.Gen.DownRefIdeal.Read
public import proofs.«01_k».proof.Proof.NormGrad
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen

variable (m : (ℓ : Loc nD τ sig) → Buf (Elt Ideal) ℓ)

/-- The square of the positive part. -/
def act (u : FVec Ideal S8192x4096 .f32) : FVec Ideal S8192x4096 .bf16 :=
  fun i => max (u i) 0 * max (u i) 0

/-- The residual plus the product with the weight. -/
def project (u : FVec Ideal S8192x4096 .f32) (w : FVec Ideal S4096x1024 .f32) (res : FVec Ideal S8192x1024 .f32) :
    FVec Ideal S8192x1024 .f32 :=
  fun i => res i + ∑ k : Fin 4096, act u (ix2 (i 0) k) * w (ix2 k (i 1))

theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

/-- The product is summed in four chunks. -/
theorem chunks {f : Fin 4096 → EReal} : ∑ i, f i = (∑ k : Fin 1024, f ⟨k.val, by omega⟩) + (∑ k : Fin 1024, f ⟨1024 + k.val, by omega⟩)
    + (∑ k : Fin 1024, f ⟨2048 + k.val, by omega⟩) + ∑ k : Fin 1024, f ⟨3072 + k.val, by omega⟩ := by
  rw [← Fin.sum_mul_add_congr (S := 4) (n := 1024) (F := fun s k => f ⟨s.val * 1024 + k.val, by omega⟩) (fun s k hl => rfl), Fin.sum_univ_four]
  simp

theorem final3 (c : Dev nD) : (dats m 0 c).arrAt 3 (cfgs 0).N
    = project (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3 project
  rw [chunks]
  canon_tiles x h
  all_goals
    pointwise [k0_pay1, k0_pay2, k0_pay3, k0_pay4, k0_pay5, k0_pay6, k0_pay7, k0_pay8, k0_pay9, k0_pay10, k0_pay11, k0_pay12, k0_pay13,
      act]
    try simp only [add_assoc]
    blk_point [iblk, V, idx t]

theorem final4 (c : Dev nD) : (dats m 0 c).arrAt 4 (cfgs 0).N = act (m ((c : Thread nD τ).loc main_arg0)) := by
  refine (dats m 0 c).arrAt_eq_of_covers 4 _ (by decide +kernel) fun t _ y => ?_
  blk_simp
  rw [after0_4]
  unfold out0_4
  canon_tiles x h
  all_goals
    pointwise [k0_pay1, k0_pay2, k0_pay3, k0_pay4, k0_pay5, k0_pay6, k0_pay7, k0_pay8, k0_pay9, k0_pay10, k0_pay11, k0_pay12, k0_pay13,
      act]
    blk_point [iblk, V, idx t]

end Cert.DownIdeal.Value

namespace Cert.DownRefIdeal.Read

open Cert.DownRefIdeal Cert.DownRefIdeal.Gen

theorem value_act (u : FVec Ideal S8192x4096 .f32) : val_main_v4 (F := Ideal) u = Cert.DownIdeal.Value.act u := by
  funext i
  idx_vars i
  pointwise [val_main_v4, val_main_v1, val_main_v0, val_main_call0_v0, val_main_call0_cst, Cert.DownIdeal.Value.act]

theorem value (u : FVec Ideal S8192x4096 .f32) (w : FVec Ideal S4096x1024 .f32) (res : FVec Ideal S8192x1024 .f32) :
    val_main_v3 (F := Ideal) u w res = Cert.DownIdeal.Value.project u w res := by
  unfold Cert.DownIdeal.Value.project
  rw [← value_act]
  funext i
  idx_vars i
  pointwise [val_main_v3, val_main_v2, val_main_v4]

end Cert.DownRefIdeal.Read

namespace Cert.Proof

theorem algebraic_down : Cert.algebraic_DownIdeal_DownRefIdeal := by
  pair_intro
  · run_from Cert.DownIdeal.Gen.run_main m g
  · run_from Cert.DownRefIdeal.Value.run m' g'
    · rw [Cert.DownRefIdeal.Read.val_main_v3_eq, Cert.DownRefIdeal.Read.value]
      exact (Cert.DownIdeal.Value.final3 m c).symm
    · rw [Cert.DownRefIdeal.Read.val_main_v4_eq, Cert.DownRefIdeal.Read.value_act]
      exact (Cert.DownIdeal.Value.final4 m c).symm

end Cert.Proof

end
-- ==== Proof.WeightGrad.lean ====
/-
  The gradient of a weight summed over the tokens in blocks: the sum over the grid points of one run, and the sum over all tokens.
-/
module

public import Idealize.ShloMosaic.Lib.Pointwise
public import Idealize.ShloMosaic.Lib.Pipeline.ValueKit

@[expose] public section

set_option maxRecDepth 16384

noncomputable section

open Idealize.ShloMosaic

namespace Cert.WeightGrad

/-- What one block of tokens adds to entry `(i, j)`. -/
def part {b : ℕ} (x : (⟨2, ![2048, 1024]⟩ : Shape).Idx → EReal) (y : (⟨2, ![2048, b]⟩ : Shape).Idx → EReal) (i : Fin 1024) (j : Fin b) :
    EReal :=
  ∑ k : Fin 2048, x (ix2 k i) * y (ix2 k j)

/-- Entry `(i, j)` of the gradient: the sum over all tokens. -/
def dw {p q : ℕ} (x : (⟨2, ![8192, p]⟩ : Shape).Idx → EReal) (y : (⟨2, ![8192, q]⟩ : Shape).Idx → EReal) (i : Fin p) (j : Fin q) : EReal :=
  ∑ k : Fin 8192, x (ix2 k i) * y (ix2 k j)

/-- The four blocks of tokens together, each block being the tokens' rows and the entry's columns. -/
theorem sum_parts {p q b : ℕ} (x : (⟨2, ![8192, p]⟩ : Shape).Idx → EReal) (y : (⟨2, ![8192, q]⟩ : Shape).Idx → EReal)
    (f : Fin 4 → (⟨2, ![2048, 1024]⟩ : Shape).Idx → EReal) (g : Fin 4 → (⟨2, ![2048, b]⟩ : Shape).Idx → EReal) (i : Fin 1024)
    (j : Fin b) (i' : Fin p) (j' : Fin q)
    (hf : ∀ (s : Fin 4) (k : Fin 2048), f s (ix2 k i) = x (ix2 ⟨s.val * 2048 + k.val, by omega⟩ i'))
    (hg : ∀ (s : Fin 4) (k : Fin 2048), g s (ix2 k j) = y (ix2 ⟨s.val * 2048 + k.val, by omega⟩ j')) :
    ∑ s : Fin 4, part (f s) (g s) i j = dw x y i' j' := by
  unfold part dw
  refine Fin.sum_mul_add_congr fun s k hl => ?_
  rw [hf, hg]

end Cert.WeightGrad

end
-- ==== Proof.DwRows.lean ====
/-
  The gradients of the weights the devices hold by rows (mlp0_dw_down, mlp1_dw_down, hgrn_dw_o, attn_dw_o): what the grid
  points leave, and the whole arrays against the references' terms.
-/
module

public import proofs.«01_k».proof.Proof.Gen.DwDownIdeal.Value
public import proofs.«01_k».proof.Proof.Gen.DwDownRefIdeal.Read
public import proofs.«01_k».proof.Proof.Gen.DwOIdeal.Value
public import proofs.«01_k».proof.Proof.Gen.DwORefIdeal.Read
public import proofs.«01_k».proof.Proof.WeightGrad
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwDownIdeal.Value

open Cert.DwDownIdeal Cert.DwDownIdeal.Gen

variable (m : (ℓ : Loc nD τ sig) → Buf (Elt Ideal) ℓ)

/-- The gradient, in the devices' shards of rows. -/
def grad (a : FVec Ideal S8192x4096 .f32) (dy : FVec Ideal S8192x1024 .f32) : FVec Ideal S8x512x1024 .bf16 :=
  fun i => WeightGrad.dw a dy ⟨(i 0).val * 512 + (i 1).val, by have := (i 0).isLt; have := (i 1).isLt; dsimp at *; omega⟩ (i 2)

theorem idx : ∀ t : Fin cfg0.N, win0_0.index t = ![t.val % 4, t.val / 4] ∧ win0_1.index t = ![t.val % 4, 0]
    ∧ win0_2.index t = ![t.val / 4, 0, 0] :=
  (by decide +kernel : ∀ t : Fin grid0.N, _)

theorem step_A (c : Dev nD) (t : Fin cfg0.N) (h0 : t.val % 4 = 0) (y) : (outsAt0 m c t.val t.isLt).2 y
    = 0 + WeightGrad.part (iblk m c 0 t) (iblk m c 1 t) (y 0) (y 1) := by
  rw [outsAt0_A m c t h0 (by omega)]
  generalize iblk m c 0 t = x0, iblk m c 1 t = x1
  unfold sout0_A_0 WeightGrad.part
  frame_out
  pointwise [k0_pay1, k0_pay2]

theorem step_B (c : Dev nD) (t : Fin cfg0.N) (h0 : ¬t.val % 4 = 0) (y) : (outsAt0 m c t.val t.isLt).2 y
    = (outsAt0 m c (t.val - 1) (by omega)).2 y + WeightGrad.part (iblk m c 0 t) (iblk m c 1 t) (y 0) (y 1) := by
  by_cases h1 : t.val % 4 = 3
  on_goal 1 => rw [outsAt0_C m c t h0 h1]
  on_goal 2 => rw [outsAt0_B m c t h0 h1]
  all_goals
    generalize iblk m c 0 t = x0, iblk m c 1 t = x1
    try unfold sout0_B_0
    try unfold sout0_C_0
    unfold WeightGrad.part
    frame_out
    pointwise [k0_pay2]
    rw [read_unread_whole]

/-- The last point of a run stores the accumulated rows. -/
theorem stored (c : Dev nD) (t : Fin cfg0.N) (h1 : t.val % 4 = 3) (a : Fin 2) (r : Fin 512) (j : Fin 1024) :
    (outsAt0 m c t.val t.isLt).1 (ix3 a r j) = (outsAt0 m c t.val t.isLt).2 (ix2 ⟨a.val * 512 + r.val, by omega⟩ j) := by
  rw [outsAt0_C m c t (by omega) h1]
  unfold out0_C_2 sout0_C_0
  frame_out
  pointwise [k0_pay3]

theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  have h1 : t.val % 4 = 3 := (flush0_2 t).mp hf
  blk_simp
  idx_vars y
  rw [after0_2, stored m c t h1, Pipeline.eq_sum_fin_of_reset_step_apply_of_flush (fun n h => (outsAt0 m c n h).2) 4 (fun _ => 0) _
    (fun t h j => step_A m c t h j) (fun t h j => step_B m c t h j) t h1 _, zero_add]
  unfold grad
  refine WeightGrad.sum_parts _ _ _ _ _ _ _ _ (fun s k => ?_) (fun s k => ?_)
  all_goals blk_point [iblk, V, idx t, idx ⟨_, Pipeline.run_point_lt_of_flush t h1 s⟩]

end Cert.DwDownIdeal.Value

namespace Cert.DwDownRefIdeal.Read

open Cert.DwDownRefIdeal Cert.DwDownRefIdeal.Gen

theorem value (a : FVec Ideal S8192x4096 .f32) (dy : FVec Ideal S8192x1024 .f32) :
    val_main_v5 (F := Ideal) a dy = Cert.DwDownIdeal.Value.grad a dy := by
  funext i
  idx_vars i
  pointwise [val_main_v5, val_main_v4, val_main_v3, val_main_v2, Cert.DwDownIdeal.Value.grad, WeightGrad.dw]
  exact Finset.sum_congr rfl fun k _ => mul_comm _ _

end Cert.DwDownRefIdeal.Read

namespace Cert.DwOIdeal.Value

open Cert.DwOIdeal Cert.DwOIdeal.Gen

variable (m : (ℓ : Loc nD τ sig) → Buf (Elt Ideal) ℓ)

/-- The gradient, in the devices' shards of rows. -/
def grad (a : FVec Ideal S8192x1024 .f32) (dx : FVec Ideal S8192x1024 .f32) : FVec Ideal S8x128x1024 .bf16 :=
  fun i => WeightGrad.dw a dx ⟨(i 0).val * 128 + (i 1).val, by have := (i 0).isLt; have := (i 1).isLt; dsimp at *; omega⟩ (i 2)

theorem idx : ∀ t : Fin cfg0.N, win0_0.index t = ![t.val % 4, 0] ∧ win0_1.index t = ![t.val % 4, 0]
    ∧ win0_2.index t = ![0, 0, 0] :=
  (by decide +kernel : ∀ t : Fin grid0.N, _)

theorem step_A (c : Dev nD) (t : Fin cfg0.N) (h0 : t.val % 4 = 0) (y) : (outsAt0 m c t.val t.isLt).2 y
    = 0 + WeightGrad.part (iblk m c 0 t) (iblk m c 1 t) (y 0) (y 1) := by
  rw [outsAt0_A m c t h0 (by omega)]
  generalize iblk m c 0 t = x0, iblk m c 1 t = x1
  unfold sout0_A_0 WeightGrad.part
  frame_out
  pointwise [k0_pay1, k0_pay2]

theorem step_B (c : Dev nD) (t : Fin cfg0.N) (h0 : ¬t.val % 4 = 0) (y) : (outsAt0 m c t.val t.isLt).2 y
    = (outsAt0 m c (t.val - 1) (by omega)).2 y + WeightGrad.part (iblk m c 0 t) (iblk m c 1 t) (y 0) (y 1) := by
  by_cases h1 : t.val % 4 = 3
  on_goal 1 => rw [outsAt0_C m c t h0 h1]
  on_goal 2 => rw [outsAt0_B m c t h0 h1]
  all_goals
    generalize iblk m c 0 t = x0, iblk m c 1 t = x1
    try unfold sout0_B_0
    try unfold sout0_C_0
    unfold WeightGrad.part
    frame_out
    pointwise [k0_pay2]
    rw [read_unread_whole]

theorem stored (c : Dev nD) (t : Fin cfg0.N) (h1 : t.val % 4 = 3) (a : Fin 8) (r : Fin 128) (j : Fin 1024) :
    (outsAt0 m c t.val t.isLt).1 (ix3 a r j) = (outsAt0 m c t.val t.isLt).2 (ix2 ⟨a.val * 128 + r.val, by omega⟩ j) := by
  rw [outsAt0_C m c t (by omega) h1]
  unfold out0_C_2 sout0_C_0
  frame_out
  pointwise [k0_pay3]

theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  have h1 : t.val % 4 = 3 := (flush0_2 t).mp hf
  blk_simp
  idx_vars y
  rw [after0_2, stored m c t h1, Pipeline.eq_sum_fin_of_reset_step_apply_of_flush (fun n h => (outsAt0 m c n h).2) 4 (fun _ => 0) _
    (fun t h j => step_A m c t h j) (fun t h j => step_B m c t h j) t h1 _, zero_add]
  unfold grad
  refine WeightGrad.sum_parts _ _ _ _ _ _ _ _ (fun s k => ?_) (fun s k => ?_)
  all_goals blk_point [iblk, V, idx t, idx ⟨_, Pipeline.run_point_lt_of_flush t h1 s⟩]

end Cert.DwOIdeal.Value

namespace Cert.DwORefIdeal.Read

open Cert.DwORefIdeal Cert.DwORefIdeal.Gen

theorem value (a : FVec Ideal S8192x1024 .f32) (dx : FVec Ideal S8192x1024 .f32) :
    val_main_v5 (F := Ideal) a dx = Cert.DwOIdeal.Value.grad a dx := by
  funext i
  idx_vars i
  pointwise [val_main_v5, val_main_v4, val_main_v3, val_main_v2, Cert.DwOIdeal.Value.grad, WeightGrad.dw]
  exact Finset.sum_congr rfl fun k _ => mul_comm _ _

end Cert.DwORefIdeal.Read

namespace Cert.Proof

theorem algebraic_dw_down : Cert.algebraic_DwDownIdeal_DwDownRefIdeal := by
  pair_intro
  · run_from Cert.DwDownIdeal.Gen.run_main m g
  · run_from Cert.DwDownRefIdeal.Value.run m' g'
    rw [Cert.DwDownRefIdeal.Read.val_main_v5_eq, Cert.DwDownRefIdeal.Read.value]
    exact (Cert.DwDownIdeal.Value.final m c).symm

theorem algebraic_dw_o : Cert.algebraic_DwOIdeal_DwORefIdeal := by
  pair_intro
  · run_from Cert.DwOIdeal.Gen.run_main m g
  · run_from Cert.DwORefIdeal.Value.run m' g'
    rw [Cert.DwORefIdeal.Read.val_main_v5_eq, Cert.DwORefIdeal.Read.value]
    exact (Cert.DwOIdeal.Value.final m c).symm

end Cert.Proof

end
-- ==== Proof.DwCols.lean ====
/-
  The gradients of the weights the devices hold by columns (mlp0_dw_up, mlp1_dw_up, hgrn_dw_in0 to hgrn_dw_in3): what the grid
  points leave, and the whole arrays against the references' terms.
-/
module

public import proofs.«01_k».proof.Proof.Gen.DwUpIdeal.Value
public import proofs.«01_k».proof.Proof.Gen.DwUpRefIdeal.Read
public import proofs.«01_k».proof.Proof.Gen.DwInIdeal.Value
public import proofs.«01_k».proof.Proof.Gen.DwInRefIdeal.Read
public import proofs.«01_k».proof.Proof.WeightGrad
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwUpIdeal.Value

open Cert.DwUpIdeal Cert.DwUpIdeal.Gen

variable (m : (ℓ : Loc nD τ sig) → Buf (Elt Ideal) ℓ)

/-- The gradient, in the devices' shards of columns. -/
def grad (h : FVec Ideal S8192x1024 .f32) (du : FVec Ideal S8192x4096 .f32) : FVec Ideal S8x1024x512 .bf16 :=
  fun i => WeightGrad.dw h du (i 1) ⟨(i 0).val * 512 + (i 2).val, by have := (i 0).isLt; have := (i 2).isLt; dsimp at *; omega⟩

theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

theorem step_A (c : Dev nD) (t : Fin cfg0.N) (h0 : t.val % 4 = 0) (y) : (outsAt0 m c t.val t.isLt).2 y
    = 0 + WeightGrad.part (iblk m c 0 t) (iblk m c 1 t) (y 0) (y 1) := by
  rw [outsAt0_A m c t h0 (by omega)]
  generalize iblk m c 0 t = x0, iblk m c 1 t = x1
  unfold sout0_A_0 WeightGrad.part
  frame_out
  pointwise [k0_pay1, k0_pay2]

theorem step_B (c : Dev nD) (t : Fin cfg0.N) (h0 : ¬t.val % 4 = 0) (y) : (outsAt0 m c t.val t.isLt).2 y
    = (outsAt0 m c (t.val - 1) (by omega)).2 y + WeightGrad.part (iblk m c 0 t) (iblk m c 1 t) (y 0) (y 1) := by
  by_cases h1 : t.val % 4 = 3
  on_goal 1 => rw [outsAt0_C m c t h0 h1]
  on_goal 2 => rw [outsAt0_B m c t h0 h1]
  all_goals
    generalize iblk m c 0 t = x0, iblk m c 1 t = x1
    try unfold sout0_B_0
    try unfold sout0_C_0
    unfold WeightGrad.part
    frame_out
    pointwise [k0_pay2]
    rw [read_unread_whole]

/-- The last point of a run stores the accumulated columns. -/
theorem stored (c : Dev nD) (t : Fin cfg0.N) (h1 : t.val % 4 = 3) (a : Fin 2) (r : Fin 1024) (j : Fin 512) :
    (outsAt0 m c t.val t.isLt).1 (ix3 a r j) = (outsAt0 m c t.val t.isLt).2 (ix2 r ⟨a.val * 512 + j.val, by omega⟩) := by
  rw [outsAt0_C m c t (by omega) h1]
  unfold out0_C_2 sout0_C_0
  frame_out
  canon_tiles x h
  all_goals
    pointwise [k0_pay3, k0_pay4]
    rw [View.readCov_fill]
    on_goal 2 => exact fun a => by fin_cases a <;> rfl
    generalize k0_pay2 (F := Ideal) _ _ _ = Z
    show Z _ = Z _
    refine congrArg Z (funext fun b => Fin.ext ?_)
    have e0 : a.val = _ := h0
    have e1 : r.val = _ := h1
    have e2 : j.val = _ := h2
    fin_cases b
    all_goals simp [Rect.unit, LoadRect.idx]
    all_goals omega

theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  have h1 : t.val % 4 = 3 := (flush0_2 t).mp hf
  blk_simp
  idx_vars y
  rw [after0_2, stored m c t h1, Pipeline.eq_sum_fin_of_reset_step_apply_of_flush (fun n h => (outsAt0 m c n h).2) 4 (fun _ => 0) _
    (fun t h j => step_A m c t h j) (fun t h j => step_B m c t h j) t h1 _, zero_add]
  unfold grad
  refine WeightGrad.sum_parts _ _ _ _ _ _ _ _ (fun s k => ?_) (fun s k => ?_)
  all_goals blk_point [iblk, V, idx t, idx ⟨_, Pipeline.run_point_lt_of_flush t h1 s⟩]

end Cert.DwUpIdeal.Value

namespace Cert.DwUpRefIdeal.Read

open Cert.DwUpRefIdeal Cert.DwUpRefIdeal.Gen

theorem value (h : FVec Ideal S8192x1024 .f32) (du : FVec Ideal S8192x4096 .f32) :
    val_main_v6 (F := Ideal) h du = Cert.DwUpIdeal.Value.grad h du := by
  funext i
  idx_vars i
  pointwise [val_main_v6, val_main_v5, val_main_v4, val_main_v3, val_main_v2, Cert.DwUpIdeal.Value.grad, WeightGrad.dw]
  exact Finset.sum_congr rfl fun k _ => mul_comm _ _

end Cert.DwUpRefIdeal.Read

namespace Cert.DwInIdeal.Value

open Cert.DwInIdeal Cert.DwInIdeal.Gen

variable (m : (ℓ : Loc nD τ sig) → Buf (Elt Ideal) ℓ)

/-- The gradient, in the devices' shards of columns. -/
def grad (h : FVec Ideal S8192x1024 .f32) (dz : FVec Ideal S8192x1024 .f32) : FVec Ideal S2x1024x512 .bf16 :=
  fun i => WeightGrad.dw h dz (i 1) ⟨(i 0).val * 512 + (i 2).val, by have := (i 0).isLt; have := (i 2).isLt; dsimp at *; omega⟩

theorem idx : ∀ t : Fin cfg0.N, win0_0.index t = ![t.val % 4, 0] ∧ win0_1.index t = ![t.val % 4, 0]
    ∧ win0_2.index t = ![0, 0, 0] :=
  (by decide +kernel : ∀ t : Fin grid0.N, _)

theorem step_A (c : Dev nD) (t : Fin cfg0.N) (h0 : t.val % 4 = 0) (y) : (outsAt0 m c t.val t.isLt).2 y
    = 0 + WeightGrad.part (iblk m c 0 t) (iblk m c 1 t) (y 0) (y 1) := by
  rw [outsAt0_A m c t h0 (by omega)]
  generalize iblk m c 0 t = x0, iblk m c 1 t = x1
  unfold sout0_A_0 WeightGrad.part
  frame_out
  pointwise [k0_pay1, k0_pay2]

theorem step_B (c : Dev nD) (t : Fin cfg0.N) (h0 : ¬t.val % 4 = 0) (y) : (outsAt0 m c t.val t.isLt).2 y
    = (outsAt0 m c (t.val - 1) (by omega)).2 y + WeightGrad.part (iblk m c 0 t) (iblk m c 1 t) (y 0) (y 1) := by
  by_cases h1 : t.val % 4 = 3
  on_goal 1 => rw [outsAt0_C m c t h0 h1]
  on_goal 2 => rw [outsAt0_B m c t h0 h1]
  all_goals
    generalize iblk m c 0 t = x0, iblk m c 1 t = x1
    try unfold sout0_B_0
    try unfold sout0_C_0
    unfold WeightGrad.part
    frame_out
    pointwise [k0_pay2]
    rw [read_unread_whole]

theorem stored (c : Dev nD) (t : Fin cfg0.N) (h1 : t.val % 4 = 3) (a : Fin 2) (r : Fin 1024) (j : Fin 512) :
    (outsAt0 m c t.val t.isLt).1 (ix3 a r j) = (outsAt0 m c t.val t.isLt).2 (ix2 r ⟨a.val * 512 + j.val, by omega⟩) := by
  rw [outsAt0_C m c t (by omega) h1]
  unfold out0_C_2 sout0_C_0
  frame_out
  canon_tiles x h
  all_goals
    pointwise [k0_pay3, k0_pay4]
    rw [View.readCov_fill]
    on_goal 2 => exact fun a => by fin_cases a <;> rfl
    generalize k0_pay2 (F := Ideal) _ _ _ = Z
    show Z _ = Z _
    refine congrArg Z (funext fun b => Fin.ext ?_)
    have e0 : a.val = _ := h0
    have e1 : r.val = _ := h1
    have e2 : j.val = _ := h2
    fin_cases b
    all_goals simp [Rect.unit, LoadRect.idx]
    all_goals omega

theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  have h1 : t.val % 4 = 3 := (flush0_2 t).mp hf
  blk_simp
  idx_vars y
  rw [after0_2, stored m c t h1, Pipeline.eq_sum_fin_of_reset_step_apply_of_flush (fun n h => (outsAt0 m c n h).2) 4 (fun _ => 0) _
    (fun t h j => step_A m c t h j) (fun t h j => step_B m c t h j) t h1 _, zero_add]
  unfold grad
  refine WeightGrad.sum_parts _ _ _ _ _ _ _ _ (fun s k => ?_) (fun s k => ?_)
  all_goals blk_point [iblk, V, idx t, idx ⟨_, Pipeline.run_point_lt_of_flush t h1 s⟩]

end Cert.DwInIdeal.Value

namespace Cert.DwInRefIdeal.Read

open Cert.DwInRefIdeal Cert.DwInRefIdeal.Gen

theorem value (h : FVec Ideal S8192x1024 .f32) (dz : FVec Ideal S8192x1024 .f32) :
    val_main_v6 (F := Ideal) h dz = Cert.DwInIdeal.Value.grad h dz := by
  funext i
  idx_vars i
  pointwise [val_main_v6, val_main_v5, val_main_v4, val_main_v3, val_main_v2, Cert.DwInIdeal.Value.grad, WeightGrad.dw]
  exact Finset.sum_congr rfl fun k _ => mul_comm _ _

end Cert.DwInRefIdeal.Read

namespace Cert.Proof

theorem algebraic_dw_up : Cert.algebraic_DwUpIdeal_DwUpRefIdeal := by
  pair_intro
  · run_from Cert.DwUpIdeal.Gen.run_main m g
  · run_from Cert.DwUpRefIdeal.Value.run m' g'
    rw [Cert.DwUpRefIdeal.Read.val_main_v6_eq, Cert.DwUpRefIdeal.Read.value]
    exact (Cert.DwUpIdeal.Value.final m c).symm

theorem algebraic_dw_in : Cert.algebraic_DwInIdeal_DwInRefIdeal := by
  pair_intro
  · run_from Cert.DwInIdeal.Gen.run_main m g
  · run_from Cert.DwInRefIdeal.Value.run m' g'
    rw [Cert.DwInRefIdeal.Read.val_main_v6_eq, Cert.DwInRefIdeal.Read.value]
    exact (Cert.DwInIdeal.Value.final m c).symm

end Cert.Proof

end
-- ==== Proof.NormBack.lean ====
/-
  The gradient through a normalisation and its gain, token by token: the input's gradient, the gain's gradient, and the
  halves in which a block of 512 tokens is added up.
-/
module

public import proofs.«01_k».proof.Proof.NormGrad

@[expose] public section

set_option maxRecDepth 16384

noncomputable section

open Idealize.ShloMosaic

namespace Cert.NormBack

/-- The gradient to the layer's input at one token: the residual's gradient plus the gradient through the normalisation. -/
def dx (back x dres g : Fin 1024 → EReal) (j : Fin 1024) : EReal :=
  dres j + NormGrad.grad x (fun k => back k * g k) j

/-- The gradient to the gain: a sum over the tokens. -/
def dgain {n : ℕ} (back x : Fin n → Fin 1024 → EReal) (j : Fin 1024) : EReal :=
  ∑ t, back t j * (x t j * NormGrad.scale (x t))

/-- A block of 512 tokens is the sum of its halves. -/
theorem halves {f : Fin 512 → EReal} :
    ∑ i, f i = (∑ k : Fin 256, f ⟨k.val, by omega⟩) + ∑ k : Fin 256, f ⟨256 + k.val, by omega⟩ := by
  rw [← Fin.sum_mul_add_congr (S := 2) (n := 256) (F := fun s k => f ⟨s.val * 256 + k.val, by omega⟩) (fun s k hl => rfl),
    Fin.sum_univ_two]
  simp

/-- The blocks' parts of the gain's gradient together are the gradient over all tokens. -/
theorem dgain_blocks (back x : Fin 8192 → Fin 1024 → EReal) (b y : Fin 16 → Fin 512 → Fin 1024 → EReal) (j : Fin 1024)
    (hb : ∀ (s : Fin 16) (k : Fin 512), b s k j = back ⟨s.val * 512 + k.val, by omega⟩ j)
    (hy : ∀ (s : Fin 16) (k : Fin 512), y s k = x ⟨s.val * 512 + k.val, by omega⟩) :
    ∑ s : Fin 16, dgain (b s) (y s) j = dgain back x j := by
  unfold dgain
  refine Fin.sum_mul_add_congr fun s k hl => ?_
  rw [hb, hy]

end Cert.NormBack

end
-- ==== Proof.HgrnInValue.lean ====
/-
  The gradient through the recurrence layer's input projection and the normalisation before it (hgrn_in_bwd): the incoming gradient
  is four arrays side by side. What one grid point stores, and the whole arrays against the reference's terms.
-/
module

public import proofs.«01_k».proof.Proof.Gen.HgrnInIdeal.Value
public import proofs.«01_k».proof.Proof.Gen.HgrnInRefIdeal.Read
public import proofs.«01_k».proof.Proof.NormBack
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.HgrnInIdeal.Value

open Cert.HgrnInIdeal Cert.HgrnInIdeal.Gen

variable (m : (ℓ : Loc nD τ sig) → Buf (Elt Ideal) ℓ)

/-- Column `k` of four arrays side by side. -/
def beside (a b c d : FVec Ideal S8192x1024 .f32) (i : Fin 8192) (k : Fin 4096) : EReal :=
  if h : k.val < 1024 then a (ix2 i ⟨k.val, h⟩)
  else if h : k.val - 1024 < 1024 then b (ix2 i ⟨k.val - 1024, h⟩)
  else if h : k.val - 1024 - 1024 < 1024 then c (ix2 i ⟨k.val - 1024 - 1024, h⟩)
  else d (ix2 i ⟨k.val - 1024 - 1024 - 1024, by omega⟩)

/-- The gradient to the normalised input: the incoming gradient times the transposed projection. -/
def back (a b c d : FVec Ideal S8192x1024 .f32) (w : FVec Ideal S1024x4096 .f32) (i : Fin 8192) (j : Fin 1024) : EReal :=
  ∑ k : Fin 4096, beside a b c d i k * w (ix2 j k)

def inGrad (a b c d : FVec Ideal S8192x1024 .f32) (w : FVec Ideal S1024x4096 .f32) (x : FVec Ideal S8192x1024 .f32)
    (g : FVec Ideal S1024 .f32) (dres : FVec Ideal S8192x1024 .f32) : FVec Ideal S8192x1024 .f32 :=
  fun i => NormBack.dx (back a b c d w (i 0)) (fun k => x (ix2 (i 0) k)) (fun k => dres (ix2 (i 0) k)) (fun k => g (ix1 k)) (i 1)

def gainGrad (a b c d : FVec Ideal S8192x1024 .f32) (w : FVec Ideal S1024x4096 .f32) (x : FVec Ideal S8192x1024 .f32) :
    FVec Ideal S1x1024 .f32 :=
  fun i => NormBack.dgain (back a b c d w) (fun t k => x (ix2 t k)) (i 1)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0, 0]
    ∧ win0_7.index t = ![0, 0] ∧ win0_8.index t = ![t.val, 0] ∧ win0_9.index t = ![0, 0] :=
  (by decide +kernel : ∀ t : Fin grid0.N, _)

/-- One chunk of 512 columns: columns `o …` of an incoming array against chunk `s` of the projection. -/
def chunk (x : FVec Ideal S512x1024 .bf16) (w : FVec Ideal S8x1024x512 .bf16) (o : ℕ) (ho : o + 512 ≤ 1024) (s : Fin 8)
    (i : Fin 512) (j : Fin 1024) : EReal :=
  ∑ k : Fin 512, x (ix2 i ⟨o + k.val, by omega⟩) * w (ix3 s j k)

def blockBack (x0 x1 x2 x3 : FVec Ideal S512x1024 .bf16) (w : FVec Ideal S8x1024x512 .bf16) (i : Fin 512) (j : Fin 1024) : EReal :=
  chunk x0 w 0 (by decide) 0 i j + chunk x0 w 512 (by decide) 1 i j + chunk x1 w 0 (by decide) 2 i j + chunk x1 w 512 (by decide) 3 i j
    + chunk x2 w 0 (by decide) 4 i j + chunk x2 w 512 (by decide) 5 i j + chunk x3 w 0 (by decide) 6 i j + chunk x3 w 512 (by decide) 7 i j

def blockGrad (x0 x1 x2 x3 : FVec Ideal S512x1024 .bf16) (x4 x5 : FVec Ideal S512x1024 .f32) (x6 : FVec Ideal S8x1024x512 .bf16)
    (x7 : FVec Ideal S1x1024 .f32) : FVec Ideal S512x1024 .f32 :=
  fun y => NormBack.dx (blockBack x0 x1 x2 x3 x6 (y 0)) (fun k => x4 (ix2 (y 0) k)) (fun k => x5 (ix2 (y 0) k)) (fun k => x7 (ix2 0 k)) (y 1)

theorem point (c : Dev nD) (t : Fin cfg0.N) : (outsAt0 m c t.val t.isLt).1
    = blockGrad (iblk m c 0 t) (iblk m c 1 t) (iblk m c 2 t) (iblk m c 3 t) (iblk m c 4 t) (iblk m c 5 t) (iblk m c 6 t) (iblk m c 7 t) := by
  funext y
  by_cases h0 : t.val % 16 = 0
  on_goal 1 => rw [outsAt0_A m c t h0]
  on_goal 2 => rw [outsAt0_B m c t h0]
  all_goals
    generalize iblk m c 0 t = x0, iblk m c 1 t = x1, iblk m c 2 t = x2, iblk m c 3 t = x3, iblk m c 4 t = x4, iblk m c 5 t = x5,
      iblk m c 6 t = x6, iblk m c 7 t = x7
    try unfold out0_A_8
    try unfold out0_B_8
    frame_out
    canon_tiles x h
    all_goals
      pointwise [k0_pay1, k0_pay2, k0_pay3, k0_pay4, k0_pay5, k0_pay6, k0_pay7, k0_pay8, k0_pay9, k0_pay10, k0_pay11, k0_pay12,
        k0_pay13, k0_pay14, k0_pay15, blockGrad, blockBack, chunk, NormBack.dx, NormGrad.grad, NormGrad.scale, NormGrad.ms]
      blk_point []

theorem row_lt (t : Fin cfg0.N) (i : Fin 512) : t.val * 512 + i.val < 8192 := by
  have h : t.val < 16 := lt_of_lt_of_eq t.isLt N_0
  omega

theorem blk0 (c : Dev nD) (t : Fin cfg0.N) (y) : iblk m c 0 t y
    = m ((c : Thread nD τ).loc main_arg0) (ix2 ⟨t.val * 512 + (y 0).val, row_lt t (y 0)⟩ (y 1)) := by
  blk_point [iblk, V, idx t]

theorem blk1 (c : Dev nD) (t : Fin cfg0.N) (y) : iblk m c 1 t y
    = m ((c : Thread nD τ).loc main_arg1) (ix2 ⟨t.val * 512 + (y 0).val, row_lt t (y 0)⟩ (y 1)) := by
  blk_point [iblk, V, idx t]

theorem blk2 (c : Dev nD) (t : Fin cfg0.N) (y) : iblk m c 2 t y
    = m ((c : Thread nD τ).loc main_arg2) (ix2 ⟨t.val * 512 + (y 0).val, row_lt t (y 0)⟩ (y 1)) := by
  blk_point [iblk, V, idx t]

theorem blk3 (c : Dev nD) (t : Fin cfg0.N) (y) : iblk m c 3 t y
    = m ((c : Thread nD τ).loc main_arg3) (ix2 ⟨t.val * 512 + (y 0).val, row_lt t (y 0)⟩ (y 1)) := by
  blk_point [iblk, V, idx t]

theorem blk4 (c : Dev nD) (t : Fin cfg0.N) (y) : iblk m c 4 t y
    = m ((c : Thread nD τ).loc main_arg5) (ix2 ⟨t.val * 512 + (y 0).val, row_lt t (y 0)⟩ (y 1)) := by
  blk_point [iblk, V, idx t]

theorem blk5 (c : Dev nD) (t : Fin cfg0.N) (y) : iblk m c 5 t y
    = m ((c : Thread nD τ).loc main_arg7) (ix2 ⟨t.val * 512 + (y 0).val, row_lt t (y 0)⟩ (y 1)) := by
  blk_point [iblk, V, idx t]

theorem blk6 (c : Dev nD) (t : Fin cfg0.N) (a : Fin 8) (j : Fin 1024) (k : Fin 512) : iblk m c 6 t (ix3 a j k)
    = m ((c : Thread nD τ).loc main_arg4) (ix2 j ⟨a.val * 512 + k.val, by omega⟩) := by
  blk_point [iblk, V, idx t]

theorem blk7 (c : Dev nD) (t : Fin cfg0.N) (k : Fin 1024) : iblk m c 7 t (ix2 0 k) = m ((c : Thread nD τ).loc main_arg6) (ix1 k) := by
  blk_point [iblk, V, idx t]

theorem back_eq (c : Dev nD) (t : Fin cfg0.N) (i : Fin 512) (j : Fin 1024) :
    blockBack (iblk m c 0 t) (iblk m c 1 t) (iblk m c 2 t) (iblk m c 3 t) (iblk m c 6 t) i j
    = back (m ((c : Thread nD τ).loc main_arg0)) (m ((c : Thread nD τ).loc main_arg1)) (m ((c : Thread nD τ).loc main_arg2))
        (m ((c : Thread nD τ).loc main_arg3)) (m ((c : Thread nD τ).loc main_arg4)) ⟨t.val * 512 + i.val, row_lt t i⟩ j := by
  unfold blockBack back chunk
  refine Eq.trans ?_ (Fin.sum_mul_add_congr (S := 8) (n := 512) (F := fun s k => beside (m ((c : Thread nD τ).loc main_arg0))
    (m ((c : Thread nD τ).loc main_arg1)) (m ((c : Thread nD τ).loc main_arg2)) (m ((c : Thread nD τ).loc main_arg3))
    ⟨t.val * 512 + i.val, row_lt t i⟩ ⟨s.val * 512 + k.val, by omega⟩ * m ((c : Thread nD τ).loc main_arg4) (ix2 j ⟨s.val * 512 + k.val, by omega⟩))
    fun s k hl => rfl)
  rw [Fin.sum_univ_eight]
  iterate 7 refine congrArg₂ (· + · : EReal → EReal → EReal) ?_ ?_
  all_goals
    refine Finset.sum_congr rfl fun k _ => ?_
    refine congrArg₂ (· * · : EReal → EReal → EReal) ?_ (blk6 m c t _ _ _)
    unfold beside
    simp only [blk0, blk1, blk2, blk3]
    split_ifs with h1 h2 h3
    all_goals first
      | (exfalso; simp at h1 <;> omega)
      | (exfalso; simp at h1 h2 <;> omega)
      | (exfalso; simp at h1 h2 h3 <;> omega)
      | rfl
      | (congr 2; apply Fin.ext; simp <;> omega)

def blockGain (x0 x1 x2 x3 : FVec Ideal S512x1024 .bf16) (x4 : FVec Ideal S512x1024 .f32) (x6 : FVec Ideal S8x1024x512 .bf16) :
    FVec Ideal S1x1024 .f32 :=
  fun y => NormBack.dgain (blockBack x0 x1 x2 x3 x6) (fun i k => x4 (ix2 i k)) (y 1)

theorem step_A (c : Dev nD) (t : Fin cfg0.N) (h0 : t.val % 16 = 0) (y) : (outsAt0 m c t.val t.isLt).2 y
    = 0 + blockGain (iblk m c 0 t) (iblk m c 1 t) (iblk m c 2 t) (iblk m c 3 t) (iblk m c 4 t) (iblk m c 6 t) y := by
  rw [outsAt0_A m c t h0]
  generalize iblk m c 0 t = x0, iblk m c 1 t = x1, iblk m c 2 t = x2, iblk m c 3 t = x3, iblk m c 4 t = x4, iblk m c 5 t = x5,
    iblk m c 6 t = x6, iblk m c 7 t = x7
  unfold out0_A_9 blockGain NormBack.dgain
  rw [NormBack.halves]
  frame_out
  pointwise [k0_pay1, k0_pay2, k0_pay3, k0_pay4, k0_pay5, k0_pay6, k0_pay7, k0_pay8, k0_pay9, k0_pay10, k0_pay11, k0_pay12,
    k0_pay13, k0_pay14, k0_pay15, blockBack, chunk, NormGrad.scale, NormGrad.ms]
  try simp only [zero_add, add_assoc]

theorem step_B (c : Dev nD) (t : Fin cfg0.N) (h0 : ¬t.val % 16 = 0) (y) : (outsAt0 m c t.val t.isLt).2 y
    = (outsAt0 m c (t.val - 1) (by omega)).2 y + blockGain (iblk m c 0 t) (iblk m c 1 t) (iblk m c 2 t) (iblk m c 3 t) (iblk m c 4 t) (iblk m c 6 t) y := by
  rw [outsAt0_B m c t h0]
  generalize iblk m c 0 t = x0, iblk m c 1 t = x1, iblk m c 2 t = x2, iblk m c 3 t = x3, iblk m c 4 t = x4, iblk m c 5 t = x5,
    iblk m c 6 t = x6, iblk m c 7 t = x7
  unfold out0_B_9 blockGain NormBack.dgain
  rw [NormBack.halves]
  frame_out
  pointwise [k0_pay1, k0_pay2, k0_pay3, k0_pay4, k0_pay5, k0_pay6, k0_pay7, k0_pay8, k0_pay9, k0_pay10, k0_pay11, k0_pay12,
    k0_pay13, k0_pay14, k0_pay15, blockBack, chunk, NormGrad.scale, NormGrad.ms]
  try simp only [zero_add, add_assoc]

theorem emb8 (t : Fin cfg0.N) (y : S512x1024.Idx) : ((cfg0.win 8).blk t).view.emb y
    = ix2 ⟨t.val * 512 + (y 0).val, row_lt t (y 0)⟩ (y 1) := by
  blk_ext [idx t]

theorem final8 (c : Dev nD) : (dats m 0 c).arrAt 8 (cfgs 0).N
    = inGrad (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8, point]
  refine Eq.trans ?_ (congrArg (inGrad _ _ _ _ _ _ _ _) (emb8 t y).symm)
  idx_vars y
  have hb : blockBack (iblk m c 0 t) (iblk m c 1 t) (iblk m c 2 t) (iblk m c 3 t) (iblk m c 6 t) y0
      = back (m ((c : Thread nD τ).loc main_arg0)) (m ((c : Thread nD τ).loc main_arg1)) (m ((c : Thread nD τ).loc main_arg2)) (m ((c : Thread nD τ).loc main_arg3))
          (m ((c : Thread nD τ).loc main_arg4)) ⟨t.val * 512 + y0.val, row_lt t y0⟩ := funext fun k => back_eq m c t y0 k
  have hx : (fun k => iblk m c 4 t (ix2 y0 k)) = fun k => m ((c : Thread nD τ).loc main_arg5) (ix2 ⟨t.val * 512 + y0.val, row_lt t y0⟩ k) :=
    funext fun k => blk4 m c t _
  have hr : (fun k => iblk m c 5 t (ix2 y0 k)) = fun k => m ((c : Thread nD τ).loc main_arg7) (ix2 ⟨t.val * 512 + y0.val, row_lt t y0⟩ k) :=
    funext fun k => blk5 m c t _
  have hg : (fun k => iblk m c 7 t (ix2 0 k)) = fun k => m ((c : Thread nD τ).loc main_arg6) (ix1 k) := funext fun k => blk7 m c t k
  show NormBack.dx _ _ _ _ y1 = NormBack.dx _ _ _ _ y1
  exact congrFun (congr (congr (congr (congrArg NormBack.dx hb) hx) hr) hg) y1

theorem final9 (c : Dev nD) : (dats m 0 c).arrAt 9 (cfgs 0).N
    = gainGrad (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_after_last 9 t0_15 (by decide +kernel) _ fun j => ?_
  blk_simp
  rw [after0_9, Pipeline.eq_sum_fin_of_reset_step_apply_last (fun n h => (outsAt0 m c n h).2) 16 (fun _ => 0) _
    (fun t h j => step_A m c t h j) (fun t h j => step_B m c t h j) (le_of_eq N_0) t0_15 rfl _, zero_add]
  idx_vars j
  exact NormBack.dgain_blocks _ _ _ _ _ (fun s k => back_eq m c s k _) (fun s k => funext fun a => blk4 m c s _)

end Cert.HgrnInIdeal.Value

namespace Cert.HgrnInRefIdeal.Read

open Cert.HgrnInRefIdeal Cert.HgrnInRefIdeal.Gen

theorem value_x (a b c d : FVec Ideal S8192x1024 .f32) (w : FVec Ideal S1024x4096 .f32) (x : FVec Ideal S8192x1024 .f32)
    (g : FVec Ideal S1024 .f32) (dres : FVec Ideal S8192x1024 .f32) :
    val_main_v43 (F := Ideal) a b c d w x g dres = Cert.HgrnInIdeal.Value.inGrad a b c d w x g dres := by
  funext i
  idx_vars i
  show _ = dres (ix2 i0 i1) + NormGrad.grad (fun k => x (ix2 i0 k)) (fun k => Cert.HgrnInIdeal.Value.back a b c d w i0 k * g (ix1 k)) i1
  rw [← NormGrad.vjp]
  pointwise [val_main_v43, val_main_v42, val_main_v41, val_main_v40, val_main_v39, val_main_v38, val_main_v37, val_main_v36,
    val_main_v35, val_main_v34, val_main_v33, val_main_v32, val_main_v31, val_main_v29, val_main_v28, val_main_v24, val_main_v23,
    val_main_v15, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_6, val_main_cst_7, val_main_cst_8, NormGrad.scale, NormGrad.ms, Cert.HgrnInIdeal.Value.back,
    Cert.HgrnInIdeal.Value.beside]
  rw [Fin.sum_univ_one, add_assoc]

theorem value_gain (a b c d : FVec Ideal S8192x1024 .f32) (w : FVec Ideal S1024x4096 .f32) (x : FVec Ideal S8192x1024 .f32) :
    val_main_v44 (F := Ideal) a b c d w x = Cert.HgrnInIdeal.Value.gainGrad a b c d w x := by
  funext i
  idx_vars i
  pointwise [val_main_v44, val_main_v30, val_main_v27, val_main_v26, val_main_v25, val_main_v24, val_main_v23, val_main_v14,
    val_main_v13, val_main_v9, val_main_v8, val_main_v7, val_main_v6, val_main_v5, val_main_v4, val_main_v3, val_main_v0,
    val_main_cst_0, val_main_cst_1, val_main_cst_2, val_main_cst_4, val_main_cst_5, Cert.HgrnInIdeal.Value.gainGrad, NormBack.dgain,
    NormGrad.scale, NormGrad.ms, Cert.HgrnInIdeal.Value.back, Cert.HgrnInIdeal.Value.beside]
  rw [Fin.sum_univ_one]
  exact Finset.sum_congr rfl fun t _ => mul_comm _ _

end Cert.HgrnInRefIdeal.Read

namespace Cert.Proof

theorem algebraic_hgrn_in : Cert.algebraic_HgrnInIdeal_HgrnInRefIdeal := by
  pair_intro
  · run_from Cert.HgrnInIdeal.Gen.run_main m g
  · run_from Cert.HgrnInRefIdeal.Value.run m' g'
    · rw [Cert.HgrnInRefIdeal.Read.val_main_v43_eq, Cert.HgrnInRefIdeal.Read.value_x]
      exact (Cert.HgrnInIdeal.Value.final8 m c).symm
    · rw [Cert.HgrnInRefIdeal.Read.val_main_v44_eq, Cert.HgrnInRefIdeal.Read.value_gain]
      exact (Cert.HgrnInIdeal.Value.final9 m c).symm

end Cert.Proof

end
-- ==== Proof.QkvValue.lean ====
/-
  The gradient through the query/key/value projection and the normalisation before it (qkv_bwd), with the bias's gradient: what
  one grid point stores, and the whole arrays against the reference's terms.
-/
module

public import proofs.«01_k».proof.Proof.Gen.QkvBwdIdeal.Value
public import proofs.«01_k».proof.Proof.Gen.QkvBwdRefIdeal.Read
public import proofs.«01_k».proof.Proof.NormBack
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvBwdIdeal.Value

open Cert.QkvBwdIdeal Cert.QkvBwdIdeal.Gen

variable (m : (ℓ : Loc nD τ sig) → Buf (Elt Ideal) ℓ)

/-- The gradient to the normalised input: the incoming gradient times the transposed projection. -/
def back (d : FVec Ideal S8192x1536 .f32) (w : FVec Ideal S1024x1536 .f32) (i : Fin 8192) (j : Fin 1024) : EReal :=
  ∑ k : Fin 1536, d (ix2 i k) * w (ix2 j k)

def inGrad (d : FVec Ideal S8192x1536 .f32) (w : FVec Ideal S1024x1536 .f32) (x : FVec Ideal S8192x1024 .f32)
    (g : FVec Ideal S1024 .f32) (dres : FVec Ideal S8192x1024 .f32) : FVec Ideal S8192x1024 .f32 :=
  fun i => NormBack.dx (back d w (i 0)) (fun k => x (ix2 (i 0) k)) (fun k => dres (ix2 (i 0) k)) (fun k => g (ix1 k)) (i 1)

def gainGrad (d : FVec Ideal S8192x1536 .f32) (w : FVec Ideal S1024x1536 .f32) (x : FVec Ideal S8192x1024 .f32) :
    FVec Ideal S1x1024 .f32 :=
  fun i => NormBack.dgain (back d w) (fun t k => x (ix2 t k)) (i 1)

/-- The gradient to the projection's bias: the incoming gradient summed over the tokens. -/
def biasGrad (d : FVec Ideal S8192x1536 .f32) : FVec Ideal S1x1536 .f32 :=
  fun i => ∑ t : Fin 8192, d (ix2 t (i 1))

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] :=
  (by decide +kernel : ∀ t : Fin grid0.N, _)

def blockBack (x0 : FVec Ideal S512x1536 .bf16) (x3 : FVec Ideal S1024x1536 .bf16) (i : Fin 512) (j : Fin 1024) : EReal :=
  ∑ k : Fin 1536, x0 (ix2 i k) * x3 (ix2 j k)

def blockGrad (x0 : FVec Ideal S512x1536 .bf16) (x1 : FVec Ideal S512x1024 .f32) (x2 : FVec Ideal S512x1024 .f32)
    (x3 : FVec Ideal S1024x1536 .bf16) (x4 : FVec Ideal S1x1024 .f32) : FVec Ideal S512x1024 .f32 :=
  fun y => NormBack.dx (blockBack x0 x3 (y 0)) (fun k => x1 (ix2 (y 0) k)) (fun k => x2 (ix2 (y 0) k)) (fun k => x4 (ix2 0 k)) (y 1)

theorem point (c : Dev nD) (t : Fin cfg0.N) : (outsAt0 m c t.val t.isLt).1
    = blockGrad (iblk m c 0 t) (iblk m c 1 t) (iblk m c 2 t) (iblk m c 3 t) (iblk m c 4 t) := by
  funext y
  by_cases h0 : t.val % 16 = 0
  on_goal 1 => rw [outsAt0_A m c t h0]
  on_goal 2 => rw [outsAt0_B m c t h0]
  all_goals
    generalize iblk m c 0 t = x0, iblk m c 1 t = x1, iblk m c 2 t = x2, iblk m c 3 t = x3, iblk m c 4 t = x4
    try unfold out0_A_5
    try unfold out0_B_5
    frame_out
    canon_tiles x h
    all_goals
      pointwise [k0_pay1, k0_pay2, k0_pay3, k0_pay4, k0_pay5, k0_pay6, k0_pay7, k0_pay8, k0_pay9, k0_pay10, k0_pay11, k0_pay12,
        k0_pay13, k0_pay14, k0_pay15, k0_pay16, k0_pay17, k0_pay18, blockGrad, blockBack, NormBack.dx, NormGrad.grad, NormGrad.scale,
        NormGrad.ms]
      blk_point []

theorem row_lt (t : Fin cfg0.N) (i : Fin 512) : t.val * 512 + i.val < 8192 := by
  have h : t.val < 16 := lt_of_lt_of_eq t.isLt N_0
  omega

theorem blk0 (c : Dev nD) (t : Fin cfg0.N) (y) : iblk m c 0 t y
    = m ((c : Thread nD τ).loc main_arg0) (ix2 ⟨t.val * 512 + (y 0).val, row_lt t (y 0)⟩ (y 1)) := by
  blk_point [iblk, V, idx t]

theorem blk1 (c : Dev nD) (t : Fin cfg0.N) (y) : iblk m c 1 t y
    = m ((c : Thread nD τ).loc main_arg2) (ix2 ⟨t.val * 512 + (y 0).val, row_lt t (y 0)⟩ (y 1)) := by
  blk_point [iblk, V, idx t]

theorem blk2 (c : Dev nD) (t : Fin cfg0.N) (y) : iblk m c 2 t y
    = m ((c : Thread nD τ).loc main_arg4) (ix2 ⟨t.val * 512 + (y 0).val, row_lt t (y 0)⟩ (y 1)) := by
  blk_point [iblk, V, idx t]

theorem blk3 (c : Dev nD) (t : Fin cfg0.N) (j : Fin 1024) (k : Fin 1536) : iblk m c 3 t (ix2 j k)
    = m ((c : Thread nD τ).loc main_arg1) (ix2 j k) := by
  blk_point [iblk, V, idx t]

theorem blk4 (c : Dev nD) (t : Fin cfg0.N) (k : Fin 1024) : iblk m c 4 t (ix2 0 k) = m ((c : Thread nD τ).loc main_arg3) (ix1 k) := by
  blk_point [iblk, V, idx t]

theorem back_eq (c : Dev nD) (t : Fin cfg0.N) (i : Fin 512) (j : Fin 1024) : blockBack (iblk m c 0 t) (iblk m c 3 t) i j
    = back (m ((c : Thread nD τ).loc main_arg0)) (m ((c : Thread nD τ).loc main_arg1)) ⟨t.val * 512 + i.val, row_lt t i⟩ j := by
  unfold blockBack back
  refine Finset.sum_congr rfl fun k _ => ?_
  rw [blk0, blk3]
  rfl

def blockGain (x0 : FVec Ideal S512x1536 .bf16) (x1 : FVec Ideal S512x1024 .f32) (x3 : FVec Ideal S1024x1536 .bf16) :
    FVec Ideal S1x1024 .f32 :=
  fun y => NormBack.dgain (blockBack x0 x3) (fun i k => x1 (ix2 i k)) (y 1)

def blockBias (x0 : FVec Ideal S512x1536 .bf16) : FVec Ideal S1x1536 .f32 :=
  fun y => ∑ i : Fin 512, x0 (ix2 i (y 1))

/-- The first point of the run starts from zero. -/
theorem step_A (c : Dev nD) (t : Fin cfg0.N) (h0 : t.val % 16 = 0) :
    (∀ y, (outsAt0 m c t.val t.isLt).2.1 y = 0 + blockGain (iblk m c 0 t) (iblk m c 1 t) (iblk m c 3 t) y)
    ∧ ∀ y, (outsAt0 m c t.val t.isLt).2.2 y = 0 + blockBias (iblk m c 0 t) y := by
  rw [outsAt0_A m c t h0]
  generalize iblk m c 0 t = x0, iblk m c 1 t = x1, iblk m c 2 t = x2, iblk m c 3 t = x3, iblk m c 4 t = x4
  unfold out0_A_6 out0_A_7 blockGain blockBias NormBack.dgain
  refine ⟨fun y => ?_, fun y => ?_⟩
  all_goals
    rw [NormBack.halves]
    frame_out
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, blockBack, NormGrad.scale, NormGrad.ms]
    try simp only [zero_add, add_assoc]

/-- Every later point adds to what the point before left. -/
theorem step_B (c : Dev nD) (t : Fin cfg0.N) (h0 : ¬t.val % 16 = 0) :
    (∀ y, (outsAt0 m c t.val t.isLt).2.1 y
      = (outsAt0 m c (t.val - 1) (by omega)).2.1 y + blockGain (iblk m c 0 t) (iblk m c 1 t) (iblk m c 3 t) y)
    ∧ ∀ y, (outsAt0 m c t.val t.isLt).2.2 y = (outsAt0 m c (t.val - 1) (by omega)).2.2 y + blockBias (iblk m c 0 t) y := by
  rw [outsAt0_B m c t h0]
  generalize iblk m c 0 t = x0, iblk m c 1 t = x1, iblk m c 2 t = x2, iblk m c 3 t = x3, iblk m c 4 t = x4
  unfold out0_B_6 out0_B_7 blockGain blockBias NormBack.dgain
  refine ⟨fun y => ?_, fun y => ?_⟩
  all_goals
    rw [NormBack.halves]
    frame_out
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, blockBack, NormGrad.scale, NormGrad.ms]
    try simp only [zero_add, add_assoc]

theorem emb5 (t : Fin cfg0.N) (y : S512x1024.Idx) : ((cfg0.win 5).blk t).view.emb y
    = ix2 ⟨t.val * 512 + (y 0).val, row_lt t (y 0)⟩ (y 1) := by
  blk_ext [idx t]

theorem final5 (c : Dev nD) : (dats m 0 c).arrAt 5 (cfgs 0).N
    = inGrad (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5, point]
  refine Eq.trans ?_ (congrArg (inGrad _ _ _ _ _) (emb5 t y).symm)
  idx_vars y
  have hb : blockBack (iblk m c 0 t) (iblk m c 3 t) y0 = back (m ((c : Thread nD τ).loc main_arg0))
      (m ((c : Thread nD τ).loc main_arg1)) ⟨t.val * 512 + y0.val, row_lt t y0⟩ := funext fun k => back_eq m c t y0 k
  have hx : (fun k => iblk m c 1 t (ix2 y0 k)) = fun k => m ((c : Thread nD τ).loc main_arg2) (ix2 ⟨t.val * 512 + y0.val, row_lt t y0⟩ k) :=
    funext fun k => blk1 m c t _
  have hr : (fun k => iblk m c 2 t (ix2 y0 k)) = fun k => m ((c : Thread nD τ).loc main_arg4) (ix2 ⟨t.val * 512 + y0.val, row_lt t y0⟩ k) :=
    funext fun k => blk2 m c t _
  have hg : (fun k => iblk m c 4 t (ix2 0 k)) = fun k => m ((c : Thread nD τ).loc main_arg3) (ix1 k) := funext fun k => blk4 m c t k
  show NormBack.dx _ _ _ _ y1 = NormBack.dx _ _ _ _ y1
  exact congrFun (congr (congr (congr (congrArg NormBack.dx hb) hx) hr) hg) y1

theorem final6 (c : Dev nD) : (dats m 0 c).arrAt 6 (cfgs 0).N
    = gainGrad (m ((c : Thread nD τ).loc main_arg0)) (m ((c : Thread nD τ).loc main_arg1)) (m ((c : Thread nD τ).loc main_arg2)) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0) _
    (fun t h j => (step_A m c t h).1 j) (fun t h j => (step_B m c t h).1 j) (le_of_eq N_0) t0_15 rfl _, zero_add]
  idx_vars j
  exact NormBack.dgain_blocks _ _ _ _ _ (fun s k => back_eq m c s k _) (fun s k => funext fun a => blk1 m c s _)

theorem final7 (c : Dev nD) : (dats m 0 c).arrAt 7 (cfgs 0).N = biasGrad (m ((c : Thread nD τ).loc main_arg0)) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0) _
    (fun t h j => (step_A m c t h).2 j) (fun t h j => (step_B m c t h).2 j) (le_of_eq N_0) t0_15 rfl _, zero_add]
  idx_vars j
  unfold biasGrad blockBias
  exact Fin.sum_mul_add_congr fun s k hl => blk0 m c s _

end Cert.QkvBwdIdeal.Value

namespace Cert.QkvBwdRefIdeal.Read

open Cert.QkvBwdRefIdeal Cert.QkvBwdRefIdeal.Gen

theorem value_x (d : FVec Ideal S8192x1536 .f32) (w : FVec Ideal S1024x1536 .f32) (x : FVec Ideal S8192x1024 .f32)
    (g : FVec Ideal S1024 .f32) (dres : FVec Ideal S8192x1024 .f32) :
    val_main_v44 (F := Ideal) d w x g dres = Cert.QkvBwdIdeal.Value.inGrad d w x g dres := by
  funext i
  idx_vars i
  show _ = dres (ix2 i0 i1) + NormGrad.grad (fun k => x (ix2 i0 k)) (fun k => Cert.QkvBwdIdeal.Value.back d w i0 k * g (ix1 k)) i1
  rw [← NormGrad.vjp]
  pointwise [val_main_v44, val_main_v43, val_main_v42, val_main_v41, val_main_v40, val_main_v39, val_main_v38, val_main_v37, val_main_v36,
    val_main_v35, val_main_v34, val_main_v33, val_main_v32, val_main_v30, val_main_v29, val_main_v25, val_main_v22, val_main_v16,
    val_main_v13, val_main_v12, val_main_v11, val_main_v10, val_main_v9, val_main_v8, val_main_v7, val_main_v6, val_main_v5,
    val_main_v4, val_main_v3, val_main_v2, val_main_v1, val_main_cst_0, val_main_cst_1, val_main_cst_2,
    val_main_cst_3, val_main_cst_4, val_main_cst_8, val_main_cst_9, val_main_cst_10, NormGrad.scale, NormGrad.ms,
    Cert.QkvBwdIdeal.Value.back]
  rw [Fin.sum_univ_one, add_assoc]

theorem value_gain (d : FVec Ideal S8192x1536 .f32) (w : FVec Ideal S1024x1536 .f32) (x : FVec Ideal S8192x1024 .f32) :
    val_main_v45 (F := Ideal) d w x = Cert.QkvBwdIdeal.Value.gainGrad d w x := by
  funext i
  idx_vars i
  pointwise [val_main_v45, val_main_v31, val_main_v28, val_main_v27, val_main_v26, val_main_v25, val_main_v22, val_main_v15,
    val_main_v14, val_main_v10, val_main_v9, val_main_v8, val_main_v7, val_main_v6, val_main_v5, val_main_v4, val_main_v1,
    val_main_cst_0, val_main_cst_1, val_main_cst_2, val_main_cst_3, val_main_cst_6, val_main_cst_7,
    Cert.QkvBwdIdeal.Value.gainGrad, NormBack.dgain, NormGrad.scale, NormGrad.ms, Cert.QkvBwdIdeal.Value.back]
  rw [Fin.sum_univ_one]
  exact Finset.sum_congr rfl fun t _ => mul_comm _ _

theorem value_bias (d : FVec Ideal S8192x1536 .f32) : val_main_v24 (F := Ideal) d = Cert.QkvBwdIdeal.Value.biasGrad d := by
  funext i
  idx_vars i
  pointwise [val_main_v24, val_main_v23, val_main_cst_5, Cert.QkvBwdIdeal.Value.biasGrad]

end Cert.QkvBwdRefIdeal.Read

end
-- ==== Proof.QkvEq.lean ====
/-
  The gradient through the query/key/value projection: the kernel's three arrays are the reference's.
-/
module

public import proofs.«01_k».proof.Proof.QkvValue
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof

theorem algebraic_qkv_bwd : Cert.algebraic_QkvBwdIdeal_QkvBwdRefIdeal := by
  pair_intro
  · run_from Cert.QkvBwdIdeal.Gen.run_main m g
  · refine (θ_run Cert.QkvBwdRefIdeal.defs _ _).mono (fun r h c => ?_) (Cert.QkvBwdRefIdeal.Value.run (F := Ideal) m' g')
    obtain ⟨a0, a1, a2, a3, a4⟩ := hagree c
    obtain ⟨h0, h1, h2, hr⟩ := h c
    refine ⟨?_, ?_, ?_, hr⟩
    · have e := (Cert.QkvBwdIdeal.Value.final5 m c).symm
      rw [← a0, ← a1, ← a2, ← a3, ← a4] at e
      exact h0.trans ((Cert.QkvBwdRefIdeal.Read.val_main_v44_eq (F := Ideal) _ _ _ _ _).trans ((Cert.QkvBwdRefIdeal.Read.value_x _ _ _ _ _).trans e))
    · have e := (Cert.QkvBwdIdeal.Value.final6 m c).symm
      rw [← a0, ← a1, ← a2] at e
      exact h1.trans ((Cert.QkvBwdRefIdeal.Read.val_main_v45_eq (F := Ideal) _ _ _).trans ((Cert.QkvBwdRefIdeal.Read.value_gain _ _ _).trans e))
    · have e := (Cert.QkvBwdIdeal.Value.final7 m c).symm
      rw [← a0] at e
      exact h2.trans ((Cert.QkvBwdRefIdeal.Read.val_main_v24_eq (F := Ideal) _).trans ((Cert.QkvBwdRefIdeal.Read.value_bias _).trans e))

end Cert.Proof

end
-- ==== Proof.OutValue.lean ====
/-
  The attention's output projection with its residual (attn_out_proj), and the gradient through it (attn_out_bwd): what one
  grid point stores, and the whole arrays against the references' terms.
-/
module

public import proofs.«01_k».proof.Proof.Gen.OutIdeal.Value
public import proofs.«01_k».proof.Proof.Gen.OutRefIdeal.Read
public import proofs.«01_k».proof.Proof.Gen.OutBwdIdeal.Value
public import proofs.«01_k».proof.Proof.Gen.OutBwdRefIdeal.Read
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen

variable (m : (ℓ : Loc nD τ sig) → Buf (Elt Ideal) ℓ)

/-- The residual plus the product. -/
def project (a : FVec Ideal S8192x1024 .f32) (w : FVec Ideal S1024x1024 .f32) (res : FVec Ideal S8192x1024 .f32) :
    FVec Ideal S8192x1024 .f32 :=
  fun i => res i + ∑ k : Fin 1024, a (ix2 (i 0) k) * w (ix2 k (i 1))

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem final (c : Dev nD) : (dats m 0 c).arrAt 3 (cfgs 0).N
    = project (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  canon_tiles x h
  all_goals
    pointwise [k0_pay1, project]
    blk_point [iblk, V, idx t]

end Cert.OutIdeal.Value

namespace Cert.OutRefIdeal.Read

open Cert.OutRefIdeal Cert.OutRefIdeal.Gen

theorem value (a : FVec Ideal S8192x1024 .f32) (w : FVec Ideal S1024x1024 .f32) (res : FVec Ideal S8192x1024 .f32) :
    val_main_v1 (F := Ideal) a w res = Cert.OutIdeal.Value.project a w res := by
  funext i
  idx_vars i
  pointwise [val_main_v1, val_main_v0, Cert.OutIdeal.Value.project]

end Cert.OutRefIdeal.Read

namespace Cert.OutBwdIdeal.Value

open Cert.OutBwdIdeal Cert.OutBwdIdeal.Gen

variable (m : (ℓ : Loc nD τ sig) → Buf (Elt Ideal) ℓ)

/-- The incoming gradient times the transposed projection. -/
def back (dx : FVec Ideal S8192x1024 .f32) (w : FVec Ideal S1024x1024 .f32) : FVec Ideal S8192x1024 .bf16 :=
  fun i => ∑ k : Fin 1024, dx (ix2 (i 0) k) * w (ix2 (i 1) k)

theorem idx : ∀ t : Fin cfg0.N, win0_0.index t = ![t.val, 0] ∧ win0_1.index t = ![0, 0] ∧ win0_2.index t = ![t.val, 0] :=
  (by decide +kernel : ∀ t : Fin grid0.N, _)

theorem final (c : Dev nD) : (dats m 0 c).arrAt 2 (cfgs 0).N
    = back (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  canon_tiles x h
  all_goals
    pointwise [k0_pay1, back]
    blk_point [iblk, V, idx t]

end Cert.OutBwdIdeal.Value

namespace Cert.OutBwdRefIdeal.Read

open Cert.OutBwdRefIdeal Cert.OutBwdRefIdeal.Gen

theorem value (dx : FVec Ideal S8192x1024 .f32) (w : FVec Ideal S1024x1024 .f32) :
    val_main_v3 (F := Ideal) dx w = Cert.OutBwdIdeal.Value.back dx w := by
  funext i
  idx_vars i
  pointwise [val_main_v3, val_main_v2, Cert.OutBwdIdeal.Value.back]

end Cert.OutBwdRefIdeal.Read

namespace Cert.Proof

theorem algebraic_out : Cert.algebraic_OutIdeal_OutRefIdeal := by
  pair_intro
  · run_from Cert.OutIdeal.Gen.run_main m g
  · run_from Cert.OutRefIdeal.Value.run m' g'
    rw [Cert.OutRefIdeal.Read.val_main_v1_eq, Cert.OutRefIdeal.Read.value]
    exact (Cert.OutIdeal.Value.final m c).symm

theorem algebraic_out_bwd : Cert.algebraic_OutBwdIdeal_OutBwdRefIdeal := by
  pair_intro
  · run_from Cert.OutBwdIdeal.Gen.run_main m g
  · run_from Cert.OutBwdRefIdeal.Value.run m' g'
    rw [Cert.OutBwdRefIdeal.Read.val_main_v3_eq, Cert.OutBwdRefIdeal.Read.value]
    exact (Cert.OutBwdIdeal.Value.final m c).symm

end Cert.Proof

end
-- ==== Proof.Adam.lean ====
/-
  One step of the optimiser, entry by entry: the gradient summed over the devices, the two moments and the step.
-/
module

public import Idealize.ShloMosaic.Lib.Pointwise

@[expose] public section

noncomputable section

open Idealize.ShloMosaic

namespace Cert.Adam

/-- The first moment. -/
def mean (g m : EReal) : EReal := Ideal.ofBits .f32 0x3F666666#32 * m + Ideal.ofBits .f32 0x3DCCCCCD#32 * g

/-- The second moment. -/
def square (g v : EReal) : EReal := Ideal.ofBits .f32 0x3F7FBE77#32 * v + Ideal.ofBits .f32 0x3A83126F#32 * (g * g)

/-- The step from the moments and the weight. -/
def delta (w g m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)

/-- The gradient of a weight of one layer: the sum of the eight devices' parts. -/
def one {r c : ℕ} (p : (⟨3, ![8, r, c]⟩ : Shape).Idx → EReal) : (⟨3, ![1, r, c]⟩ : Shape).Idx → EReal :=
  fun i => ∑ s : Fin 8, p (ix3 s (i 1) (i 2))

/-- The gradient of a weight of two layers, each the sum of its parts. -/
def two {r c : ℕ} (p q : (⟨3, ![8, r, c]⟩ : Shape).Idx → EReal) : (⟨3, ![2, r, c]⟩ : Shape).Idx → EReal :=
  fun i => if (i 0).val < 1 then ∑ s : Fin 8, p (ix3 s (i 1) (i 2)) else ∑ s : Fin 8, q (ix3 s (i 1) (i 2))

end Cert.Adam

end
-- ==== Proof.AdamQkv.lean ====
/-
  The optimiser's step of the query/key/value weight (adamw_attn_w_qkv): the four arrays against the reference's terms.
-/
module

public import proofs.«01_k».proof.Proof.Gen.AdamQkvIdeal.Value
public import proofs.«01_k».proof.Proof.Gen.AdamQkvRefIdeal.Read
public import proofs.«01_k».proof.Proof.Adam
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamQkvIdeal.Value

open Cert.AdamQkvIdeal Cert.AdamQkvIdeal.Gen

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

variable (c : Dev nD)

theorem final4 : (dats m 0 c).arrAt 4 (cfgs 0).N = Adam.one (m ((c : Thread nD τ).loc main_arg0)) := by
  refine (dats m 0 c).arrAt_eq_of_covers 4 _ (by decide +kernel) fun t _ y => ?_
  blk_simp
  rw [after0_4]
  unfold_out out0_4
  canon_tiles x h
  all_goals
    pointwise [k0_pay1, k0_pay2, k0_pay3, k0_pay4, k0_pay5, k0_pay6, k0_pay7, Adam.one, Fin.sum_univ_eight]
    blk_point [iblk, V, idx t]

theorem final5 : (dats m 0 c).arrAt 5 (cfgs 0).N = fun i => Adam.delta (m ((c : Thread nD τ).loc main_arg1) i)
    (Adam.one (m ((c : Thread nD τ).loc main_arg0)) i) (m ((c : Thread nD τ).loc main_arg2) i) (m ((c : Thread nD τ).loc main_arg3) i) := by
  refine (dats m 0 c).arrAt_eq_of_covers 5 _ (by decide +kernel) fun t _ y => ?_
  blk_simp
  rw [after0_5]
  unfold_out out0_5
  canon_tiles x h
  all_goals
    pointwise [k0_pay1, k0_pay2, k0_pay3, k0_pay4, k0_pay5, k0_pay6, k0_pay7, Adam.one, Fin.sum_univ_eight, Adam.delta, Adam.mean,
      Adam.square]
    blk_point [iblk, V, idx t]

theorem final6 : (dats m 0 c).arrAt 6 (cfgs 0).N = fun i => Adam.mean (Adam.one (m ((c : Thread nD τ).loc main_arg0)) i)
    (m ((c : Thread nD τ).loc main_arg2) i) := by
  refine (dats m 0 c).arrAt_eq_of_covers 6 _ (by decide +kernel) fun t _ y => ?_
  blk_simp
  rw [after0_6]
  unfold_out out0_6
  canon_tiles x h
  all_goals
    pointwise [k0_pay1, k0_pay2, k0_pay3, k0_pay4, k0_pay5, k0_pay6, k0_pay7, Adam.one, Fin.sum_univ_eight, Adam.mean]
    blk_point [iblk, V, idx t]

theorem final7 : (dats m 0 c).arrAt 7 (cfgs 0).N = fun i => Adam.square (Adam.one (m ((c : Thread nD τ).loc main_arg0)) i)
    (m ((c : Thread nD τ).loc main_arg3) i) := by
  refine (dats m 0 c).arrAt_eq_of_covers 7 _ (by decide +kernel) fun t _ y => ?_
  blk_simp
  rw [after0_7]
  unfold_out out0_7
  canon_tiles x h
  all_goals
    pointwise [k0_pay1, k0_pay2, k0_pay3, k0_pay4, k0_pay5, k0_pay6, k0_pay7, Adam.one, Fin.sum_univ_eight, Adam.square]
    blk_point [iblk, V, idx t]

end Cert.AdamQkvIdeal.Value

namespace Cert.AdamQkvRefIdeal.Read

open Cert.AdamQkvRefIdeal Cert.AdamQkvRefIdeal.Gen

variable (p : FVec Ideal S8x1024x192 .f32) (w u v : FVec Ideal S1x1024x192 .f32)

theorem value_g : val_main_v1 (F := Ideal) p = Adam.one p := by
  funext i
  idx_vars i
  pointwise [val_main_v1, val_main_v0, val_main_cst, Adam.one]

theorem value_m : val_main_v6 (F := Ideal) p u = fun i => Adam.mean (Adam.one p i) (u i) := by
  rw [← value_g]
  funext i
  idx_vars i
  pointwise [val_main_v6, val_main_v5, val_main_v4, val_main_v3, val_main_v2, val_main_cst_0, val_main_cst_1, Adam.mean]

theorem value_v : val_main_v12 (F := Ideal) p v = fun i => Adam.square (Adam.one p i) (v i) := by
  rw [← value_g]
  funext i
  idx_vars i
  pointwise [val_main_v12, val_main_v11, val_main_v10, val_main_v9, val_main_v8, val_main_v7, val_main_cst_2, val_main_cst_3, Adam.square]

theorem value_d : val_main_v25 (F := Ideal) p w u v = fun i => Adam.delta (w i) (Adam.one p i) (u i) (v i) := by
  funext i
  have hm : Adam.mean (Adam.one p i) (u i) = val_main_v6 (F := Ideal) p u i := (congrFun (value_m p u) i).symm
  have hv : Adam.square (Adam.one p i) (v i) = val_main_v12 (F := Ideal) p v i := (congrFun (value_v p v) i).symm
  unfold Adam.delta
  rw [hm, hv]
  idx_vars i
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8]

end Cert.AdamQkvRefIdeal.Read

namespace Cert.Proof

theorem algebraic_adam_qkv : Cert.algebraic_AdamQkvIdeal_AdamQkvRefIdeal := by
  pair_intro
  · run_from Cert.AdamQkvIdeal.Gen.run_main m g
  · refine (θ_run Cert.AdamQkvRefIdeal.defs _ _).mono (fun r h c => ?_) (Cert.AdamQkvRefIdeal.Value.run (F := Ideal) m' g')
    obtain ⟨a0, a1, a2, a3⟩ := hagree c
    obtain ⟨h0, h1, h2, h3, hr⟩ := h c
    refine ⟨?_, ?_, ?_, ?_, hr⟩
    · have e := (Cert.AdamQkvIdeal.Value.final4 m c).symm
      rw [← a0] at e
      exact h0.trans ((Cert.AdamQkvRefIdeal.Read.val_main_v1_eq (F := Ideal) _).trans ((Cert.AdamQkvRefIdeal.Read.value_g _).trans e))
    · have e := (Cert.AdamQkvIdeal.Value.final5 m c).symm
      rw [← a0, ← a1, ← a2, ← a3] at e
      exact h1.trans ((Cert.AdamQkvRefIdeal.Read.val_main_v25_eq (F := Ideal) _ _ _ _).trans
        ((Cert.AdamQkvRefIdeal.Read.value_d _ _ _ _).trans e))
    · have e := (Cert.AdamQkvIdeal.Value.final6 m c).symm
      rw [← a0, ← a2] at e
      exact h2.trans ((Cert.AdamQkvRefIdeal.Read.val_main_v6_eq (F := Ideal) _ _).trans ((Cert.AdamQkvRefIdeal.Read.value_m _ _).trans e))
    · have e := (Cert.AdamQkvIdeal.Value.final7 m c).symm
      rw [← a0, ← a3] at e
      exact h3.trans ((Cert.AdamQkvRefIdeal.Read.val_main_v12_eq (F := Ideal) _ _).trans ((Cert.AdamQkvRefIdeal.Read.value_v _ _).trans e))

end Cert.Proof

end
-- ==== Proof.AdamO.lean ====
/-
  The optimiser's step of the attention's output weight (adamw_attn_w_o): the four arrays against the reference's terms.
-/
module

public import proofs.«01_k».proof.Proof.Gen.AdamOIdeal.Value
public import proofs.«01_k».proof.Proof.Gen.AdamORefIdeal.Read
public import proofs.«01_k».proof.Proof.Adam
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamOIdeal.Value

open Cert.AdamOIdeal Cert.AdamOIdeal.Gen

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

variable (c : Dev nD)

theorem final4 : (dats m 0 c).arrAt 4 (cfgs 0).N = Adam.one (m ((c : Thread nD τ).loc main_arg0)) := by
  refine (dats m 0 c).arrAt_eq_of_covers 4 _ (by decide +kernel) fun t _ y => ?_
  blk_simp
  rw [after0_4]
  unfold_out out0_4
  canon_tiles x h
  all_goals
    pointwise [k0_pay1, k0_pay2, k0_pay3, k0_pay4, k0_pay5, k0_pay6, k0_pay7, Adam.one, Fin.sum_univ_eight]
    blk_point [iblk, V, idx t]

theorem final5 : (dats m 0 c).arrAt 5 (cfgs 0).N = fun i => Adam.delta (m ((c : Thread nD τ).loc main_arg1) i)
    (Adam.one (m ((c : Thread nD τ).loc main_arg0)) i) (m ((c : Thread nD τ).loc main_arg2) i) (m ((c : Thread nD τ).loc main_arg3) i) := by
  refine (dats m 0 c).arrAt_eq_of_covers 5 _ (by decide +kernel) fun t _ y => ?_
  blk_simp
  rw [after0_5]
  unfold_out out0_5
  canon_tiles x h
  all_goals
    pointwise [k0_pay1, k0_pay2, k0_pay3, k0_pay4, k0_pay5, k0_pay6, k0_pay7, Adam.one, Fin.sum_univ_eight, Adam.delta, Adam.mean,
      Adam.square]
    blk_point [iblk, V, idx t]

theorem final6 : (dats m 0 c).arrAt 6 (cfgs 0).N = fun i => Adam.mean (Adam.one (m ((c : Thread nD τ).loc main_arg0)) i)
    (m ((c : Thread nD τ).loc main_arg2) i) := by
  refine (dats m 0 c).arrAt_eq_of_covers 6 _ (by decide +kernel) fun t _ y => ?_
  blk_simp
  rw [after0_6]
  unfold_out out0_6
  canon_tiles x h
  all_goals
    pointwise [k0_pay1, k0_pay2, k0_pay3, k0_pay4, k0_pay5, k0_pay6, k0_pay7, Adam.one, Fin.sum_univ_eight, Adam.mean]
    blk_point [iblk, V, idx t]

theorem final7 : (dats m 0 c).arrAt 7 (cfgs 0).N = fun i => Adam.square (Adam.one (m ((c : Thread nD τ).loc main_arg0)) i)
    (m ((c : Thread nD τ).loc main_arg3) i) := by
  refine (dats m 0 c).arrAt_eq_of_covers 7 _ (by decide +kernel) fun t _ y => ?_
  blk_simp
  rw [after0_7]
  unfold_out out0_7
  canon_tiles x h
  all_goals
    pointwise [k0_pay1, k0_pay2, k0_pay3, k0_pay4, k0_pay5, k0_pay6, k0_pay7, Adam.one, Fin.sum_univ_eight, Adam.square]
    blk_point [iblk, V, idx t]

end Cert.AdamOIdeal.Value

namespace Cert.AdamORefIdeal.Read

open Cert.AdamORefIdeal Cert.AdamORefIdeal.Gen

variable (p : FVec Ideal S8x128x1024 .f32) (w u v : FVec Ideal S1x128x1024 .f32)

theorem value_g : val_main_v1 (F := Ideal) p = Adam.one p := by
  funext i
  idx_vars i
  pointwise [val_main_v1, val_main_v0, val_main_cst, Adam.one]

theorem value_m : val_main_v6 (F := Ideal) p u = fun i => Adam.mean (Adam.one p i) (u i) := by
  rw [← value_g]
  funext i
  idx_vars i
  pointwise [val_main_v6, val_main_v5, val_main_v4, val_main_v3, val_main_v2, val_main_cst_0, val_main_cst_1, Adam.mean]

theorem value_v : val_main_v12 (F := Ideal) p v = fun i => Adam.square (Adam.one p i) (v i) := by
  rw [← value_g]
  funext i
  idx_vars i
  pointwise [val_main_v12, val_main_v11, val_main_v10, val_main_v9, val_main_v8, val_main_v7, val_main_cst_2, val_main_cst_3, Adam.square]

theorem value_d : val_main_v25 (F := Ideal) p w u v = fun i => Adam.delta (w i) (Adam.one p i) (u i) (v i) := by
  funext i
  have hm : Adam.mean (Adam.one p i) (u i) = val_main_v6 (F := Ideal) p u i := (congrFun (value_m p u) i).symm
  have hv : Adam.square (Adam.one p i) (v i) = val_main_v12 (F := Ideal) p v i := (congrFun (value_v p v) i).symm
  unfold Adam.delta
  rw [hm, hv]
  idx_vars i
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8]

end Cert.AdamORefIdeal.Read

namespace Cert.Proof

theorem algebraic_adam_o : Cert.algebraic_AdamOIdeal_AdamORefIdeal := by
  pair_intro
  · run_from Cert.AdamOIdeal.Gen.run_main m g
  · refine (θ_run Cert.AdamORefIdeal.defs _ _).mono (fun r h c => ?_) (Cert.AdamORefIdeal.Value.run (F := Ideal) m' g')
    obtain ⟨a0, a1, a2, a3⟩ := hagree c
    obtain ⟨h0, h1, h2, h3, hr⟩ := h c
    refine ⟨?_, ?_, ?_, ?_, hr⟩
    · have e := (Cert.AdamOIdeal.Value.final4 m c).symm
      rw [← a0] at e
      exact h0.trans ((Cert.AdamORefIdeal.Read.val_main_v1_eq (F := Ideal) _).trans ((Cert.AdamORefIdeal.Read.value_g _).trans e))
    · have e := (Cert.AdamOIdeal.Value.final5 m c).symm
      rw [← a0, ← a1, ← a2, ← a3] at e
      exact h1.trans ((Cert.AdamORefIdeal.Read.val_main_v25_eq (F := Ideal) _ _ _ _).trans
        ((Cert.AdamORefIdeal.Read.value_d _ _ _ _).trans e))
    · have e := (Cert.AdamOIdeal.Value.final6 m c).symm
      rw [← a0, ← a2] at e
      exact h2.trans ((Cert.AdamORefIdeal.Read.val_main_v6_eq (F := Ideal) _ _).trans ((Cert.AdamORefIdeal.Read.value_m _ _).trans e))
    · have e := (Cert.AdamOIdeal.Value.final7 m c).symm
      rw [← a0, ← a3] at e
      exact h3.trans ((Cert.AdamORefIdeal.Read.val_main_v12_eq (F := Ideal) _ _).trans ((Cert.AdamORefIdeal.Read.value_v _ _).trans e))

end Cert.Proof

end
-- ==== Proof.AdamIn.lean ====
/-
  The optimiser's step of the gate layer's input weight (adamw_hgrn_w_in): the four arrays against the reference's terms.
-/
module

public import proofs.«01_k».proof.Proof.Gen.AdamInIdeal.Value
public import proofs.«01_k».proof.Proof.Gen.AdamInRefIdeal.Read
public import proofs.«01_k».proof.Proof.Adam
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamInIdeal.Value

open Cert.AdamInIdeal Cert.AdamInIdeal.Gen

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

variable (c : Dev nD)

theorem final4 : (dats m 0 c).arrAt 4 (cfgs 0).N = Adam.one (m ((c : Thread nD τ).loc main_arg0)) := by
  refine (dats m 0 c).arrAt_eq_of_covers 4 _ (by decide +kernel) fun t _ y => ?_
  blk_simp
  rw [after0_4]
  unfold_out out0_4
  canon_tiles x h
  all_goals
    pointwise [k0_pay1, k0_pay2, k0_pay3, k0_pay4, k0_pay5, k0_pay6, k0_pay7, Adam.one, Fin.sum_univ_eight]
    blk_point [iblk, V, idx t]

theorem final5 : (dats m 0 c).arrAt 5 (cfgs 0).N = fun i => Adam.delta (m ((c : Thread nD τ).loc main_arg1) i)
    (Adam.one (m ((c : Thread nD τ).loc main_arg0)) i) (m ((c : Thread nD τ).loc main_arg2) i) (m ((c : Thread nD τ).loc main_arg3) i) := by
  refine (dats m 0 c).arrAt_eq_of_covers 5 _ (by decide +kernel) fun t _ y => ?_
  blk_simp
  rw [after0_5]
  unfold_out out0_5
  canon_tiles x h
  all_goals
    pointwise [k0_pay1, k0_pay2, k0_pay3, k0_pay4, k0_pay5, k0_pay6, k0_pay7, Adam.one, Fin.sum_univ_eight, Adam.delta, Adam.mean,
      Adam.square]
    blk_point [iblk, V, idx t]

theorem final6 : (dats m 0 c).arrAt 6 (cfgs 0).N = fun i => Adam.mean (Adam.one (m ((c : Thread nD τ).loc main_arg0)) i)
    (m ((c : Thread nD τ).loc main_arg2) i) := by
  refine (dats m 0 c).arrAt_eq_of_covers 6 _ (by decide +kernel) fun t _ y => ?_
  blk_simp
  rw [after0_6]
  unfold_out out0_6
  canon_tiles x h
  all_goals
    pointwise [k0_pay1, k0_pay2, k0_pay3, k0_pay4, k0_pay5, k0_pay6, k0_pay7, Adam.one, Fin.sum_univ_eight, Adam.mean]
    blk_point [iblk, V, idx t]

theorem final7 : (dats m 0 c).arrAt 7 (cfgs 0).N = fun i => Adam.square (Adam.one (m ((c : Thread nD τ).loc main_arg0)) i)
    (m ((c : Thread nD τ).loc main_arg3) i) := by
  refine (dats m 0 c).arrAt_eq_of_covers 7 _ (by decide +kernel) fun t _ y => ?_
  blk_simp
  rw [after0_7]
  unfold_out out0_7
  canon_tiles x h
  all_goals
    pointwise [k0_pay1, k0_pay2, k0_pay3, k0_pay4, k0_pay5, k0_pay6, k0_pay7, Adam.one, Fin.sum_univ_eight, Adam.square]
    blk_point [iblk, V, idx t]

end Cert.AdamInIdeal.Value

namespace Cert.AdamInRefIdeal.Read

open Cert.AdamInRefIdeal Cert.AdamInRefIdeal.Gen

variable (p : FVec Ideal S8x1024x512 .f32) (w u v : FVec Ideal S1x1024x512 .f32)

theorem value_g : val_main_v1 (F := Ideal) p = Adam.one p := by
  funext i
  idx_vars i
  pointwise [val_main_v1, val_main_v0, val_main_cst, Adam.one]

theorem value_m : val_main_v6 (F := Ideal) p u = fun i => Adam.mean (Adam.one p i) (u i) := by
  rw [← value_g]
  funext i
  idx_vars i
  pointwise [val_main_v6, val_main_v5, val_main_v4, val_main_v3, val_main_v2, val_main_cst_0, val_main_cst_1, Adam.mean]

theorem value_v : val_main_v12 (F := Ideal) p v = fun i => Adam.square (Adam.one p i) (v i) := by
  rw [← value_g]
  funext i
  idx_vars i
  pointwise [val_main_v12, val_main_v11, val_main_v10, val_main_v9, val_main_v8, val_main_v7, val_main_cst_2, val_main_cst_3, Adam.square]

theorem value_d : val_main_v25 (F := Ideal) p w u v = fun i => Adam.delta (w i) (Adam.one p i) (u i) (v i) := by
  funext i
  have hm : Adam.mean (Adam.one p i) (u i) = val_main_v6 (F := Ideal) p u i := (congrFun (value_m p u) i).symm
  have hv : Adam.square (Adam.one p i) (v i) = val_main_v12 (F := Ideal) p v i := (congrFun (value_v p v) i).symm
  unfold Adam.delta
  rw [hm, hv]
  idx_vars i
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8]

end Cert.AdamInRefIdeal.Read

namespace Cert.Proof

theorem algebraic_adam_in : Cert.algebraic_AdamInIdeal_AdamInRefIdeal := by
  pair_intro
  · run_from Cert.AdamInIdeal.Gen.run_main m g
  · refine (θ_run Cert.AdamInRefIdeal.defs _ _).mono (fun r h c => ?_) (Cert.AdamInRefIdeal.Value.run (F := Ideal) m' g')
    obtain ⟨a0, a1, a2, a3⟩ := hagree c
    obtain ⟨h0, h1, h2, h3, hr⟩ := h c
    refine ⟨?_, ?_, ?_, ?_, hr⟩
    · have e := (Cert.AdamInIdeal.Value.final4 m c).symm
      rw [← a0] at e
      exact h0.trans ((Cert.AdamInRefIdeal.Read.val_main_v1_eq (F := Ideal) _).trans ((Cert.AdamInRefIdeal.Read.value_g _).trans e))
    · have e := (Cert.AdamInIdeal.Value.final5 m c).symm
      rw [← a0, ← a1, ← a2, ← a3] at e
      exact h1.trans ((Cert.AdamInRefIdeal.Read.val_main_v25_eq (F := Ideal) _ _ _ _).trans
        ((Cert.AdamInRefIdeal.Read.value_d _ _ _ _).trans e))
    · have e := (Cert.AdamInIdeal.Value.final6 m c).symm
      rw [← a0, ← a2] at e
      exact h2.trans ((Cert.AdamInRefIdeal.Read.val_main_v6_eq (F := Ideal) _ _).trans ((Cert.AdamInRefIdeal.Read.value_m _ _).trans e))
    · have e := (Cert.AdamInIdeal.Value.final7 m c).symm
      rw [← a0, ← a3] at e
      exact h3.trans ((Cert.AdamInRefIdeal.Read.val_main_v12_eq (F := Ideal) _ _).trans ((Cert.AdamInRefIdeal.Read.value_v _ _).trans e))

end Cert.Proof

end
-- ==== Proof.AdamUp.lean ====
/-
  The optimiser's step of the two layers' up weights (adamw_mlp_w_up): the four arrays against the reference's terms.
-/
module

public import proofs.«01_k».proof.Proof.Gen.AdamUpIdeal.Value
public import proofs.«01_k».proof.Proof.Gen.AdamUpRefIdeal.Read
public import proofs.«01_k».proof.Proof.Adam
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamUpIdeal.Value

open Cert.AdamUpIdeal Cert.AdamUpIdeal.Gen

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

variable (c : Dev nD)

theorem layer5 (t : Fin cfg0.N) (y : ((cfg0.win 5).xblock (cfg0.grid.coords t)).Idx) :
    (((View.whole main_v2_0).slice (win0_5.rect t)).emb y 0).val = (y 0).val := by
  show win0_5.index t 0 * 2 + 1 * (y 0).val = (y 0).val
  rw [(idx t).2.2.2.2.2.1]
  simp

/-- The first layer's sum, in the block. -/
theorem part0 (t : Fin cfg0.N) (y : ((cfg0.win 5).xblock (cfg0.grid.coords t)).Idx) (x : S1x128x512.Idx) (h0 : (y 0).val = (x 0).val)
    (h1 : (y 1).val = (x 1).val) (h2 : (y 2).val = (x 2).val) :
    k0_pay17 (iblk m c 0 t) (iblk m c 1 t) (iblk m c 2 t) (iblk m c 3 t) (iblk m c 4 t) (ix2 (x 1) (x 2))
      = Adam.two (m ((c : Thread nD τ).loc main_arg0)) (m ((c : Thread nD τ).loc main_arg1)) (((View.whole main_v2_0).slice (win0_5.rect t)).emb y) := by
  have x0_lt : (x 0).val < 1 := (x 0).isLt
  unfold k0_pay17
  pointwise [k0_pay4, Adam.two, Fin.sum_univ_eight]
  rw [if_pos (by rw [layer5]; omega)]
  blk_point [iblk, V, idx t]

/-- The second layer's. -/
theorem part1 (t : Fin cfg0.N) (y : ((cfg0.win 5).xblock (cfg0.grid.coords t)).Idx) (x : S1x128x512.Idx) (h0 : (y 0).val = 1 + (x 0).val)
    (h1 : (y 1).val = (x 1).val) (h2 : (y 2).val = (x 2).val) :
    k0_pay12 (k0_pay18 (iblk m c 0 t) (iblk m c 1 t) (iblk m c 2 t) (iblk m c 3 t) (iblk m c 4 t)) (View.ld (iblk m c 1 t) r0_7) (ix2 (x 1) (x 2))
      = Adam.two (m ((c : Thread nD τ).loc main_arg0)) (m ((c : Thread nD τ).loc main_arg1)) (((View.whole main_v2_0).slice (win0_5.rect t)).emb y) := by
  unfold k0_pay18
  pointwise [k0_pay11, k0_pay12, Adam.two, Fin.sum_univ_eight]
  rw [if_neg (by rw [layer5]; omega)]
  blk_point [iblk, V, idx t]

theorem final5 : (dats m 0 c).arrAt 5 (cfgs 0).N = Adam.two (m ((c : Thread nD τ).loc main_arg0)) (m ((c : Thread nD τ).loc main_arg1)) := by
  refine (dats m 0 c).arrAt_eq_of_covers 5 _ (by decide +kernel) fun t _ y => ?_
  blk_simp
  rw [after0_5]
  unfold out0_5
  canon_tiles x h
  · have e := part1 m c t y x h0 h1 h2
    pointwise [k0_pay13]
    exact e
  · have e := part0 m c t y x h0 h1 h2
    pointwise [k0_pay5]
    exact e

theorem final6 : (dats m 0 c).arrAt 6 (cfgs 0).N = fun i => Adam.delta (m ((c : Thread nD τ).loc main_arg2) i)
    (Adam.two (m ((c : Thread nD τ).loc main_arg0)) (m ((c : Thread nD τ).loc main_arg1)) i) (m ((c : Thread nD τ).loc main_arg3) i)
    (m ((c : Thread nD τ).loc main_arg4) i) := by
  refine (dats m 0 c).arrAt_eq_of_covers 6 _ (by decide +kernel) fun t _ y => ?_
  blk_simp
  rw [after0_6]
  unfold out0_6
  canon_tiles x h
  · have e := part1 m c t y x h0 h1 h2
    change _ = Adam.two _ _ (((View.whole main_v2_1).slice (win0_6.rect t)).emb y) at e
    rw [← e]
    pointwise [k0_pay1, k0_pay14, k0_pay15, k0_pay16, Adam.delta, Adam.mean, Adam.square]
    clear e
    generalize k0_pay12 (F := Ideal) _ _ (ix2 (x 1) (x 2)) = G
    blk_point [iblk, V, idx t]
  · have e := part0 m c t y x h0 h1 h2
    change _ = Adam.two _ _ (((View.whole main_v2_1).slice (win0_6.rect t)).emb y) at e
    rw [← e]
    pointwise [k0_pay6, k0_pay7, k0_pay8, Adam.delta, Adam.mean, Adam.square]
    clear e
    generalize k0_pay17 (F := Ideal) _ _ _ _ _ (ix2 (x 1) (x 2)) = G
    blk_point [iblk, V, idx t]

theorem final7 : (dats m 0 c).arrAt 7 (cfgs 0).N = fun i => Adam.mean
    (Adam.two (m ((c : Thread nD τ).loc main_arg0)) (m ((c : Thread nD τ).loc main_arg1)) i) (m ((c : Thread nD τ).loc main_arg3) i) := by
  refine (dats m 0 c).arrAt_eq_of_covers 7 _ (by decide +kernel) fun t _ y => ?_
  blk_simp
  rw [after0_7]
  unfold out0_7
  canon_tiles x h
  · have e := part1 m c t y x h0 h1 h2
    change _ = Adam.two _ _ (((View.whole main_v2_2).slice (win0_7.rect t)).emb y) at e
    rw [← e]
    pointwise [k0_pay2, k0_pay14, Adam.mean]
    clear e
    generalize k0_pay12 (F := Ideal) _ _ (ix2 (x 1) (x 2)) = G
    blk_point [iblk, V, idx t]
  · have e := part0 m c t y x h0 h1 h2
    change _ = Adam.two _ _ (((View.whole main_v2_2).slice (win0_7.rect t)).emb y) at e
    rw [← e]
    pointwise [k0_pay6, k0_pay9, Adam.mean]
    clear e
    generalize k0_pay17 (F := Ideal) _ _ _ _ _ (ix2 (x 1) (x 2)) = G
    blk_point [iblk, V, idx t]

theorem final8 : (dats m 0 c).arrAt 8 (cfgs 0).N = fun i => Adam.square
    (Adam.two (m ((c : Thread nD τ).loc main_arg0)) (m ((c : Thread nD τ).loc main_arg1)) i) (m ((c : Thread nD τ).loc main_arg4) i) := by
  refine (dats m 0 c).arrAt_eq_of_covers 8 _ (by decide +kernel) fun t _ y => ?_
  blk_simp
  rw [after0_8]
  unfold out0_8
  canon_tiles x h
  · have e := part1 m c t y x h0 h1 h2
    change _ = Adam.two _ _ (((View.whole main_v2_3).slice (win0_8.rect t)).emb y) at e
    rw [← e]
    pointwise [k0_pay3, k0_pay15, Adam.square]
    clear e
    generalize k0_pay12 (F := Ideal) _ _ (ix2 (x 1) (x 2)) = G
    blk_point [iblk, V, idx t]
  · have e := part0 m c t y x h0 h1 h2
    change _ = Adam.two _ _ (((View.whole main_v2_3).slice (win0_8.rect t)).emb y) at e
    rw [← e]
    pointwise [k0_pay7, k0_pay10, Adam.square]
    clear e
    generalize k0_pay17 (F := Ideal) _ _ _ _ _ (ix2 (x 1) (x 2)) = G
    blk_point [iblk, V, idx t]

end Cert.AdamUpIdeal.Value

namespace Cert.AdamUpRefIdeal.Read

open Cert.AdamUpRefIdeal Cert.AdamUpRefIdeal.Gen

variable (p q : FVec Ideal S8x1024x512 .f32) (w u v : FVec Ideal S2x1024x512 .f32)

theorem value_g : val_main_v4 (F := Ideal) p q = Adam.two p q := by
  funext i
  idx_vars i
  pointwise [val_main_v4, val_main_v3, val_main_v2, val_main_v1, val_main_v0, val_main_cst, val_main_cst_0, Adam.two]
  simp only [dite_eq_ite]

theorem value_m : val_main_v9 (F := Ideal) p q u = fun i => Adam.mean (Adam.two p q i) (u i) := by
  rw [← value_g]
  funext i
  idx_vars i
  pointwise [val_main_v9, val_main_v8, val_main_v7, val_main_v6, val_main_v5, val_main_cst_1, val_main_cst_2, Adam.mean]

theorem value_v : val_main_v15 (F := Ideal) p q v = fun i => Adam.square (Adam.two p q i) (v i) := by
  rw [← value_g]
  funext i
  idx_vars i
  pointwise [val_main_v15, val_main_v14, val_main_v13, val_main_v12, val_main_v11, val_main_v10, val_main_cst_3, val_main_cst_4, Adam.square]

theorem value_d : val_main_v28 (F := Ideal) p q w u v = fun i => Adam.delta (w i) (Adam.two p q i) (u i) (v i) := by
  funext i
  have hm : Adam.mean (Adam.two p q i) (u i) = val_main_v9 (F := Ideal) p q u i := (congrFun (value_m p q u) i).symm
  have hv : Adam.square (Adam.two p q i) (v i) = val_main_v15 (F := Ideal) p q v i := (congrFun (value_v p q v) i).symm
  unfold Adam.delta
  rw [hm, hv]
  idx_vars i
  pointwise [val_main_v28, val_main_v27, val_main_v26, val_main_v25, val_main_v24, val_main_v23, val_main_v22, val_main_v21, val_main_v20,
    val_main_v19, val_main_v18, val_main_v17, val_main_v16, val_main_cst_5, val_main_cst_6, val_main_cst_7, val_main_cst_8, val_main_cst_9]

end Cert.AdamUpRefIdeal.Read

namespace Cert.Proof

theorem algebraic_adam_up : Cert.algebraic_AdamUpIdeal_AdamUpRefIdeal := by
  pair_intro
  · run_from Cert.AdamUpIdeal.Gen.run_main m g
  · refine (θ_run Cert.AdamUpRefIdeal.defs _ _).mono (fun r h c => ?_) (Cert.AdamUpRefIdeal.Value.run (F := Ideal) m' g')
    obtain ⟨a0, a1, a2, a3, a4⟩ := hagree c
    obtain ⟨h0, h1, h2, h3, hr⟩ := h c
    refine ⟨?_, ?_, ?_, ?_, hr⟩
    · have e := (Cert.AdamUpIdeal.Value.final5 m c).symm
      rw [← a0, ← a1] at e
      exact h0.trans ((Cert.AdamUpRefIdeal.Read.val_main_v4_eq (F := Ideal) _ _).trans ((Cert.AdamUpRefIdeal.Read.value_g _ _).trans e))
    · have e := (Cert.AdamUpIdeal.Value.final6 m c).symm
      rw [← a0, ← a1, ← a2, ← a3, ← a4] at e
      exact h1.trans ((Cert.AdamUpRefIdeal.Read.val_main_v28_eq (F := Ideal) _ _ _ _ _).trans
        ((Cert.AdamUpRefIdeal.Read.value_d _ _ _ _ _).trans e))
    · have e := (Cert.AdamUpIdeal.Value.final7 m c).symm
      rw [← a0, ← a1, ← a3] at e
      exact h2.trans ((Cert.AdamUpRefIdeal.Read.val_main_v9_eq (F := Ideal) _ _ _).trans ((Cert.AdamUpRefIdeal.Read.value_m _ _ _).trans e))
    · have e := (Cert.AdamUpIdeal.Value.final8 m c).symm
      rw [← a0, ← a1, ← a4] at e
      exact h3.trans ((Cert.AdamUpRefIdeal.Read.val_main_v15_eq (F := Ideal) _ _ _).trans ((Cert.AdamUpRefIdeal.Read.value_v _ _ _).trans e))

end Cert.Proof

end
-- ==== Proof.AdamDown.lean ====
/-
  The optimiser's step of the two layers' down weights (adamw_mlp_w_down): the four arrays against the reference's terms.
-/
module

public import proofs.«01_k».proof.Proof.Gen.AdamDownIdeal.Value
public import proofs.«01_k».proof.Proof.Gen.AdamDownRefIdeal.Read
public import proofs.«01_k».proof.Proof.Adam
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamDownIdeal.Value

open Cert.AdamDownIdeal Cert.AdamDownIdeal.Gen

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

variable (c : Dev nD)

theorem layer5 (t : Fin cfg0.N) (y : ((cfg0.win 5).xblock (cfg0.grid.coords t)).Idx) :
    (((View.whole main_v2_0).slice (win0_5.rect t)).emb y 0).val = (y 0).val := by
  show win0_5.index t 0 * 2 + 1 * (y 0).val = (y 0).val
  rw [(idx t).2.2.2.2.2.1]
  simp

/-- The first layer's sum, in the block. -/
theorem part0 (t : Fin cfg0.N) (y : ((cfg0.win 5).xblock (cfg0.grid.coords t)).Idx) (x : S1x128x1024.Idx) (h0 : (y 0).val = (x 0).val)
    (h1 : (y 1).val = (x 1).val) (h2 : (y 2).val = (x 2).val) :
    k0_pay17 (iblk m c 0 t) (iblk m c 1 t) (iblk m c 2 t) (iblk m c 3 t) (iblk m c 4 t) (ix2 (x 1) (x 2))
      = Adam.two (m ((c : Thread nD τ).loc main_arg0)) (m ((c : Thread nD τ).loc main_arg1)) (((View.whole main_v2_0).slice (win0_5.rect t)).emb y) := by
  have x0_lt : (x 0).val < 1 := (x 0).isLt
  unfold k0_pay17
  pointwise [k0_pay4, Adam.two, Fin.sum_univ_eight]
  rw [if_pos (by rw [layer5]; omega)]
  blk_point [iblk, V, idx t]

/-- The second layer's. -/
theorem part1 (t : Fin cfg0.N) (y : ((cfg0.win 5).xblock (cfg0.grid.coords t)).Idx) (x : S1x128x1024.Idx) (h0 : (y 0).val = 1 + (x 0).val)
    (h1 : (y 1).val = (x 1).val) (h2 : (y 2).val = (x 2).val) :
    k0_pay12 (k0_pay18 (iblk m c 0 t) (iblk m c 1 t) (iblk m c 2 t) (iblk m c 3 t) (iblk m c 4 t)) (View.ld (iblk m c 1 t) r0_7) (ix2 (x 1) (x 2))
      = Adam.two (m ((c : Thread nD τ).loc main_arg0)) (m ((c : Thread nD τ).loc main_arg1)) (((View.whole main_v2_0).slice (win0_5.rect t)).emb y) := by
  unfold k0_pay18
  pointwise [k0_pay11, k0_pay12, Adam.two, Fin.sum_univ_eight]
  rw [if_neg (by rw [layer5]; omega)]
  blk_point [iblk, V, idx t]

theorem final5 : (dats m 0 c).arrAt 5 (cfgs 0).N = Adam.two (m ((c : Thread nD τ).loc main_arg0)) (m ((c : Thread nD τ).loc main_arg1)) := by
  refine (dats m 0 c).arrAt_eq_of_covers 5 _ (by decide +kernel) fun t _ y => ?_
  blk_simp
  rw [after0_5]
  unfold out0_5
  canon_tiles x h
  · have e := part1 m c t y x h0 h1 h2
    pointwise [k0_pay13]
    exact e
  · have e := part0 m c t y x h0 h1 h2
    pointwise [k0_pay5]
    exact e

theorem final6 : (dats m 0 c).arrAt 6 (cfgs 0).N = fun i => Adam.delta (m ((c : Thread nD τ).loc main_arg2) i)
    (Adam.two (m ((c : Thread nD τ).loc main_arg0)) (m ((c : Thread nD τ).loc main_arg1)) i) (m ((c : Thread nD τ).loc main_arg3) i)
    (m ((c : Thread nD τ).loc main_arg4) i) := by
  refine (dats m 0 c).arrAt_eq_of_covers 6 _ (by decide +kernel) fun t _ y => ?_
  blk_simp
  rw [after0_6]
  unfold out0_6
  canon_tiles x h
  · have e := part1 m c t y x h0 h1 h2
    change _ = Adam.two _ _ (((View.whole main_v2_1).slice (win0_6.rect t)).emb y) at e
    rw [← e]
    pointwise [k0_pay1, k0_pay14, k0_pay15, k0_pay16, Adam.delta, Adam.mean, Adam.square]
    clear e
    generalize k0_pay12 (F := Ideal) _ _ (ix2 (x 1) (x 2)) = G
    blk_point [iblk, V, idx t]
  · have e := part0 m c t y x h0 h1 h2
    change _ = Adam.two _ _ (((View.whole main_v2_1).slice (win0_6.rect t)).emb y) at e
    rw [← e]
    pointwise [k0_pay6, k0_pay7, k0_pay8, Adam.delta, Adam.mean, Adam.square]
    clear e
    generalize k0_pay17 (F := Ideal) _ _ _ _ _ (ix2 (x 1) (x 2)) = G
    blk_point [iblk, V, idx t]

theorem final7 : (dats m 0 c).arrAt 7 (cfgs 0).N = fun i => Adam.mean
    (Adam.two (m ((c : Thread nD τ).loc main_arg0)) (m ((c : Thread nD τ).loc main_arg1)) i) (m ((c : Thread nD τ).loc main_arg3) i) := by
  refine (dats m 0 c).arrAt_eq_of_covers 7 _ (by decide +kernel) fun t _ y => ?_
  blk_simp
  rw [after0_7]
  unfold out0_7
  canon_tiles x h
  · have e := part1 m c t y x h0 h1 h2
    change _ = Adam.two _ _ (((View.whole main_v2_2).slice (win0_7.rect t)).emb y) at e
    rw [← e]
    pointwise [k0_pay2, k0_pay14, Adam.mean]
    clear e
    generalize k0_pay12 (F := Ideal) _ _ (ix2 (x 1) (x 2)) = G
    blk_point [iblk, V, idx t]
  · have e := part0 m c t y x h0 h1 h2
    change _ = Adam.two _ _ (((View.whole main_v2_2).slice (win0_7.rect t)).emb y) at e
    rw [← e]
    pointwise [k0_pay6, k0_pay9, Adam.mean]
    clear e
    generalize k0_pay17 (F := Ideal) _ _ _ _ _ (ix2 (x 1) (x 2)) = G
    blk_point [iblk, V, idx t]

theorem final8 : (dats m 0 c).arrAt 8 (cfgs 0).N = fun i => Adam.square
    (Adam.two (m ((c : Thread nD τ).loc main_arg0)) (m ((c : Thread nD τ).loc main_arg1)) i) (m ((c : Thread nD τ).loc main_arg4) i) := by
  refine (dats m 0 c).arrAt_eq_of_covers 8 _ (by decide +kernel) fun t _ y => ?_
  blk_simp
  rw [after0_8]
  unfold out0_8
  canon_tiles x h
  · have e := part1 m c t y x h0 h1 h2
    change _ = Adam.two _ _ (((View.whole main_v2_3).slice (win0_8.rect t)).emb y) at e
    rw [← e]
    pointwise [k0_pay3, k0_pay15, Adam.square]
    clear e
    generalize k0_pay12 (F := Ideal) _ _ (ix2 (x 1) (x 2)) = G
    blk_point [iblk, V, idx t]
  · have e := part0 m c t y x h0 h1 h2
    change _ = Adam.two _ _ (((View.whole main_v2_3).slice (win0_8.rect t)).emb y) at e
    rw [← e]
    pointwise [k0_pay7, k0_pay10, Adam.square]
    clear e
    generalize k0_pay17 (F := Ideal) _ _ _ _ _ (ix2 (x 1) (x 2)) = G
    blk_point [iblk, V, idx t]

end Cert.AdamDownIdeal.Value

namespace Cert.AdamDownRefIdeal.Read

open Cert.AdamDownRefIdeal Cert.AdamDownRefIdeal.Gen

variable (p q : FVec Ideal S8x512x1024 .f32) (w u v : FVec Ideal S2x512x1024 .f32)

theorem value_g : val_main_v4 (F := Ideal) p q = Adam.two p q := by
  funext i
  idx_vars i
  pointwise [val_main_v4, val_main_v3, val_main_v2, val_main_v1, val_main_v0, val_main_cst, val_main_cst_0, Adam.two]
  simp only [dite_eq_ite]

theorem value_m : val_main_v9 (F := Ideal) p q u = fun i => Adam.mean (Adam.two p q i) (u i) := by
  rw [← value_g]
  funext i
  idx_vars i
  pointwise [val_main_v9, val_main_v8, val_main_v7, val_main_v6, val_main_v5, val_main_cst_1, val_main_cst_2, Adam.mean]

theorem value_v : val_main_v15 (F := Ideal) p q v = fun i => Adam.square (Adam.two p q i) (v i) := by
  rw [← value_g]
  funext i
  idx_vars i
  pointwise [val_main_v15, val_main_v14, val_main_v13, val_main_v12, val_main_v11, val_main_v10, val_main_cst_3, val_main_cst_4, Adam.square]

theorem value_d : val_main_v28 (F := Ideal) p q w u v = fun i => Adam.delta (w i) (Adam.two p q i) (u i) (v i) := by
  funext i
  have hm : Adam.mean (Adam.two p q i) (u i) = val_main_v9 (F := Ideal) p q u i := (congrFun (value_m p q u) i).symm
  have hv : Adam.square (Adam.two p q i) (v i) = val_main_v15 (F := Ideal) p q v i := (congrFun (value_v p q v) i).symm
  unfold Adam.delta
  rw [hm, hv]
  idx_vars i
  pointwise [val_main_v28, val_main_v27, val_main_v26, val_main_v25, val_main_v24, val_main_v23, val_main_v22, val_main_v21, val_main_v20,
    val_main_v19, val_main_v18, val_main_v17, val_main_v16, val_main_cst_5, val_main_cst_6, val_main_cst_7, val_main_cst_8, val_main_cst_9]

end Cert.AdamDownRefIdeal.Read

namespace Cert.Proof

theorem algebraic_adam_down : Cert.algebraic_AdamDownIdeal_AdamDownRefIdeal := by
  pair_intro
  · run_from Cert.AdamDownIdeal.Gen.run_main m g
  · refine (θ_run Cert.AdamDownRefIdeal.defs _ _).mono (fun r h c => ?_) (Cert.AdamDownRefIdeal.Value.run (F := Ideal) m' g')
    obtain ⟨a0, a1, a2, a3, a4⟩ := hagree c
    obtain ⟨h0, h1, h2, h3, hr⟩ := h c
    refine ⟨?_, ?_, ?_, ?_, hr⟩
    · have e := (Cert.AdamDownIdeal.Value.final5 m c).symm
      rw [← a0, ← a1] at e
      exact h0.trans ((Cert.AdamDownRefIdeal.Read.val_main_v4_eq (F := Ideal) _ _).trans ((Cert.AdamDownRefIdeal.Read.value_g _ _).trans e))
    · have e := (Cert.AdamDownIdeal.Value.final6 m c).symm
      rw [← a0, ← a1, ← a2, ← a3, ← a4] at e
      exact h1.trans ((Cert.AdamDownRefIdeal.Read.val_main_v28_eq (F := Ideal) _ _ _ _ _).trans
        ((Cert.AdamDownRefIdeal.Read.value_d _ _ _ _ _).trans e))
    · have e := (Cert.AdamDownIdeal.Value.final7 m c).symm
      rw [← a0, ← a1, ← a3] at e
      exact h2.trans ((Cert.AdamDownRefIdeal.Read.val_main_v9_eq (F := Ideal) _ _ _).trans ((Cert.AdamDownRefIdeal.Read.value_m _ _ _).trans e))
    · have e := (Cert.AdamDownIdeal.Value.final8 m c).symm
      rw [← a0, ← a1, ← a4] at e
      exact h3.trans ((Cert.AdamDownRefIdeal.Read.val_main_v15_eq (F := Ideal) _ _ _).trans ((Cert.AdamDownRefIdeal.Read.value_v _ _ _).trans e))

end Cert.Proof

end
-- ==== Proof.DwQkvValue.lean ====
/-
  The gradient of the attention layer's q, k and v weight (attn_dw_qkv): what the grid points leave, and the whole array against the
  reference's term.
-/
module

public import proofs.«01_k».proof.Proof.Gen.DwQkvIdeal.Value
public import proofs.«01_k».proof.Proof.Gen.DwQkvRefIdeal.Read
public import proofs.«01_k».proof.Proof.WeightGrad
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwQkvIdeal.Value

open Cert.DwQkvIdeal Cert.DwQkvIdeal.Gen

variable (m : (ℓ : Loc nD τ sig) → Buf (Elt Ideal) ℓ)

/-- The gradient. -/
def grad (h : FVec Ideal S8192x1024 .f32) (dz : FVec Ideal S8192x1536 .f32) : FVec Ideal S1024x1536 .f32 :=
  fun i => WeightGrad.dw h dz (i 0) (i 1)

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

theorem step_A (c : Dev nD) (t : Fin cfg0.N) (h0 : t.val % 4 = 0) (y) : (outsAt0 m c t.val t.isLt).2 y
    = 0 + WeightGrad.part (iblk m c 0 t) (iblk m c 1 t) (y 0) (y 1) := by
  rw [outsAt0_A m c t h0 (by omega)]
  generalize iblk m c 0 t = x0, iblk m c 1 t = x1
  unfold sout0_A_0 WeightGrad.part
  frame_out
  pointwise [k0_pay1, k0_pay2]

theorem step_B (c : Dev nD) (t : Fin cfg0.N) (h0 : ¬t.val % 4 = 0) (y) : (outsAt0 m c t.val t.isLt).2 y
    = (outsAt0 m c (t.val - 1) (by omega)).2 y + WeightGrad.part (iblk m c 0 t) (iblk m c 1 t) (y 0) (y 1) := by
  by_cases h1 : t.val % 4 = 3
  on_goal 1 => rw [outsAt0_C m c t h0 h1]
  on_goal 2 => rw [outsAt0_B m c t h0 h1]
  all_goals
    generalize iblk m c 0 t = x0, iblk m c 1 t = x1
    try unfold sout0_B_0
    try unfold sout0_C_0
    unfold WeightGrad.part
    frame_out
    pointwise [k0_pay2]
    rw [read_unread_whole]

/-- The last point of a run stores what it accumulated. -/
theorem stored (c : Dev nD) (t : Fin cfg0.N) (h1 : t.val % 4 = 3) (y) :
    (outsAt0 m c t.val t.isLt).1 y = (outsAt0 m c t.val t.isLt).2 y := by
  rw [outsAt0_C m c t (by omega) h1]
  unfold out0_C_2 sout0_C_0
  frame_out

theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  have h1 : t.val % 4 = 3 := (flush0_2 t).mp hf
  blk_simp
  idx_vars y
  rw [after0_2, stored m c t h1, Pipeline.eq_sum_fin_of_reset_step_apply_of_flush (fun n h => (outsAt0 m c n h).2) 4 (fun _ => 0) _
    (fun t h j => step_A m c t h j) (fun t h j => step_B m c t h j) t h1 _, zero_add]
  unfold grad
  refine WeightGrad.sum_parts _ _ _ _ _ _ _ _ (fun s k => ?_) (fun s k => ?_)
  all_goals blk_point [iblk, V, idx t, idx ⟨_, Pipeline.run_point_lt_of_flush t h1 s⟩]

end Cert.DwQkvIdeal.Value

namespace Cert.DwQkvRefIdeal.Read

open Cert.DwQkvRefIdeal Cert.DwQkvRefIdeal.Gen

theorem value (h : FVec Ideal S8192x1024 .f32) (dz : FVec Ideal S8192x1536 .f32) :
    val_main_v3 (F := Ideal) h dz = Cert.DwQkvIdeal.Value.grad h dz := by
  funext i
  idx_vars i
  pointwise [val_main_v3, val_main_v2, Cert.DwQkvIdeal.Value.grad, WeightGrad.dw]
  exact Finset.sum_congr rfl fun k _ => mul_comm _ _

end Cert.DwQkvRefIdeal.Read

namespace Cert.Proof

theorem algebraic_dw_qkv : Cert.algebraic_DwQkvIdeal_DwQkvRefIdeal := by
  pair_intro
  · run_from Cert.DwQkvIdeal.Gen.run_main m g
  · run_from Cert.DwQkvRefIdeal.Value.run m' g'
    rw [Cert.DwQkvRefIdeal.Read.val_main_v3_eq, Cert.DwQkvRefIdeal.Read.value]
    exact (Cert.DwQkvIdeal.Value.final m c).symm

end Cert.Proof

end
-- ==== Proof.HgrnOutValue.lean ====
/-
  The HGRN layer's gated output projection (hgrn_out_proj): what each grid point leaves in its block, and the whole arrays against the
  reference's terms.
-/
module

public import proofs.«01_k».proof.Proof.Gen.HgrnOutIdeal.Value
public import proofs.«01_k».proof.Proof.Gen.HgrnOutRefIdeal.Read
public import proofs.«01_k».proof.Proof.NormGrad
public import proofs.«01_k».proof.Defs
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.HgrnOutIdeal.Value

open Cert.HgrnOutIdeal Cert.HgrnOutIdeal.Gen

variable (m : (ℓ : Loc nD τ sig) → Buf (Elt Ideal) ℓ)

/-- The last quarter of a row of the projections. -/
def gate (z : FVec Ideal S8192x4096 .f32) (i : Fin 8192) (j : Fin 1024) : EReal := z (ix2 i ⟨3072 + j.val, by omega⟩)

/-- The normalised output, gated. -/
def gated (o : FVec Ideal S8192x1024 .f32) (z : FVec Ideal S8192x4096 .f32) (g : FVec Ideal S1024 .f32) :
    FVec Ideal S8192x1024 .bf16 :=
  fun i => o i * NormGrad.scale (fun k => o (ix2 (i 0) k)) * g (ix1 (i 1))
    * (gate z (i 0) (i 1) * Ideal.logistic (gate z (i 0) (i 1)))

/-- The residual plus its product with the weight. -/
def project (o : FVec Ideal S8192x1024 .f32) (z : FVec Ideal S8192x4096 .f32) (g : FVec Ideal S1024 .f32)
    (w : FVec Ideal S1024x1024 .f32) (res : FVec Ideal S8192x1024 .f32) : FVec Ideal S8192x1024 .f32 :=
  fun i => res i + ∑ k : Fin 1024, gated o z g (ix2 (i 0) k) * w (ix2 k (i 1))

theorem idx : ∀ t : Fin cfg0.N, win0_0.index t = ![t.val, 0] ∧ win0_1.index t = ![t.val, 3] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

theorem final5 (c : Dev nD) : (dats m 0 c).arrAt 5 (cfgs 0).N
    = project (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  unfold out0_5
  canon_tiles x h
  all_goals
    pointwise [k0_pay1, k0_pay2, project, gated, gate, NormGrad.scale, NormGrad.ms]
    blk_point [iblk, V, idx t]

theorem final6 (c : Dev nD) : (dats m 0 c).arrAt 6 (cfgs 0).N
    = gated (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  unfold out0_6
  canon_tiles x h
  all_goals
    pointwise [k0_pay1, gated, gate, NormGrad.scale, NormGrad.ms]
    blk_point [iblk, V, idx t]

end Cert.HgrnOutIdeal.Value

namespace Cert.HgrnOutRefIdeal.Read

open Cert.HgrnOutRefIdeal Cert.HgrnOutRefIdeal.Gen

theorem value_gated (o : FVec Ideal S8192x1024 .f32) (z : FVec Ideal S8192x4096 .f32) (g : FVec Ideal S1024 .f32) :
    val_main_v21 (F := Ideal) o z g = Cert.HgrnOutIdeal.Value.gated o z g := by
  funext i
  idx_vars i
  pointwise [val_main_v21, val_main_v18, val_main_v17, val_main_call0_v5, val_main_call0_v4, val_main_call0_cst_0, val_main_call0_v3, val_main_call0_v2, val_main_call0_cst, val_main_call0_v1, val_main_call0_v0, val_main_v16, val_main_v15, val_main_v14, val_main_v13, val_main_v12, val_main_v11, val_main_v10, val_main_v9, val_main_cst_1, val_main_v8, val_main_v7, val_main_cst_0, val_main_v6, val_main_v5, val_main_cst, val_main_v4, val_main_v3, val_main_v2, val_main_v1, val_main_v0,
    Cert.HgrnOutIdeal.Value.gated, Cert.HgrnOutIdeal.Value.gate, NormGrad.scale, NormGrad.ms]
  rfl

theorem value (o : FVec Ideal S8192x1024 .f32) (z : FVec Ideal S8192x4096 .f32) (g : FVec Ideal S1024 .f32)
    (w : FVec Ideal S1024x1024 .f32) (res : FVec Ideal S8192x1024 .f32) :
    val_main_v20 (F := Ideal) o z g w res = Cert.HgrnOutIdeal.Value.project o z g w res := by
  unfold Cert.HgrnOutIdeal.Value.project
  rw [← value_gated]
  funext i
  idx_vars i
  pointwise [val_main_v20, val_main_v19, val_main_v21]

end Cert.HgrnOutRefIdeal.Read

namespace Cert.Proof

theorem algebraic_hgrn_out : Cert.algebraic_HgrnOutIdeal_HgrnOutRefIdeal := by
  pair_intro
  · run_from Cert.HgrnOutIdeal.Gen.run_main m g
  · refine (θ_run Cert.HgrnOutRefIdeal.defs _ _).mono (fun r h c => ?_) (Cert.HgrnOutRefIdeal.Value.run (F := Ideal) m' g')
    obtain ⟨a0, a1, a2, a3, a4⟩ := hagree c
    obtain ⟨h0, h1, hr⟩ := h c
    refine ⟨?_, ?_, hr⟩
    · have e := (Cert.HgrnOutIdeal.Value.final5 m c).symm
      rw [← a0, ← a1, ← a2, ← a3, ← a4] at e
      exact h0.trans ((Cert.HgrnOutRefIdeal.Read.val_main_v20_eq (F := Ideal) _ _ _ _ _).trans ((Cert.HgrnOutRefIdeal.Read.value _ _ _ _ _).trans e))
    · have e := (Cert.HgrnOutIdeal.Value.final6 m c).symm
      rw [← a0, ← a1, ← a2] at e
      exact h1.trans ((Cert.HgrnOutRefIdeal.Read.val_main_v21_eq (F := Ideal) _ _ _).trans ((Cert.HgrnOutRefIdeal.Read.value_gated _ _ _).trans e))

end Cert.Proof

end
-- ==== Proof.LossHead.lean ====
/-
  The loss head at one token: the row against its target, its part of the loss, and the gradients to the row and the gain.
-/
module

public import proofs.«01_k».proof.Proof.NormGrad
public import proofs.«01_k».proof.Proof.NormBack
public import Idealize.ShloMosaic.Lib.Pointwise

@[expose] public section

noncomputable section

open Idealize.ShloMosaic

namespace Cert.LossHead

/-- The scaled row minus its target. -/
def diff (x t g : Fin 1024 → EReal) (k : Fin 1024) : EReal := x k * NormGrad.scale x * g k - t k

/-- The gradient of the token's loss to the scaled row. -/
def back (x t g : Fin 1024 → EReal) (k : Fin 1024) : EReal := diff x t g k * Ideal.ofBits .f32 0x3A800000#32

/-- The gradient to the row. -/
def dx (x t g : Fin 1024 → EReal) (j : Fin 1024) : EReal := NormGrad.grad x (fun k => back x t g k * g k) j

/-- The token's loss: the mean of the squared differences, halved. -/
def loss (x t g : Fin 1024 → EReal) : EReal :=
  Ideal.ofBits .f32 0x3F000000#32 * ((∑ k, diff x t g k * diff x t g k) * Ideal.ofBits .f32 0x3A800000#32)

theorem half : Ideal.ofBits .f32 0x3F000000#32 = ((1 / 2 : ℝ) : EReal) := by
  simp [Ideal.ofBits, Ideal.ieee, -EReal.coe_mul, -EReal.coe_neg]; norm_num

theorem recip : Ideal.ofBits .f32 0x3A800000#32 = ((1 / 1024 : ℝ) : EReal) := by
  simp [Ideal.ofBits, Ideal.ieee, -EReal.coe_mul, -EReal.coe_neg]; norm_num

/-- The half of a sum is the sum of the halves. -/
theorem half_sum {n : ℕ} (f : Fin n → EReal) :
    Ideal.ofBits .f32 0x3F000000#32 * ∑ i, f i = ∑ i, Ideal.ofBits .f32 0x3F000000#32 * f i := by
  rw [half]
  exact (NormGrad.mul_sum_real _ _ (by norm_num) f).symm

/-- Dividing by the width is multiplying by its reciprocal. -/
theorem div_width (a : EReal) : Ideal.div a (Ideal.ofBits .f32 0x44800000#32) = a * Ideal.ofBits .f32 0x3A800000#32 := by
  rw [NormGrad.div_width, recip]

/-- Differentiating the halved mean of squares: the two and the half cancel. -/
theorem back_vjp (x t g : Fin 1024 → EReal) (k : Fin 1024) :
    back x t g k = Ideal.div (Ideal.ofBits .f32 0x3F000000#32 * 1) (Ideal.ofBits .f32 0x44800000#32)
      * (Ideal.ofBits .f32 0x40000000#32 * diff x t g k) := by
  rw [back, div_width, recip, half, NormGrad.two, mul_one, mul_comm (diff x t g k), ← mul_assoc, ← EReal.coe_mul, ← EReal.coe_mul]
  norm_num

end Cert.LossHead

end
-- ==== Proof.LossValue.lean ====
/-
  The last MLP's second half with the loss (mlp1_down_loss): what each grid point leaves in its blocks, the sums the grid points carry,
  and the whole arrays.
-/
module

public import proofs.«01_k».proof.Proof.Gen.LossIdeal.Value
public import proofs.«01_k».proof.Proof.DownValue
public import proofs.«01_k».proof.Proof.LossHead
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen

variable (m : (ℓ : Loc nD τ sig) → Buf (Elt Ideal) ℓ)

/-- The last layer's output at token `i`. -/
def out (u : FVec Ideal S8192x4096 .f32) (w : FVec Ideal S4096x1024 .f32) (res : FVec Ideal S8192x1024 .f32)
    (i : Fin 8192) (k : Fin 1024) : EReal := Cert.DownIdeal.Value.project u w res (ix2 i k)

def inGrad (u : FVec Ideal S8192x4096 .f32) (w : FVec Ideal S4096x1024 .f32) (res : FVec Ideal S8192x1024 .f32)
    (tg : FVec Ideal S8192x1024 .f32) (g : FVec Ideal S1024 .f32) : FVec Ideal S8192x1024 .f32 :=
  fun i => LossHead.dx (out u w res (i 0)) (fun k => tg (ix2 (i 0) k)) (fun k => g (ix1 k)) (i 1)

/-- The device's loss, in every lane. -/
def loss (u : FVec Ideal S8192x4096 .f32) (w : FVec Ideal S4096x1024 .f32) (res : FVec Ideal S8192x1024 .f32)
    (tg : FVec Ideal S8192x1024 .f32) (g : FVec Ideal S1024 .f32) : FVec Ideal S1x128 .f32 :=
  fun _ => ∑ t : Fin 8192, LossHead.loss (out u w res t) (fun k => tg (ix2 t k)) (fun k => g (ix1 k))

def gainGrad (u : FVec Ideal S8192x4096 .f32) (w : FVec Ideal S4096x1024 .f32) (res : FVec Ideal S8192x1024 .f32)
    (tg : FVec Ideal S8192x1024 .f32) (g : FVec Ideal S1024 .f32) : FVec Ideal S1x1024 .f32 :=
  fun i => NormBack.dgain (fun t => LossHead.back (out u w res t) (fun k => tg (ix2 t k)) (fun k => g (ix1 k))) (out u w res) (i 1)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- One chunk of 1024 columns of the product. -/
def chunk (x : FVec Ideal S512x4096 .f32) (w : FVec Ideal S4096x1024 .bf16) (o : ℕ) (ho : o + 1024 ≤ 4096) (i : Fin 512)
    (j : Fin 1024) : EReal :=
  ∑ k : Fin 1024, max (x (ix2 i ⟨o + k.val, by omega⟩)) 0 * max (x (ix2 i ⟨o + k.val, by omega⟩)) 0 * w (ix2 ⟨o + k.val, by omega⟩ j)

def blockOut (x : FVec Ideal S512x4096 .f32) (r : FVec Ideal S512x1024 .f32) (w : FVec Ideal S4096x1024 .bf16) (i : Fin 512)
    (j : Fin 1024) : EReal :=
  r (ix2 i j) + chunk x w 0 (by decide) i j + chunk x w 1024 (by decide) i j + chunk x w 2048 (by decide) i j
    + chunk x w 3072 (by decide) i j

def blockGrad (x : FVec Ideal S512x4096 .f32) (r tg : FVec Ideal S512x1024 .f32) (w : FVec Ideal S4096x1024 .bf16)
    (g : FVec Ideal S1x1024 .f32) : FVec Ideal S512x1024 .f32 :=
  fun y => LossHead.dx (blockOut x r w (y 0)) (fun k => tg (ix2 (y 0) k)) (fun k => g (ix2 0 k)) (y 1)

def blockAct (x : FVec Ideal S512x4096 .f32) : FVec Ideal S512x4096 .bf16 := fun y => max (x y) 0 * max (x y) 0

def blockLoss (x : FVec Ideal S512x4096 .f32) (r tg : FVec Ideal S512x1024 .f32) (w : FVec Ideal S4096x1024 .bf16)
    (g : FVec Ideal S1x1024 .f32) : FVec Ideal S1x128 .f32 :=
  fun _ => ∑ i : Fin 512, LossHead.loss (blockOut x r w i) (fun k => tg (ix2 i k)) (fun k => g (ix2 0 k))

def blockGain (x : FVec Ideal S512x4096 .f32) (r tg : FVec Ideal S512x1024 .f32) (w : FVec Ideal S4096x1024 .bf16)
    (g : FVec Ideal S1x1024 .f32) : FVec Ideal S1x1024 .f32 :=
  fun y => NormBack.dgain (fun i => LossHead.back (blockOut x r w i) (fun k => tg (ix2 i k)) (fun k => g (ix2 0 k))) (blockOut x r w) (y 1)

theorem point_act (c : Dev nD) (t : Fin cfg0.N) : (outsAt0 m c t.val t.isLt).2.1 = blockAct (iblk m c 0 t) := by
  funext y
  by_cases h0 : t.val % 16 = 0
  on_goal 1 => rw [outsAt0_A m c t h0]
  on_goal 2 => rw [outsAt0_B m c t h0]
  all_goals
    generalize iblk m c 0 t = x0, iblk m c 1 t = x1, iblk m c 2 t = x2, iblk m c 3 t = x3, iblk m c 4 t = x4
    try unfold out0_A_6
    try unfold out0_B_6
    frame_out
    canon_tiles x h
    all_goals
      pointwise [k0_pay5, k0_pay6, k0_pay8, k0_pay9, k0_pay21, k0_pay22, k0_pay23, k0_pay25, blockAct]
      blk_point []

theorem point_grad (c : Dev nD) (t : Fin cfg0.N) : (outsAt0 m c t.val t.isLt).1
    = blockGrad (iblk m c 0 t) (iblk m c 1 t) (iblk m c 2 t) (iblk m c 3 t) (iblk m c 4 t) := by
  funext y
  by_cases h0 : t.val % 16 = 0
  on_goal 1 => rw [outsAt0_A m c t h0]
  on_goal 2 => rw [outsAt0_B m c t h0]
  all_goals
    generalize iblk m c 0 t = x0, iblk m c 1 t = x1, iblk m c 2 t = x2, iblk m c 3 t = x3, iblk m c 4 t = x4
    try unfold out0_A_5
    try unfold out0_B_5
    frame_out
    canon_tiles x h
    all_goals
      pointwise [k0_pay1, k0_pay5, k0_pay6, k0_pay7, k0_pay8, k0_pay9, k0_pay10, k0_pay11, k0_pay12, k0_pay13, k0_pay14, k0_pay18,
        k0_pay19, k0_pay21, k0_pay22, k0_pay23, k0_pay24, k0_pay25, k0_pay26, k0_pay27, k0_pay28, k0_pay29, k0_pay30, k0_pay32,
        k0_pay33, k0_pay34, blockGrad, blockOut, chunk, LossHead.dx, LossHead.back, LossHead.diff, NormGrad.grad, NormGrad.scale,
        NormGrad.ms]
      blk_point []

theorem row_lt (t : Fin cfg0.N) (i : Fin 512) : t.val * 512 + i.val < 8192 := by
  have h : t.val < 16 := lt_of_lt_of_eq t.isLt N_0
  omega

theorem blk0 (c : Dev nD) (t : Fin cfg0.N) (y) : iblk m c 0 t y
    = m ((c : Thread nD τ).loc main_arg0) (ix2 ⟨t.val * 512 + (y 0).val, row_lt t (y 0)⟩ (y 1)) := by
  blk_point [iblk, V, idx t]

theorem blk1 (c : Dev nD) (t : Fin cfg0.N) (y) : iblk m c 1 t y
    = m ((c : Thread nD τ).loc main_arg2) (ix2 ⟨t.val * 512 + (y 0).val, row_lt t (y 0)⟩ (y 1)) := by
  blk_point [iblk, V, idx t]

theorem blk2 (c : Dev nD) (t : Fin cfg0.N) (y) : iblk m c 2 t y
    = m ((c : Thread nD τ).loc main_arg3) (ix2 ⟨t.val * 512 + (y 0).val, row_lt t (y 0)⟩ (y 1)) := by
  blk_point [iblk, V, idx t]

theorem blk3 (c : Dev nD) (t : Fin cfg0.N) (y) : iblk m c 3 t y = m ((c : Thread nD τ).loc main_arg1) y := by
  blk_point [iblk, V, idx t]

theorem blk4 (c : Dev nD) (t : Fin cfg0.N) (k : Fin 1024) : iblk m c 4 t (ix2 0 k) = m ((c : Thread nD τ).loc main_arg4) (ix1 k) := by
  blk_point [iblk, V, idx t]

theorem out_eq (c : Dev nD) (t : Fin cfg0.N) (i : Fin 512) :
    blockOut (iblk m c 0 t) (iblk m c 1 t) (iblk m c 3 t) i = out (m ((c : Thread nD τ).loc main_arg0))
      (m ((c : Thread nD τ).loc main_arg1)) (m ((c : Thread nD τ).loc main_arg2)) ⟨t.val * 512 + i.val, row_lt t i⟩ := by
  funext j
  unfold blockOut out Cert.DownIdeal.Value.project chunk Cert.DownIdeal.Value.act
  rw [Cert.DownIdeal.Value.chunks]
  simp only [blk0, blk1, blk3, ← add_assoc]
  iterate 4 refine congrArg₂ (· + · : EReal → EReal → EReal) ?_ ?_
  all_goals first
    | rfl
    | (refine Finset.sum_congr rfl fun k _ => ?_
       have e : (⟨0 + k.val, by omega⟩ : Fin 4096) = ⟨k.val, by omega⟩ := Fin.ext (Nat.zero_add _)
       rw [e]
       rfl)

theorem target_eq (c : Dev nD) (t : Fin cfg0.N) (i : Fin 512) : (fun k => iblk m c 2 t (ix2 i k))
    = fun k => m ((c : Thread nD τ).loc main_arg3) (ix2 ⟨t.val * 512 + i.val, row_lt t i⟩ k) := funext fun k => blk2 m c t _

theorem gain_eq (c : Dev nD) (t : Fin cfg0.N) : (fun k => iblk m c 4 t (ix2 0 k)) = fun k => m ((c : Thread nD τ).loc main_arg4) (ix1 k) :=
  funext fun k => blk4 m c t k

theorem gain_A (c : Dev nD) (t : Fin cfg0.N) (h0 : t.val % 16 = 0) (y) : (outsAt0 m c t.val t.isLt).2.2.2 y
    = 0 + blockGain (iblk m c 0 t) (iblk m c 1 t) (iblk m c 2 t) (iblk m c 3 t) (iblk m c 4 t) y := by
  rw [outsAt0_A m c t h0]
  generalize iblk m c 0 t = x0, iblk m c 1 t = x1, iblk m c 2 t = x2, iblk m c 3 t = x3, iblk m c 4 t = x4
  unfold out0_A_8 blockGain NormBack.dgain
  rw [NormBack.halves]
  frame_out
  pointwise [k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay20, k0_pay21, k0_pay22, k0_pay23, k0_pay24, k0_pay25, k0_pay26, k0_pay27, k0_pay28,
    k0_pay29, k0_pay30, k0_pay31, k0_pay32, blockOut, chunk, LossHead.back, LossHead.diff, NormGrad.scale, NormGrad.ms]
  try simp only [zero_add, add_assoc]

theorem gain_B (c : Dev nD) (t : Fin cfg0.N) (h0 : ¬t.val % 16 = 0) (y) : (outsAt0 m c t.val t.isLt).2.2.2 y
    = (outsAt0 m c (t.val - 1) (by omega)).2.2.2 y + blockGain (iblk m c 0 t) (iblk m c 1 t) (iblk m c 2 t) (iblk m c 3 t) (iblk m c 4 t) y := by
  rw [outsAt0_B m c t h0]
  generalize iblk m c 0 t = x0, iblk m c 1 t = x1, iblk m c 2 t = x2, iblk m c 3 t = x3, iblk m c 4 t = x4
  unfold out0_B_8 blockGain NormBack.dgain
  rw [NormBack.halves]
  frame_out
  pointwise [k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay20, k0_pay21, k0_pay22, k0_pay23, k0_pay24, k0_pay25, k0_pay26, k0_pay27, k0_pay28,
    k0_pay29, k0_pay30, k0_pay31, k0_pay32, blockOut, chunk, LossHead.back, LossHead.diff, NormGrad.scale, NormGrad.ms]
  try simp only [zero_add, add_assoc]

theorem loss_A (c : Dev nD) (t : Fin cfg0.N) (h0 : t.val % 16 = 0) (y) : (outsAt0 m c t.val t.isLt).2.2.1 y
    = 0 + blockLoss (iblk m c 0 t) (iblk m c 1 t) (iblk m c 2 t) (iblk m c 3 t) (iblk m c 4 t) y := by
  rw [outsAt0_A m c t h0]
  generalize iblk m c 0 t = x0, iblk m c 1 t = x1, iblk m c 2 t = x2, iblk m c 3 t = x3, iblk m c 4 t = x4
  unfold out0_A_7 blockLoss LossHead.loss
  rw [NormBack.halves, ← LossHead.half_sum, ← LossHead.half_sum]
  frame_out
  pointwise [k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay20, k0_pay21, k0_pay22, k0_pay23, k0_pay24, k0_pay25, k0_pay26, k0_pay27, k0_pay28,
    k0_pay29, k0_pay30, k0_pay31, k0_pay32, blockOut, chunk, LossHead.diff, NormGrad.scale, NormGrad.ms]
  try simp only [zero_add, add_assoc]

theorem loss_B (c : Dev nD) (t : Fin cfg0.N) (h0 : ¬t.val % 16 = 0) (y) : (outsAt0 m c t.val t.isLt).2.2.1 y
    = (outsAt0 m c (t.val - 1) (by omega)).2.2.1 y + blockLoss (iblk m c 0 t) (iblk m c 1 t) (iblk m c 2 t) (iblk m c 3 t) (iblk m c 4 t) y := by
  rw [outsAt0_B m c t h0]
  generalize iblk m c 0 t = x0, iblk m c 1 t = x1, iblk m c 2 t = x2, iblk m c 3 t = x3, iblk m c 4 t = x4
  unfold out0_B_7 blockLoss LossHead.loss
  rw [NormBack.halves, ← LossHead.half_sum, ← LossHead.half_sum]
  frame_out
  pointwise [k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay20, k0_pay21, k0_pay22, k0_pay23, k0_pay24, k0_pay25, k0_pay26, k0_pay27, k0_pay28,
    k0_pay29, k0_pay30, k0_pay31, k0_pay32, blockOut, chunk, LossHead.diff, NormGrad.scale, NormGrad.ms]
  try simp only [zero_add, add_assoc]

theorem emb5 (t : Fin cfg0.N) (y : S512x1024.Idx) : ((cfg0.win 5).blk t).view.emb y
    = ix2 ⟨t.val * 512 + (y 0).val, row_lt t (y 0)⟩ (y 1) := by
  blk_ext [idx t]

theorem final5 (c : Dev nD) : (dats m 0 c).arrAt 5 (cfgs 0).N
    = inGrad (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5, point_grad]
  refine Eq.trans ?_ (congrArg (inGrad _ _ _ _ _) (emb5 t y).symm)
  idx_vars y
  show LossHead.dx _ _ _ y1 = LossHead.dx _ _ _ y1
  exact congrFun (congr (congr (congrArg LossHead.dx (out_eq m c t y0)) (target_eq m c t y0)) (gain_eq m c t)) y1

theorem final6 (c : Dev nD) : (dats m 0 c).arrAt 6 (cfgs 0).N = Cert.DownIdeal.Value.act (m ((c : Thread nD τ).loc main_arg0)) := by
  refine (dats m 0 c).arrAt_eq_of_covers 6 _ (by decide +kernel) fun t _ y => ?_
  blk_simp
  rw [after0_6, point_act]
  unfold blockAct Cert.DownIdeal.Value.act
  blk_point [iblk, V, idx t]

theorem final7 (c : Dev nD) : (dats m 0 c).arrAt 7 (cfgs 0).N
    = loss (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0) _
    (fun t h j => loss_A m c t h j) (fun t h j => loss_B m c t h j) (le_of_eq N_0) t0_15 rfl _, zero_add]
  unfold loss blockLoss
  refine Fin.sum_mul_add_congr fun s k hl => ?_
  exact congr (congr (congrArg LossHead.loss (out_eq m c s k)) (target_eq m c s k)) (gain_eq m c s)

theorem final8 (c : Dev nD) : (dats m 0 c).arrAt 8 (cfgs 0).N
    = gainGrad (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0) _
    (fun t h j => gain_A m c t h j) (fun t h j => gain_B m c t h j) (le_of_eq N_0) t0_15 rfl _, zero_add]
  idx_vars j
  exact NormBack.dgain_blocks _ _ _ _ _
    (fun s k => congrFun (congr (congr (congrArg LossHead.back (out_eq m c s k)) (target_eq m c s k)) (gain_eq m c s)) _)
    (fun s k => out_eq m c s k)

end Cert.LossIdeal.Value

end
-- ==== Proof.LossEq.lean ====
/-
  The last MLP's second half with the loss (mlp1_down_loss): the written-out mathematics of the output, the loss and the gradients of the
  final norm, next to the kernel's arrays.
-/
module

public import proofs.«01_k».proof.Proof.Gen.LossRefIdeal.Read
public import proofs.«01_k».proof.Proof.Gen.LossRefIdeal.Run
public import proofs.«01_k».proof.Proof.LossValue
public import Idealize.ShloMosaic.Lib.Pointwise
public import Idealize.ShloMosaic.Lib.Claim

@[expose] public section

set_option maxRecDepth 16384

open Idealize.ShloMosaic Idealize.ShloMosaic.TcCoe Idealize.SL.Sem
open Idealize.ShloMosaic.Pipeline (Dat)

namespace Cert.LossRefIdeal.Read

open Cert.LossRefIdeal Cert.LossRefIdeal.Gen

/-- The output row before the final norm. -/
theorem row (u : FVec Ideal S8192x4096 .f32) (w : FVec Ideal S4096x1024 .f32) (res : FVec Ideal S8192x1024 .f32) (i : Fin 8192)
    (k : Fin 1024) : val_main_v3 (F := Ideal) u w res (ix2 i k) = Cert.LossIdeal.Value.out u w res i k := by
  unfold Cert.LossIdeal.Value.out
  pointwise [val_main_v3, val_main_v2, val_main_v1, val_main_v0, val_main_call0_v0, val_main_call0_cst,
    Cert.DownIdeal.Value.project, Cert.DownIdeal.Value.act]

theorem value_act (u : FVec Ideal S8192x4096 .f32) : val_main_v55 (F := Ideal) u = Cert.DownIdeal.Value.act u := by
  funext i
  pointwise [val_main_v55, val_main_v1, val_main_v0, val_main_call0_v0, val_main_call0_cst, Cert.DownIdeal.Value.act]

theorem value_x (u : FVec Ideal S8192x4096 .f32) (w : FVec Ideal S4096x1024 .f32) (res tg : FVec Ideal S8192x1024 .f32)
    (g : FVec Ideal S1024 .f32) :
    val_main_v54 (F := Ideal) u w res tg g = Cert.LossIdeal.Value.inGrad u w res tg g := by
  funext i
  idx_vars i
  show _ = NormGrad.grad (Cert.LossIdeal.Value.out u w res i0)
    (fun k => LossHead.back (Cert.LossIdeal.Value.out u w res i0) (fun k => tg (ix2 i0 k)) (fun k => g (ix1 k)) k * g (ix1 k)) i1
  rw [← NormGrad.vjp]
  simp only [LossHead.back_vjp]
  pointwise [val_main_v54, val_main_v53, val_main_v52, val_main_v51, val_main_cst_16, val_main_v50, val_main_v49, val_main_cst_15,
    val_main_v48, val_main_v47, val_main_v46, val_main_v45, val_main_v44, val_main_cst_14, val_main_v43, val_main_v41,
    val_main_v40, val_main_v36, val_main_v35, val_main_v34, val_main_v33, val_main_cst_11, val_main_v32, val_main_v31,
    val_main_cst_10, val_main_cst_9, val_main_v25, val_main_v24, val_main_cst_4, val_main_v22, val_main_v21, val_main_v20,
    val_main_v19, val_main_v18, val_main_v17, val_main_v16, val_main_v15, val_main_cst_3, val_main_v14, val_main_v13,
    val_main_v12, val_main_v11, val_main_cst_2, val_main_v10, val_main_v9, val_main_cst_1, val_main_v8, val_main_v7,
    val_main_cst_0, val_main_v6, val_main_v5, val_main_cst, val_main_v4, row, LossHead.diff, NormGrad.scale, NormGrad.ms]
  try rw [Fin.sum_univ_one]

theorem value_loss (u : FVec Ideal S8192x4096 .f32) (w : FVec Ideal S4096x1024 .f32) (res tg : FVec Ideal S8192x1024 .f32)
    (g : FVec Ideal S1024 .f32) :
    val_main_v56 (F := Ideal) u w res tg g = Cert.LossIdeal.Value.loss u w res tg g := by
  funext i
  idx_vars i
  unfold Cert.LossIdeal.Value.loss LossHead.loss
  rw [← LossHead.half_sum]
  simp only [← LossHead.div_width]
  pointwise [val_main_v56, val_main_v30, val_main_cst_8, val_main_v29, val_main_cst_7, val_main_v28, val_main_v27, val_main_cst_6,
    val_main_v26, val_main_cst_5, val_main_v23, val_main_v22, val_main_v21, val_main_v20, val_main_v19, val_main_v18,
    val_main_v17, val_main_v13, val_main_v12, val_main_v11, val_main_cst_2, val_main_v10, val_main_v9, val_main_cst_1,
    val_main_v8, val_main_v7, val_main_cst_0, val_main_v4, row, LossHead.diff, NormGrad.scale, NormGrad.ms]

theorem value_gain (u : FVec Ideal S8192x4096 .f32) (w : FVec Ideal S4096x1024 .f32) (res tg : FVec Ideal S8192x1024 .f32)
    (g : FVec Ideal S1024 .f32) :
    val_main_v57 (F := Ideal) u w res tg g = Cert.LossIdeal.Value.gainGrad u w res tg g := by
  funext i
  idx_vars i
  unfold Cert.LossIdeal.Value.gainGrad NormBack.dgain
  pointwise [val_main_v57, val_main_v42, val_main_cst_13, val_main_v39, val_main_v38, val_main_cst_12, val_main_v37, val_main_v36,
    val_main_v35, val_main_v34, val_main_v33, val_main_cst_11, val_main_v32, val_main_v31, val_main_cst_10, val_main_cst_9,
    val_main_v25, val_main_v24, val_main_cst_4, val_main_v22, val_main_v21, val_main_v20, val_main_v19, val_main_v18,
    val_main_v17, val_main_v13, val_main_v12, val_main_v11, val_main_cst_2, val_main_v10, val_main_v9, val_main_cst_1,
    val_main_v8, val_main_v7, val_main_cst_0, val_main_v4, row, LossHead.diff, NormGrad.scale, NormGrad.ms]
  rw [Fin.sum_univ_one]
  refine Finset.sum_congr rfl fun t _ => (mul_comm _ _).trans (congrArg (· * _) ?_)
  refine Eq.trans ?_ (LossHead.back_vjp _ _ _ _).symm
  rw [mul_one]
  rfl

end Cert.LossRefIdeal.Read

namespace Cert.Proof

theorem algebraic_loss : Cert.algebraic_LossIdeal_LossRefIdeal := by
  pair_intro
  · run_from Cert.LossIdeal.Gen.run_main m g
  · refine (θ_run Cert.LossRefIdeal.defs _ _).mono (fun r h c => ?_) (Cert.LossRefIdeal.Value.run (F := Ideal) m' g')
    obtain ⟨a0, a1, a2, a3, a4⟩ := hagree c
    obtain ⟨h0, h1, h2, h3, hr⟩ := h c
    refine ⟨?_, ?_, ?_, ?_, hr⟩
    · have e := (Cert.LossIdeal.Value.final5 m c).symm
      rw [← a0, ← a1, ← a2, ← a3, ← a4] at e
      exact h0.trans ((Cert.LossRefIdeal.Read.val_main_v54_eq (F := Ideal) m' c).trans ((Cert.LossRefIdeal.Read.value_x _ _ _ _ _).trans e))
    · have e := (Cert.LossIdeal.Value.final6 m c).symm
      rw [← a0] at e
      exact h1.trans ((Cert.LossRefIdeal.Read.val_main_v55_eq (F := Ideal) _).trans ((Cert.LossRefIdeal.Read.value_act _).trans e))
    · have e := (Cert.LossIdeal.Value.final7 m c).symm
      rw [← a0, ← a1, ← a2, ← a3, ← a4] at e
      exact h2.trans ((Cert.LossRefIdeal.Read.val_main_v56_eq (F := Ideal) m' c).trans ((Cert.LossRefIdeal.Read.value_loss _ _ _ _ _).trans e))
    · have e := (Cert.LossIdeal.Value.final8 m c).symm
      rw [← a0, ← a1, ← a2, ← a3, ← a4] at e
      exact h3.trans ((Cert.LossRefIdeal.Read.val_main_v57_eq (F := Ideal) m' c).trans ((Cert.LossRefIdeal.Read.value_gain _ _ _ _ _).trans e))

end Cert.Proof

end
-- ==== Proof.QkvTables.lean ====
/-
  The host code in front of the query/key/value projection (qkv_proj): the rotary tables it hands to the kernel, 128 lanes each of
  cosines, of sines for the lanes that take from eight lanes before, and of negated sines for the lanes that take from eight lanes after.
-/
module

public import proofs.«01_k».proof.Proof.Gen.QkvIdeal.Frame
public import Idealize.ShloMosaic.Lib.StableHlo.ReadAt
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.QkvIdeal.Value

open Cert.QkvIdeal Cert.QkvIdeal.Gen

variable (m : (ℓ : Loc nD τ sig) → Buf (Elt Ideal) ℓ)

/-- One number on every lane. -/
abbrev lanes (n : BitVec 32) : IVec S128 32 := broadcastInDim S128 ![] bcast_S_S128 (constantI S_ 32 n)

/-- The remainder with the divisor's sign, on every lane. -/
def modulo (x : IVec S128 32) (n : BitVec 32) : IVec S128 32 :=
  have d : IVec S_ 32 := select (cmpi .eq (constantI S_ 32 n) (constantI S_ 32 0#32)) (constantI S_ 32 1#32) (constantI S_ 32 n)
  have r : IVec S128 32 := Host.remsi x (broadcastInDim S128 ![] bcast_S_S128 d)
  select (andi (cmpi .ne (cmpi .slt r (lanes 0#32)) (broadcastInDim S128 ![] bcast_S_S128 (cmpi .slt d (constantI S_ 32 0#32))))
    (cmpi .ne r (lanes 0#32))) (addi r (broadcastInDim S128 ![] bcast_S_S128 d)) r

/-- A lane's place in its head of 64 features. -/
def place : IVec S128 32 := modulo (iotaInDim S128 32 0) 64#32

/-- Which of the eight angles a lane turns by. -/
def turn : IVec S128 32 := modulo place 8#32

/-- The same as a column of start indices. -/
def starts : IVec S128x1 32 :=
  broadcastInDim S128x1 ![0] bcast_S128_S128x1_0 (select (cmpi .slt turn (lanes 0#32)) (addi turn (lanes 8#32)) turn)

def inFirst : IVec S128 1 := cmpi .slt place (lanes 8#32)
def inSecond : IVec S128 1 := andi (cmpi .sge place (lanes 8#32)) (cmpi .slt place (lanes 16#32))
def inEither : IVec S128 1 := cmpi .slt place (lanes 16#32)

/-- The angles: the position times the inverse frequencies. -/
def angles (p : IVec S8192 32) : FVec Ideal S8192x8 .f32 :=
  mulf (broadcastInDim S8192x8 ![0, 1] bcast_S8192x1_S8192x8_0_1 (fun i => shapeCast main_v11.ty.shape (sitofp .f32 p) shapeCasts_S8192_S8192x1 i))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
          (mulf (broadcastInDim S8 ![] bcast_S_S8 (constant S_ .f32 0x40000000#32)) (sitofp .f32 (iotaInDim S8 32 0)))))
          (broadcastInDim S8 ![] bcast_S_S8 (constant S_ .f32 0x41800000#32))))))

/-- One table: the gathered values on the lanes that are asked for, one constant on the others. -/
def pick (b : IVec S128 1) (x : FVec Ideal S8192x128 .f32) (e : FVec Ideal S_ .f32) : FVec Ideal S8192x128 .f32 :=
  select (broadcastInDim S8192x128 ![1] bcast_S128_S8192x128_1 b) x (broadcastInDim S8192x128 ![] bcast_S_S8192x128 e)

def spread (x : FVec Ideal S8192x8 .f32) : FVec Ideal S8192x128 .f32 :=
  Host.gather gather_S8192x8_S128x1_S8192x128_0_1_n_n_1_1_81921 x starts

def tables (p : IVec S8192 32) : FVec Ideal S8192x384 .f32 :=
  concatenate S8192x384 1 [⟨S8192x128, pick inEither (spread (Host.cos (angles p))) (constant S_ .f32 0x3F800000#32)⟩,
    ⟨S8192x128, pick inSecond (spread (Host.sin (angles p))) (constant S_ .f32 0x00000000#32)⟩,
    ⟨S8192x128, pick inFirst (Host.negf (spread (Host.sin (angles p)))) (constant S_ .f32 0x00000000#32)⟩]
    concatenates_S8192x128_S8192x128_S8192x128_S8192x384_d1

theorem beside3 {x y z x' y' z' : FVec Ideal S8192x128 .f32} (hx : x = x') (hy : y = y') (hz : z = z') :
    concatenate S8192x384 1 [⟨S8192x128, x⟩, ⟨S8192x128, y⟩, ⟨S8192x128, z⟩] concatenates_S8192x128_S8192x128_S8192x128_S8192x384_d1
      = concatenate S8192x384 1 [⟨S8192x128, x'⟩, ⟨S8192x128, y'⟩, ⟨S8192x128, z'⟩]
        concatenates_S8192x128_S8192x128_S8192x128_S8192x384_d1 := by
  rw [hx, hy, hz]

theorem host_tables (c : Dev nD) : V m c main_v55 = tables (m (c, Proc.tc.devRef main_arg1)) := by
  unfold V tables
  after_reads_simp
  refine beside3 ?_ ?_ ?_
  · show StableHlo.upto _ _ _ (Proc.tc.devRef main_v30) = _
    after_reads_simp
    simp only [StableHlo.TRef.ofBuf, StableHlo.TRef.toBuf, cast_eq, id, pick, spread, starts, turn, place, inFirst, inSecond,
      inEither, angles, modulo, lanes]
    first | done | with_reducible rfl
  · show StableHlo.upto _ _ _ (Proc.tc.devRef main_v43) = _
    after_reads_simp
    simp only [StableHlo.TRef.ofBuf, StableHlo.TRef.toBuf, cast_eq, id, pick, spread, starts, turn, place, inFirst, inSecond,
      inEither, angles, modulo, lanes]
    first | done | with_reducible rfl
  · show StableHlo.upto _ _ _ (Proc.tc.devRef main_v54) = _
    after_reads_simp
    simp only [StableHlo.TRef.ofBuf, StableHlo.TRef.toBuf, cast_eq, id, pick, spread, starts, turn, place, inFirst, inSecond,
      inEither, angles, modulo, lanes]
    first | done | with_reducible rfl

/-- A gather of whole columns, read at an index. -/
theorem spread_apply (x : FVec Ideal S8192x8 .f32) (i : Fin 8192) (j : Fin 128) :
    spread x (ix2 i j) = x (ix2 i ⟨min (starts (ix2 j 0)).toInt.toNat 7, by omega⟩) := by
  unfold spread Host.gather
  refine congrArg x (funext fun a => Fin.ext ?_)
  match a with
  | ⟨0, h⟩ =>
    show gather_S8192x8_S128x1_S8192x128_0_1_n_n_1_1_81921.start _ _ (0 : Fin 2)
      + gather_S8192x8_S128x1_S8192x128_0_1_n_n_1_1_81921.batchCoord _ (0 : Fin 2)
      + gather_S8192x8_S128x1_S8192x128_0_1_n_n_1_1_81921.offCoord _ (0 : Fin 2) = i.val
    rw [GatherDims.batchCoord_eq_zero _ _ _ List.not_mem_nil]
    unfold GatherDims.start
    rw [dif_neg (by decide)]
    unfold GatherDims.offCoord
    rw [dif_pos (by decide)]
    exact (Nat.zero_add _).trans rfl
  | ⟨1, _⟩ => rfl

theorem starts_val : ∀ j : Fin 128, min (starts (ix2 j 0)).toInt.toNat 7 = j.val % 8 := by decide +kernel
theorem first_val : ∀ j : Fin 128, inFirst (ix1 j) = BitVec.ofBool (decide (j.val % 64 < 8)) := by decide +kernel
theorem second_val : ∀ j : Fin 128, inSecond (ix1 j) = BitVec.ofBool (decide (8 ≤ j.val % 64 ∧ j.val % 64 < 16)) := by decide +kernel
theorem either_val : ∀ j : Fin 128, inEither (ix1 j) = BitVec.ofBool (decide (j.val % 64 < 16)) := by decide +kernel

theorem cos_apply (p : IVec S8192 32) (i : Fin 8192) (j : Fin 128) :
    tables p (ix2 i ⟨j.val, by omega⟩) = if j.val % 64 < 16 then Ideal.cos (angles p (ix2 i ⟨j.val % 8, by omega⟩)) else 1 := by
  unfold tables
  pointwise [pick, spread_apply, starts_val, either_val]
theorem sin_apply (p : IVec S8192 32) (i : Fin 8192) (j : Fin 128) :
    tables p (ix2 i ⟨128 + j.val, by omega⟩) = if 8 ≤ j.val % 64 ∧ j.val % 64 < 16 then Ideal.sin (angles p (ix2 i ⟨j.val % 8, by omega⟩)) else 0 := by
  unfold tables
  pointwise [pick, spread_apply, starts_val, second_val]

theorem neg_sin_apply (p : IVec S8192 32) (i : Fin 8192) (j : Fin 128) :
    tables p (ix2 i ⟨256 + j.val, by omega⟩) = if j.val % 64 < 8 then -Ideal.sin (angles p (ix2 i ⟨j.val % 8, by omega⟩)) else 0 := by
  unfold tables
  pointwise [pick, spread_apply, starts_val, first_val]
  rw [dif_neg (by omega), dif_neg (by omega)]
  have e : 256 + j.val - 128 - 128 = j.val := by omega
  simp only [e]

end Cert.QkvIdeal.Value

end
-- ==== Proof.QkvFwdValue.lean ====
/-
  The query/key/value projection (qkv_proj): the norm, the product with the weight, the bias and the rotary embedding, block by block and as
  whole arrays.
-/
module

public import proofs.«01_k».proof.Proof.Gen.QkvIdeal.Value
public import proofs.«01_k».proof.Proof.QkvTables
public import proofs.«01_k».proof.Proof.UpValue
public import proofs.«01_k».proof.Defs
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen

variable (m : (ℓ : Loc nD τ sig) → Buf (Elt Ideal) ℓ)

/-- The projection before the rotary embedding. -/
def flatPre (x : FVec Ideal S8192x1024 .f32) (g : FVec Ideal S1024 .f32) (w : FVec Ideal S1024x1536 .f32) (b : FVec Ideal S1x1536 .f32)
    (i : Fin 8192) (c : Fin 1536) : EReal :=
  (∑ k : Fin 1024, Cert.UpIdeal.Value.normed x g (ix2 i k) * w (ix2 k c)) + b (ix2 0 c)

/-- One group of 128 lanes turned by the tables. -/
def turned (v : Fin 128 → EReal) (tab : Fin 384 → EReal) (j : Fin 128) : EReal :=
  v j * tab ⟨j.val, by omega⟩ + v ⟨(j.val + 128 - 8) % 128, by omega⟩ * tab ⟨128 + j.val, by omega⟩
    + v ⟨(j.val + 128 - 120) % 128, by omega⟩ * tab ⟨256 + j.val, by omega⟩

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- The same for one block of 512 rows. -/
def blockPre (x : FVec Ideal S512x1024 .f32) (g : FVec Ideal S1x1024 .f32) (w : FVec Ideal S1024x1536 .bf16) (b : FVec Ideal S1x1536 .f32)
    (i : Fin 512) (c : Fin 1536) : EReal :=
  (∑ k : Fin 1024, x (ix2 i k) * NormGrad.scale (fun k => x (ix2 i k)) * g (ix2 0 k) * w (ix2 k c)) + b (ix2 0 c)

def blockOut (x : FVec Ideal S512x1024 .f32) (tab : FVec Ideal S512x384 .f32) (g : FVec Ideal S1x1024 .f32)
    (w : FVec Ideal S1024x1536 .bf16) (b : FVec Ideal S1x1536 .f32) (y : S512x1536.Idx) : EReal :=
  if (y 1).val < 1280 then
    turned (fun l => blockPre x g w b (y 0) ⟨(y 1).val / 128 * 128 + l.val, by have := (y 1).isLt; have e : S512x1536.size 1 = 1536 := rfl; omega⟩)
      (fun l => tab (ix2 (y 0) l)) ⟨(y 1).val % 128, by omega⟩
  else blockPre x g w b (y 0) (y 1)

theorem out_turned (a : FVec Ideal S512x1024 .f32) (tab : FVec Ideal S512x384 .f32) (g : FVec Ideal S1x1024 .f32)
    (w : FVec Ideal S1024x1536 .bf16) (b : FVec Ideal S1x1536 .f32) (o : ℕ) (ho : o % 128 = 0) (hl : o + 128 ≤ 1280)
    (y : S512x1536.Idx) (i : Fin 512) (j : Fin 128) (h0 : (y 0).val = i.val) (h1 : (y 1).val = o + j.val) :
    blockOut a tab g w b y
      = turned (fun l => blockPre a g w b i ⟨o + l.val, by omega⟩) (fun l => tab (ix2 i l)) j := by
  have e0 : y 0 = i := Fin.ext h0
  have e1 : (y 1).val / 128 * 128 = o := by omega
  have e2 : (y 1).val % 128 = j.val := by omega
  unfold blockOut
  rw [if_pos (by omega)]
  simp only [e0, e1, e2]

theorem out_plain (a : FVec Ideal S512x1024 .f32) (tab : FVec Ideal S512x384 .f32) (g : FVec Ideal S1x1024 .f32)
    (w : FVec Ideal S1024x1536 .bf16) (b : FVec Ideal S1x1536 .f32) (o : ℕ) (ho : 1280 ≤ o) (hl : o + 128 ≤ 1536)
    (y : S512x1536.Idx) (i : Fin 512) (j : Fin 128) (h0 : (y 0).val = i.val) (h1 : (y 1).val = o + j.val) :
    blockOut a tab g w b y = blockPre a g w b i ⟨o + j.val, by omega⟩ := by
  have e0 : y 0 = i := Fin.ext h0
  have e1 : y 1 = (⟨o + j.val, by omega⟩ : Fin 1536) := Fin.ext h1
  unfold blockOut
  rw [if_neg (by omega), e0, e1]

theorem point5 (a : FVec Ideal S512x1024 .f32) (tab : FVec Ideal S512x384 .f32) (g : FVec Ideal S1x1024 .f32)
    (w : FVec Ideal S1024x1536 .bf16) (b : FVec Ideal S1x1536 .f32) : out0_5 (F := Ideal) a tab g w b = blockOut a tab g w b := by
  funext y
  unfold out0_5
  canon_tiles x h
  on_goal 1 => rw [out_plain a tab g w b 1408 (by decide) (by decide) y (x 0) (x 1) h0 h1]
  on_goal 2 => rw [out_plain a tab g w b 1280 (by decide) (by decide) y (x 0) (x 1) h0 h1]
  on_goal 3 => rw [out_turned a tab g w b 1152 (by decide) (by decide) y (x 0) (x 1) h0 h1]
  on_goal 4 => rw [out_turned a tab g w b 1024 (by decide) (by decide) y (x 0) (x 1) h0 h1]
  on_goal 5 => rw [out_turned a tab g w b 896 (by decide) (by decide) y (x 0) (x 1) h0 h1]
  on_goal 6 => rw [out_turned a tab g w b 768 (by decide) (by decide) y (x 0) (x 1) h0 h1]
  on_goal 7 => rw [out_turned a tab g w b 640 (by decide) (by decide) y (x 0) (x 1) h0 h1]
  on_goal 8 => rw [out_turned a tab g w b 512 (by decide) (by decide) y (x 0) (x 1) h0 h1]
  on_goal 9 => rw [out_turned a tab g w b 384 (by decide) (by decide) y (x 0) (x 1) h0 h1]
  on_goal 10 => rw [out_turned a tab g w b 256 (by decide) (by decide) y (x 0) (x 1) h0 h1]
  on_goal 11 => rw [out_turned a tab g w b 128 (by decide) (by decide) y (x 0) (x 1) h0 h1]
  on_goal 12 => rw [out_turned a tab g w b 0 (by decide) (by decide) y (x 0) (x 1) h0 (h1.trans (Nat.zero_add _).symm)]
  all_goals
    pointwise [k0_pay1, k0_pay2, k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24, k0_pay25,
      k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, turned, blockPre, NormGrad.scale, NormGrad.ms]
    try simp only [← Nat.add_assoc, Nat.reduceAdd]

theorem point6 (a : FVec Ideal S512x1024 .f32) (tab : FVec Ideal S512x384 .f32) (g : FVec Ideal S1x1024 .f32)
    (w : FVec Ideal S1024x1536 .bf16) (b : FVec Ideal S1x1536 .f32) : out0_6 (F := Ideal) a tab g w b
      = fun y => a y * NormGrad.scale (fun k => a (ix2 (y 0) k)) * g (ix2 0 (y 1)) := by
  funext y
  unfold out0_6
  canon_tiles x h
  all_goals
    pointwise [k0_pay11, k0_pay34, NormGrad.scale, NormGrad.ms]
    blk_point []

/-- The projection at one token and column, with the first sixteen features of every head of the queries and keys turned. -/
def rotatedAt (x : FVec Ideal S8192x1024 .f32) (p : IVec S8192 32) (g : FVec Ideal S1024 .f32) (w : FVec Ideal S1024x1536 .f32)
    (b : FVec Ideal S1x1536 .f32) (i : Fin 8192) (c : Fin 1536) : EReal :=
  if h : c.val < 1280 then
    if h1 : c.val % 64 < 8 then
      flatPre x g w b i c * Ideal.cos (angles p (ix2 i ⟨c.val % 8, by omega⟩))
        - flatPre x g w b i ⟨c.val + 8, by omega⟩ * Ideal.sin (angles p (ix2 i ⟨c.val % 8, by omega⟩))
    else if h2 : c.val % 64 < 16 then
      flatPre x g w b i c * Ideal.cos (angles p (ix2 i ⟨c.val % 8, by omega⟩))
        + flatPre x g w b i ⟨c.val - 8, by omega⟩ * Ideal.sin (angles p (ix2 i ⟨c.val % 8, by omega⟩))
    else flatPre x g w b i c
  else flatPre x g w b i c

/-- The whole rotated projection. -/
def rotated (x : FVec Ideal S8192x1024 .f32) (p : IVec S8192 32) (g : FVec Ideal S1024 .f32) (w : FVec Ideal S1024x1536 .f32)
    (b : FVec Ideal S1x1536 .f32) : FVec Ideal S8192x1536 .f32 := fun y => rotatedAt x p g w b (y 0) (y 1)

/-- Turning by the tables is turning the pairs that lie eight lanes apart. -/
theorem turned_tables (v : Fin 128 → EReal) (p : IVec S8192 32) (i : Fin 8192) (j : Fin 128) :
    turned v (fun l => tables p (ix2 i l)) j
      = if h1 : j.val % 64 < 8 then v j * Ideal.cos (angles p (ix2 i ⟨j.val % 8, by omega⟩))
          - v ⟨j.val + 8, by omega⟩ * Ideal.sin (angles p (ix2 i ⟨j.val % 8, by omega⟩))
        else if h2 : j.val % 64 < 16 then v j * Ideal.cos (angles p (ix2 i ⟨j.val % 8, by omega⟩))
          + v ⟨j.val - 8, by omega⟩ * Ideal.sin (angles p (ix2 i ⟨j.val % 8, by omega⟩))
        else v j := by
  unfold turned
  dsimp only
  rw [cos_apply, sin_apply, neg_sin_apply]
  by_cases h1 : j.val % 64 < 8
  · rw [if_pos (by omega), if_neg (by omega), if_pos h1, dif_pos h1, mul_zero, add_zero, mul_neg, ← sub_eq_add_neg]
    have e : (j.val + 128 - 120) % 128 = j.val + 8 := by omega
    simp only [e]
  · by_cases h2 : j.val % 64 < 16
    · rw [if_pos h2, if_pos (by omega), if_neg h1, dif_neg h1, dif_pos h2, mul_zero, add_zero]
      have e : (j.val + 128 - 8) % 128 = j.val - 8 := by omega
      simp only [e]
    · rw [if_neg h2, if_neg (by omega), if_neg h1, dif_neg h1, dif_neg h2, mul_zero, mul_zero, add_zero, add_zero, mul_one]

theorem row_lt (t : Fin cfg0.N) (i : Fin 512) : t.val * 512 + i.val < 8192 := by
  have h : t.val < 16 := lt_of_lt_of_eq t.isLt N_0
  omega

theorem blk0 (c : Dev nD) (t : Fin cfg0.N) (y) : iblk m c 0 t y
    = m ((c : Thread nD τ).loc main_arg0) (ix2 ⟨t.val * 512 + (y 0).val, row_lt t (y 0)⟩ (y 1)) := by
  blk_point [iblk, V, idx t]

theorem blk1 (c : Dev nD) (t : Fin cfg0.N) (y) : iblk m c 1 t y
    = V m c main_v55 (ix2 ⟨t.val * 512 + (y 0).val, row_lt t (y 0)⟩ (y 1)) := by
  blk_point [iblk, idx t]

theorem host_gain (c : Dev nD) (k : Fin 1024) : V m c main_v56 (ix2 0 k) = m ((c : Thread nD τ).loc main_arg2) (ix1 k) := by
  unfold V
  after_reads_at
  try rfl

theorem host_weight (c : Dev nD) (y) : V m c main_v57 y = m ((c : Thread nD τ).loc main_arg3) y := by
  unfold V
  after_reads_at
  try rfl

theorem blk2 (c : Dev nD) (t : Fin cfg0.N) (k : Fin 1024) : iblk m c 2 t (ix2 0 k) = m ((c : Thread nD τ).loc main_arg2) (ix1 k) := by
  rw [← host_gain (m := m) c k]
  blk_point [iblk, idx t]

theorem blk3 (c : Dev nD) (t : Fin cfg0.N) (y) : iblk m c 3 t y = m ((c : Thread nD τ).loc main_arg3) y := by
  rw [← host_weight (m := m) c y]
  blk_point [iblk, idx t]

theorem blk4 (c : Dev nD) (t : Fin cfg0.N) (y) : iblk m c 4 t y = m ((c : Thread nD τ).loc main_arg4) y := by
  blk_point [iblk, V, idx t]

theorem pre_eq (c : Dev nD) (t : Fin cfg0.N) (i : Fin 512) :
    blockPre (iblk m c 0 t) (iblk m c 2 t) (iblk m c 3 t) (iblk m c 4 t) i = flatPre (m ((c : Thread nD τ).loc main_arg0))
      (m ((c : Thread nD τ).loc main_arg2)) (m ((c : Thread nD τ).loc main_arg3)) (m ((c : Thread nD τ).loc main_arg4))
      ⟨t.val * 512 + i.val, row_lt t i⟩ := by
  funext j
  unfold blockPre flatPre Cert.UpIdeal.Value.normed
  simp only [blk0, blk2, blk3, blk4]
  rfl

theorem tab_eq (c : Dev nD) (t : Fin cfg0.N) (i : Fin 512) : (fun l => iblk m c 1 t (ix2 i l))
    = fun l => tables (m ((c : Thread nD τ).loc main_arg1)) (ix2 ⟨t.val * 512 + i.val, row_lt t i⟩ l) := by
  funext l
  rw [blk1, host_tables]
  rfl

theorem emb5 (t : Fin cfg0.N) (y : S512x1536.Idx) : ((cfg0.win 5).blk t).view.emb y
    = ix2 ⟨t.val * 512 + (y 0).val, row_lt t (y 0)⟩ (y 1) := by
  blk_ext [idx t]

theorem final5 (c : Dev nD) : (dats m 0 c).arrAt 5 (cfgs 0).N
    = rotated (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5, point5]
  refine Eq.trans ?_ (congrArg (rotated _ _ _ _ _) (emb5 t y).symm)
  idx_vars y
  show (if y1.val < 1280 then turned (fun l => blockPre (iblk m c 0 t) (iblk m c 2 t) (iblk m c 3 t) (iblk m c 4 t) y0
      ⟨y1.val / 128 * 128 + l.val, by omega⟩) (fun l => iblk m c 1 t (ix2 y0 l)) ⟨y1.val % 128, by omega⟩
    else blockPre (iblk m c 0 t) (iblk m c 2 t) (iblk m c 3 t) (iblk m c 4 t) y0 y1) = rotatedAt _ _ _ _ _ _ y1
  unfold rotatedAt
  rw [tab_eq, turned_tables, pre_eq]
  dsimp only
  by_cases h : y1.val < 1280
  · rw [if_pos h, dif_pos h]
    have e1 : y1.val / 128 * 128 + y1.val % 128 = y1.val := by omega
    have e2 : y1.val % 128 % 64 = y1.val % 64 := by omega
    have e3 : y1.val % 128 % 8 = y1.val % 8 := by omega
    have e4 : y1.val / 128 * 128 + (y1.val % 128 + 8) = y1.val + 8 := by omega
    by_cases h1 : y1.val % 64 < 8
    · rw [dif_pos (by omega), dif_pos h1]
      simp only [e1, e3, e4]
      rfl
    · rw [dif_neg (by omega), dif_neg h1]
      by_cases h2 : y1.val % 64 < 16
      · rw [dif_pos (by omega), dif_pos h2]
        have e5 : y1.val / 128 * 128 + (y1.val % 128 - 8) = y1.val - 8 := by omega
        simp only [e1, e3, e5]
        rfl
      · rw [dif_neg (by omega), dif_neg h2]
        simp only [e1]
        rfl
  · rw [if_neg h, dif_neg h]
    rfl

theorem final6 (c : Dev nD) : (dats m 0 c).arrAt 6 (cfgs 0).N
    = Cert.UpIdeal.Value.normed (m ((c : Thread nD τ).loc main_arg0)) (m ((c : Thread nD τ).loc main_arg2)) := by
  refine (dats m 0 c).arrAt_eq_of_covers 6 _ (by decide +kernel) fun t _ y => ?_
  blk_simp
  rw [after0_6, point6]
  idx_vars y
  unfold Cert.UpIdeal.Value.normed
  simp only [blk0, blk2]
  blk_point [idx t]

end Cert.QkvIdeal.Value

end
-- ==== Proof.QkvFwdEq.lean ====
/-
  The query/key/value projection (qkv_proj): the written-out mathematics, with the rotary embedding over heads of 64 features, next to the
  kernel's arrays.
-/
module

public import proofs.«01_k».proof.Proof.Gen.QkvRefIdeal.Read
public import proofs.«01_k».proof.Proof.Gen.QkvRefIdeal.Run
public import proofs.«01_k».proof.Proof.QkvFwdValue
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvRefIdeal.Read

open Cert.QkvRefIdeal Cert.QkvRefIdeal.Gen

theorem value_norm (x : FVec Ideal S8192x1024 .f32) (g : FVec Ideal S1024 .f32) :
    val_main_v72 (F := Ideal) x g = Cert.UpIdeal.Value.normed x g := by
  funext i
  idx_vars i
  pointwise [val_main_v72, val_main_v12, val_main_v11, val_main_v10, val_main_v9, val_main_v8, val_main_v7, val_main_v6, val_main_v5,
    val_main_v4, val_main_v3, val_main_v2, val_main_v1, val_main_v0, val_main_cst, val_main_cst_0, val_main_cst_1, Cert.UpIdeal.Value.normed, NormGrad.scale,
    NormGrad.ms]

theorem angle (p : IVec S8192 32) (i : Fin 8192) (k : Fin 8) :
    val_main_v31 (F := Ideal) p (ix2 i k) = Cert.QkvIdeal.Value.angles p (ix2 i k) := by
  pointwise [val_main_v31, val_main_v30, val_main_v29, val_main_v28, val_main_v27, val_main_v26, val_main_v25, val_main_v24,
    val_main_v23, val_main_v22, val_main_v21, val_main_v20, val_main_v19, val_main_v18, val_main_v17, val_main_v16,
    val_main_cst_2, val_main_cst_3, val_main_cst_4, val_main_cst_5, Cert.QkvIdeal.Value.angles]

theorem pre (x : FVec Ideal S8192x1024 .f32) (g : FVec Ideal S1024 .f32) (w : FVec Ideal S1024x1536 .f32) (b : FVec Ideal S1x1536 .f32)
    (i : Fin 8192) (c : Fin 1536) :
    val_main_v15 (F := Ideal) x g w b (ix2 i c) = Cert.QkvIdeal.Value.flatPre x g w b i c := by
  unfold Cert.QkvIdeal.Value.flatPre
  rw [← value_norm]
  pointwise [val_main_v15, val_main_v14, val_main_v13, val_main_v72]

/-- One head: the first eight features less, the next eight plus, the rest as they are. -/
theorem head (x : FVec Ideal S8192x1024 .f32) (p : IVec S8192 32) (g : FVec Ideal S1024 .f32) (w : FVec Ideal S1024x1536 .f32)
    (b : FVec Ideal S1x1536 .f32) (i : Fin 8192) (P : Fin 1536 → EReal) (hP : P = Cert.QkvIdeal.Value.flatPre x g w b i)
    (A : Fin 8 → EReal) (hA : A = fun k => Cert.QkvIdeal.Value.angles p (ix2 i k)) (c : Fin 1536) (r : ℕ) (hr : r = c.val % 64) (hc : c.val < 1280)
    (a0 a1 : r < 8 → Fin 1536) (k : r < 8 → Fin 8) (b0 b1 : r - 8 < 8 → Fin 1536) (l : r - 8 < 8 → Fin 8) (d : Fin 1536)
    (h0 : ∀ h, (a0 h).val = c.val) (h1 : ∀ h, (a1 h).val = c.val + 8) (hk : ∀ h, (k h).val = c.val % 8)
    (g0 : ∀ h, ¬r < 8 → (b0 h).val = c.val) (g1 : ∀ h, ¬r < 8 → (b1 h).val = c.val - 8) (gl : ∀ h, ¬r < 8 → (l h).val = c.val % 8)
    (hd : ¬r < 8 → ¬r - 8 < 8 → d.val = c.val) :
    (if h : r < 8 then P (a0 h) * Ideal.cos (A (k h)) - P (a1 h) * Ideal.sin (A (k h))
      else if h : r - 8 < 8 then P (b0 h) * Ideal.cos (A (l h)) + P (b1 h) * Ideal.sin (A (l h))
      else P d)
    = Cert.QkvIdeal.Value.rotatedAt x p g w b i c := by
  unfold Cert.QkvIdeal.Value.rotatedAt
  rw [dif_pos hc, ← hP]
  have hA' : ∀ k, Cert.QkvIdeal.Value.angles p (ix2 i k) = A k := fun k => by rw [hA]
  simp only [hA']
  subst hr
  by_cases e : c.val % 64 < 8
  · rw [dif_pos e, dif_pos e, show a0 e = c from Fin.ext (h0 e), show a1 e = ⟨c.val + 8, by omega⟩ from Fin.ext (h1 e),
      show k e = ⟨c.val % 8, by omega⟩ from Fin.ext (hk e)]
  · rw [dif_neg e, dif_neg e]
    by_cases f : c.val % 64 - 8 < 8
    · rw [dif_pos f, dif_pos (by omega), show b0 f = c from Fin.ext (g0 f e), show b1 f = ⟨c.val - 8, by omega⟩ from Fin.ext (g1 f e),
        show l f = ⟨c.val % 8, by omega⟩ from Fin.ext (gl f e)]
    · rw [dif_neg f, dif_neg (by omega), show d = c from Fin.ext (hd e f)]

/-- The queries, head by head. -/
theorem queries (x : FVec Ideal S8192x1024 .f32) (p : IVec S8192 32) (g : FVec Ideal S1024 .f32) (w : FVec Ideal S1024x1536 .f32)
    (b : FVec Ideal S1x1536 .f32) (i : Fin 8192) (h : Fin 16) (d : Fin 64) :
    val_main_v51 (F := Ideal) x p g w b (ix3 i h d) = Cert.QkvIdeal.Value.rotatedAt x p g w b i ⟨h.val * 64 + d.val, by omega⟩ := by
  refine Eq.trans ?_ (head x p g w b i (Cert.QkvIdeal.Value.flatPre x g w b i) rfl (fun k => Cert.QkvIdeal.Value.angles p (ix2 i k)) rfl
    ⟨h.val * 64 + d.val, by omega⟩ d.val (by dsimp only; omega) (by dsimp only; omega)
    (fun _ => ⟨h.val * 64 + d.val, by omega⟩) (fun _ => ⟨h.val * 64 + (8 + d.val), by omega⟩) (fun e => ⟨d.val, e⟩)
    (fun _ => ⟨h.val * 64 + (8 + (d.val - 8)), by omega⟩) (fun _ => ⟨h.val * 64 + (d.val - 8), by omega⟩)
    (fun e => ⟨d.val - 8, e⟩) ⟨h.val * 64 + (16 + (d.val - 8 - 8)), by omega⟩
    ?_ ?_ ?_ ?_ ?_ ?_ ?_)
  · pointwise [val_main_v51, val_main_v50, val_main_v49, val_main_v48, val_main_v47, val_main_v46, val_main_v45, val_main_v44,
    val_main_v43, val_main_v42, val_main_v41, val_main_v40, val_main_v39, val_main_v38, val_main_v37, val_main_v36,
    val_main_v35, val_main_v34, val_main_v33, val_main_v32, angle, pre]
  all_goals (intros; dsimp only; try omega)

/-- The keys, head by head. -/
theorem keys (x : FVec Ideal S8192x1024 .f32) (p : IVec S8192 32) (g : FVec Ideal S1024 .f32) (w : FVec Ideal S1024x1536 .f32)
    (b : FVec Ideal S1x1536 .f32) (i : Fin 8192) (h : Fin 4) (d : Fin 64) :
    val_main_v68 (F := Ideal) x p g w b (ix3 i h d) = Cert.QkvIdeal.Value.rotatedAt x p g w b i ⟨1024 + (h.val * 64 + d.val), by omega⟩ := by
  refine Eq.trans ?_ (head x p g w b i (Cert.QkvIdeal.Value.flatPre x g w b i) rfl (fun k => Cert.QkvIdeal.Value.angles p (ix2 i k)) rfl
    ⟨1024 + (h.val * 64 + d.val), by omega⟩ d.val (by dsimp only; omega) (by dsimp only; omega)
    (fun _ => ⟨1024 + (h.val * 64 + d.val), by omega⟩) (fun _ => ⟨1024 + (h.val * 64 + (8 + d.val)), by omega⟩) (fun e => ⟨d.val, e⟩)
    (fun _ => ⟨1024 + (h.val * 64 + (8 + (d.val - 8))), by omega⟩) (fun _ => ⟨1024 + (h.val * 64 + (d.val - 8)), by omega⟩)
    (fun e => ⟨d.val - 8, e⟩) ⟨1024 + (h.val * 64 + (16 + (d.val - 8 - 8))), by omega⟩
    ?_ ?_ ?_ ?_ ?_ ?_ ?_)
  · pointwise [val_main_v68, val_main_v67, val_main_v66, val_main_v65, val_main_v64, val_main_v63, val_main_v62, val_main_v61,
    val_main_v60, val_main_v59, val_main_v58, val_main_v57, val_main_v56, val_main_v55, val_main_v54, val_main_v53,
    val_main_v35, val_main_v34, val_main_v33, val_main_v32, angle, pre]
  all_goals (intros; dsimp only; try omega)

theorem value (x : FVec Ideal S8192x1024 .f32) (p : IVec S8192 32) (g : FVec Ideal S1024 .f32) (w : FVec Ideal S1024x1536 .f32)
    (b : FVec Ideal S1x1536 .f32) :
    val_main_v71 (F := Ideal) x p g w b = Cert.QkvIdeal.Value.rotated x p g w b := by
  funext i
  idx_vars i
  have key : ∀ a d : Fin 1536, a.val = d.val →
      Cert.QkvIdeal.Value.rotatedAt x p g w b i0 a = Cert.QkvIdeal.Value.rotatedAt x p g w b i0 d := fun a d e => congrArg _ (Fin.ext e)
  have rest : ∀ e : Fin 1536, ¬e.val < 1280 →
      Cert.QkvIdeal.Value.flatPre x g w b i0 e = Cert.QkvIdeal.Value.rotatedAt x p g w b i0 e := fun e he => by
    unfold Cert.QkvIdeal.Value.rotatedAt
    rw [dif_neg he]
  pointwise [val_main_v71, val_main_v70, val_main_v69, val_main_v52, queries, keys, pre, Cert.QkvIdeal.Value.rotated]
  have bound : i1.val < 1536 := i1.isLt
  by_cases hq : i1.val < 1024
  · rw [dif_pos hq]
    refine key _ _ ?_
    dsimp only
    omega
  · rw [dif_neg hq]
    by_cases hk : i1.val - 1024 < 256
    · rw [dif_pos hk]
      refine key _ _ ?_
      dsimp only
      omega
    · rw [dif_neg hk, rest _ (by dsimp only; omega)]
      refine key _ _ ?_
      dsimp only
      omega

end Cert.QkvRefIdeal.Read

namespace Cert.Proof

theorem algebraic_qkv : Cert.algebraic_QkvIdeal_QkvRefIdeal := by
  pair_intro
  · run_from Cert.QkvIdeal.Gen.run_main m g
    · exact Cert.QkvIdeal.Gen.V_main_arg1 m c
    · exact Cert.QkvIdeal.Gen.V_main_arg2 m c
    · exact Cert.QkvIdeal.Gen.V_main_arg3 m c
  · refine (θ_run Cert.QkvRefIdeal.defs _ _).mono (fun r h c => ?_) (Cert.QkvRefIdeal.Value.run (F := Ideal) m' g')
    obtain ⟨a0, a1, a2, a3, a4⟩ := hagree c
    obtain ⟨h0, h1, hr⟩ := h c
    refine ⟨?_, ?_, hr⟩
    · have e := (Cert.QkvIdeal.Value.final5 m c).symm
      rw [← a0, ← a1, ← a2, ← a3, ← a4] at e
      exact h0.trans ((Cert.QkvRefIdeal.Read.val_main_v71_eq (F := Ideal) m' c).trans ((Cert.QkvRefIdeal.Read.value _ _ _ _ _).trans e))
    · have e := (Cert.QkvIdeal.Value.final6 m c).symm
      rw [← a0, ← a2] at e
      exact h1.trans ((Cert.QkvRefIdeal.Read.val_main_v72_eq (F := Ideal) _ _).trans ((Cert.QkvRefIdeal.Read.value_norm _ _).trans e))

end Cert.Proof

end
-- ==== Proof.Softmax.lean ====
/-
  One query of the windowed attention with a sink.

  A row of scores `s` over 256 keys holds `⊥` at the masked keys and reals elsewhere; `z` is the
  sink's score.  Everything below is one query, whatever array its scores were read from.
-/
module

public import proofs.«01_k».proof.Proof.NormGrad
public import Idealize.ShloMosaic.Lib.Pointwise
public import Idealize.ShloMosaic.Lib.Pipeline.ValueKit
public import Idealize.ShloMosaic.Lib.WordCmp
public import Idealize.ShloMosaic.Lib.Claim

@[expose] public section

noncomputable section

open Idealize.ShloMosaic Idealize.ShloMosaic.TcCoe Idealize.SL.Sem

namespace Cert.Softmax

theorem neg_inf : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee, -EReal.coe_mul, -EReal.coe_neg]; norm_num

variable {n : Nat}

/-- The largest score of the query, the sink's among them. -/
def top (s : Fin n → EReal) (z : EReal) : EReal := max (Finset.fold max ⊥ s Finset.univ) z

/-- A key's weight before normalisation. -/
def wt (s : Fin n → EReal) (z : EReal) (k : Fin n) : EReal := Ideal.exp (s k - top s z)

/-- The sum of the weights, the sink's among them. -/
def den (s : Fin n → EReal) (z : EReal) : EReal := (∑ k, wt s z k) + Ideal.exp (z - top s z)

/-- A key's normalised weight. -/
def prob (s : Fin n → EReal) (z : EReal) (k : Fin n) : EReal := Ideal.div (wt s z k) (den s z)

/-- A masked score or a real one. -/
def Score (a : EReal) : Prop := a = ⊥ ∨ ∃ r : ℝ, a = r

theorem Score.max {a b : EReal} (ha : Score a) (hb : Score b) : Score (max a b) := by
  rcases max_choice a b with h | h <;> rw [h] <;> assumption

theorem Score.coe (r : ℝ) : Score r := Or.inr ⟨r, rfl⟩

theorem fold_score (s : Fin n → EReal) (hs : ∀ k, Score (s k)) (t : Finset (Fin n)) : Score (Finset.fold Max.max ⊥ s t) := by
  induction t using Finset.induction_on with
  | empty => exact Or.inl rfl
  | insert a t ha ih => rw [Finset.fold_insert ha]; exact (hs a).max ih

theorem fold_ne_top (s : Fin n → EReal) (hs : ∀ k, Score (s k)) (t : Finset (Fin n)) : Finset.fold Max.max ⊥ s t ≠ ⊤ := by
  rcases fold_score s hs t with h | ⟨r, h⟩ <;> rw [h] <;> simp

theorem top_real (s : Fin n → EReal) (hs : ∀ k, Score (s k)) (z : ℝ) : ∃ r : ℝ, top s z = r := by
  rcases (fold_score s hs Finset.univ).max (Score.coe z) with h | h
  · have : (z : EReal) ≤ ⊥ := h ▸ le_max_right _ _
    exact absurd this (by simp)
  · exact h

theorem wt_real (s : Fin n → EReal) (hs : ∀ k, Score (s k)) (z : ℝ) (k : Fin n) :
    ∃ r : ℝ, 0 ≤ r ∧ wt s z k = r := by
  obtain ⟨t, ht⟩ := top_real s hs z
  unfold wt; rw [ht]
  rcases hs k with h | ⟨r, h⟩
  · exact ⟨0, le_rfl, by rw [h, EReal.bot_sub]; exact Ideal.exp_bot⟩
  · exact ⟨Real.exp (r - t), (Real.exp_pos _).le, by rw [h, ← EReal.coe_sub]; exact Ideal.exp_coe _⟩

theorem sink_real (s : Fin n → EReal) (hs : ∀ k, Score (s k)) (z : ℝ) :
    ∃ r : ℝ, 0 < r ∧ Ideal.exp ((z : EReal) - top s z) = r := by
  obtain ⟨t, ht⟩ := top_real s hs z
  exact ⟨Real.exp (z - t), Real.exp_pos _, by rw [ht, ← EReal.coe_sub]; exact Ideal.exp_coe _⟩

theorem coe_sum {ι : Type*} (t : Finset ι) (w : ι → ℝ) : ((∑ k ∈ t, w k : ℝ) : EReal) = ∑ k ∈ t, (w k : EReal) := by
  classical
  induction t using Finset.induction_on with
  | empty => simp
  | insert a t ha ih => rw [Finset.sum_insert ha, Finset.sum_insert ha, EReal.coe_add, ih]

theorem den_real (s : Fin n → EReal) (hs : ∀ k, Score (s k)) (z : ℝ) : ∃ r : ℝ, 0 < r ∧ den s z = r := by
  choose w hw hw' using wt_real s hs z
  obtain ⟨e, he, he'⟩ := sink_real s hs z
  refine ⟨(∑ k, w k) + e, add_pos_of_nonneg_of_pos (Finset.sum_nonneg fun k _ => hw k) he, ?_⟩
  unfold den; rw [he', EReal.coe_add, coe_sum]
  simp only [hw']

theorem div_real (a b : ℝ) (hb : 0 < b) : Ideal.div (a : EReal) b = ((a / b : ℝ) : EReal) := by
  unfold Ideal.div
  rw [if_neg (by exact_mod_cast hb.ne'), ← EReal.coe_inv, ← EReal.coe_mul, div_eq_mul_inv]

theorem prob_real (s : Fin n → EReal) (hs : ∀ k, Score (s k)) (z : ℝ) (k : Fin n) :
    ∃ r : ℝ, 0 ≤ r ∧ prob s z k = r := by
  obtain ⟨w, hw, hw'⟩ := wt_real s hs z k
  obtain ⟨d, hd, hd'⟩ := den_real s hs z
  exact ⟨w / d, div_nonneg hw hd.le, by unfold prob; rw [hw', hd', div_real w d hd]⟩

/-- The weight times the reciprocal of the sum. -/
theorem wt_mul (s : Fin n → EReal) (hs : ∀ k, Score (s k)) (z : ℝ) (k : Fin n) :
    wt s z k * Ideal.div 1 (den s z) = prob s z k := by
  obtain ⟨w, hw, hw'⟩ := wt_real s hs z k
  obtain ⟨d, hd, hd'⟩ := den_real s hs z
  have h1 := div_real 1 d hd
  rw [EReal.coe_one] at h1
  unfold prob; rw [hw', hd', div_real w d hd, h1, ← EReal.coe_mul, mul_one_div]

/-- A masked key has no weight. -/
theorem prob_masked (s : Fin n → EReal) (hs : ∀ k, Score (s k)) (z : ℝ) (k : Fin n) (hk : s k = ⊥) : prob s z k = 0 := by
  obtain ⟨d, hd, hd'⟩ := den_real s hs z
  unfold prob wt
  have h0 := div_real 0 d hd
  rw [zero_div, EReal.coe_zero] at h0
  rw [hk, EReal.bot_sub, Ideal.exp_bot, hd', h0]

end Cert.Softmax

/-! ## The attention of one layer, its array read at (token, feature) -/

namespace Cert.Attention

open Cert.Softmax

/-- The query `qi` of block `n` sees the key `kj` of its band: the block before it, then its own. -/
def Sees (n qi kj : Nat) : Prop := kj ≤ qi + 128 ∧ qi < kj ∧ (n = 0 → 128 ≤ kj)

instance (n qi kj) : Decidable (Sees n qi kj) := by unfold Sees; infer_instance

/-- The mask as the programs compute it, on words. -/
theorem sees_word (a : Nat) (kj : Fin 256) (qi : Fin 128) :
    IntOp.andi (IntOp.andi (IntOp.cmpi .sge (IntOp.subi (IntOp.addi (BitVec.ofNat 32 qi.val) 128#32) (BitVec.ofNat 32 kj.val)) 0#32)
      (IntOp.cmpi .slt (IntOp.subi (IntOp.addi (BitVec.ofNat 32 qi.val) 128#32) (BitVec.ofNat 32 kj.val)) 128#32))
      (BitVec.ofBool (decide (a = 0 → 128 ≤ kj.val))) = BitVec.ofBool (decide (Sees a qi kj)) := by
  have hk := kj.isLt
  have hq := qi.isLt
  have e1 : IntOp.addi (BitVec.ofNat 32 qi.val) 128#32 = BitVec.ofNat 32 (qi.val + 128) := by
    apply BitVec.eq_of_toNat_eq; simp [IntOp.addi]
  rw [e1]
  by_cases hle : kj.val ≤ qi.val + 128
  · have e4 : IntOp.subi (BitVec.ofNat 32 (qi.val + 128)) (BitVec.ofNat 32 kj.val) = BitVec.ofNat 32 (qi.val + 128 - kj.val) := by
      apply BitVec.eq_of_toNat_eq; simp [IntOp.subi]; omega
    rw [e4]
    have e5 : IntOp.cmpi .sge (BitVec.ofNat 32 (qi.val + 128 - kj.val)) 0#32 = BitVec.ofBool true := by
      rw [show (0#32) = BitVec.ofNat 32 0 from rfl]; simp (disch := omega) only [hlo_ix]; simp
    have e6 : IntOp.cmpi .slt (BitVec.ofNat 32 (qi.val + 128 - kj.val)) 128#32 = BitVec.ofBool (decide (qi.val < kj.val)) := by
      rw [show (128#32) = BitVec.ofNat 32 128 from rfl]; simp (disch := omega) only [hlo_ix]; congr 2; apply propext; omega
    rw [e5, e6, show decide (Sees a qi kj) = (decide (qi.val < kj.val) && decide (a = 0 → 128 ≤ kj.val)) from by
      unfold Sees; rw [← Bool.decide_and]; simp only [hle, true_and]]
    generalize decide (qi.val < kj.val) = u
    generalize decide (a = 0 → 128 ≤ kj.val) = v
    cases u <;> cases v <;> rfl
  · have e5 : IntOp.cmpi .sge (IntOp.subi (BitVec.ofNat 32 (qi.val + 128)) (BitVec.ofNat 32 kj.val)) 0#32 = BitVec.ofBool false := by
      have e4 : IntOp.subi (BitVec.ofNat 32 (qi.val + 128)) (BitVec.ofNat 32 kj.val) = BitVec.ofNat 32 (2 ^ 32 - (kj.val - qi.val - 128)) := by
        apply BitVec.eq_of_toNat_eq; simp [IntOp.subi]; omega
      rw [e4]
      obtain ⟨r, hr, hr'⟩ : ∃ r : Fin 128, 0 < r.val ∧ kj.val - qi.val - 128 = r.val := ⟨⟨kj.val - qi.val - 128, by omega⟩, by simp; omega, rfl⟩
      rw [hr']; revert hr; clear hr'; revert r; decide +kernel
    rw [e5]
    unfold Sees
    simp [hle, IntOp.andi]

/-- The features of one head: of a query, of a key and of a value. -/
def qcol (h g : Fin 4) (d : Fin 64) : Fin 1536 := ⟨256 * h.val + 64 * g.val + d.val, by omega⟩
def kcol (h : Fin 4) (d : Fin 64) : Fin 1536 := ⟨1024 + 64 * h.val + d.val, by omega⟩
def vcol (h : Fin 4) (d : Fin 64) : Fin 1536 := ⟨1280 + 64 * h.val + d.val, by omega⟩
def tok (n : Fin 64) (qi : Fin 128) : Fin 8192 := ⟨128 * n.val + qi.val, by omega⟩

/-- The keys (or values) of a block, zero before the first token. -/
def band (X : Fin 8192 → Fin 1536 → EReal) (n : Fin 64) (col : Fin 1536) (kj : Fin 256) : EReal :=
  if h : 128 ≤ 128 * n.val + kj.val then X ⟨128 * n.val + kj.val - 128, by omega⟩ col else 0

/-- A query's scores. -/
def score (X : Fin 8192 → Fin 1536 → EReal) (n : Fin 64) (qi : Fin 128) (h g : Fin 4) (kj : Fin 256) : EReal :=
  if Sees n qi kj then (∑ d, band X n (kcol h d) kj * X (tok n qi) (qcol h g d)) * Ideal.ofBits .f32 0x3E000000#32 else ⊥

/-- One output feature of one query. -/
def out (X : Fin 8192 → Fin 1536 → EReal) (S : Fin 4 → Fin 4 → EReal) (n : Fin 64) (qi : Fin 128) (h g : Fin 4) (d : Fin 64) : EReal :=
  ∑ kj, band X n (vcol h d) kj * prob (score X n qi h g) (S h g) kj

end Cert.Attention

end
-- ==== Proof.AttnValue.lean ====
/-
  Sliding-window attention with sinks (attn_fwd).
-/
module

public import proofs.«01_k».proof.Proof.Gen.AttnIdeal.Value
public import proofs.«01_k».proof.Proof.Softmax
public import Idealize.ShloMosaic.Lib.WordCmp
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

variable (m : (ℓ : Loc nD τ sig) → Buf (Elt Ideal) ℓ)

open Cert.Softmax Cert.Attention

/-- The 256 keys (or values) of a block: the previous block's rows, then the block's own. -/
def blockBand (a b : FVec Ideal S128x256 .f32) (kj : Fin 256) (c : Fin 256) : EReal :=
  if h : kj.val < 128 then a (ix2 ⟨kj.val, h⟩ c) else b (ix2 ⟨kj.val - 128, by omega⟩ c)

/-- A query's scores against its band, masked. -/
def scores (n qi : Nat) (B : Fin 256 → Fin 64 → EReal) (q : Fin 64 → EReal) (kj : Fin 256) : EReal :=
  if Sees n qi kj then ∑ d, B kj d * (q d * Ideal.ofBits .f32 0x3E000000#32) else ⊥

/-- One output of one query: its values weighted. -/
def outAt (n qi : Nat) (B C : Fin 256 → Fin 64 → EReal) (q : Fin 64 → EReal) (z : EReal) (d : Fin 64) : EReal :=
  ∑ kj, C kj d * (wt (scores n qi B q) z kj * Ideal.div 1 (den (scores n qi B q) z))

/-- What one grid point stores. -/
def blockOut (n : Nat) (x0 : FVec Ideal S128x1024 .f32) (x1 x2 x3 x4 : FVec Ideal S128x256 .f32) (x5 : FVec Ideal S1x16 .f32)
    (i : Fin 128) (j : Fin 1024) : EReal :=
  outAt n i (fun kj d => blockBand x1 x2 kj ⟨64 * (j.val / 256) + d.val, by omega⟩) (fun kj d => blockBand x3 x4 kj ⟨64 * (j.val / 256) + d.val, by omega⟩)
    (fun d => x0 (ix2 i ⟨64 * (j.val / 64) + d.val, by omega⟩)) (x5 (ix2 0 ⟨j.val / 64, by omega⟩)) ⟨j.val % 64, by omega⟩

theorem low_word (i : Fin 128) : Scalar.cmpi .slt (BitVec.ofNat 32 i.val) 64#32 = BitVec.ofBool (decide (i.val < 64)) := by
  revert i; decide +kernel

theorem sum_halves (g : Fin 128 → EReal) : (∑ x, g x) = (∑ d : Fin 64, g ⟨d.val, by omega⟩) + ∑ d : Fin 64, g ⟨64 + d.val, by omega⟩ :=
  Fin.sum_univ_add (a := 64) (b := 64) g

theorem mask_word (n : grid0.Coords) (kj : Fin 256) (qi : Fin 128) :
    k0_pay3 n (ix2 kj qi) = BitVec.ofBool (decide (Sees (n 0).val qi kj)) := by
  have hn : (n 0).val < 64 := (n 0).isLt
  pointwise [k0_pay3]
  generalize (n 0).val = a at *
  have hk := kj.isLt
  have hq := qi.isLt
  have e2 : Scalar.select (Scalar.cmpi .sgt (BitVec.ofNat 32 a) 0#32) 0#32 128#32 = BitVec.ofNat 32 (if a = 0 then 128 else 0) := by
    rcases Nat.eq_zero_or_pos a with h | h
    · subst h; rfl
    · rw [show Scalar.cmpi .sgt (BitVec.ofNat 32 a) 0#32 = 1#1 from by revert hn h; revert a; decide]
      rw [if_neg (by omega)]; rfl
  rw [e2]
  have e3 : IntOp.cmpi .sge (BitVec.ofNat 32 kj.val) (BitVec.ofNat 32 (if a = 0 then 128 else 0)) = BitVec.ofBool (decide (a = 0 → 128 ≤ kj.val)) := by
    rcases Nat.eq_zero_or_pos a with h | h
    · rw [if_pos h]; simp (disch := omega) only [hlo_ix]; simp [h]
    · rw [if_neg (by omega)]; simp (disch := omega) only [hlo_ix]; simp [show a ≠ 0 by omega]
  rw [e3]
  exact sees_word a kj qi

theorem low_half (d : Fin 64) : IntOp.cmpi .slt (BitVec.ofNat 32 d.val) 64#32 = 1#1 := by revert d; decide +kernel
theorem high_half (d : Fin 64) : IntOp.cmpi .slt (BitVec.ofNat 32 (64 + d.val)) 64#32 = 0#1 := by revert d; decide +kernel

theorem score_low (k : FVec Ideal S256x128 .bf16) (q : Vec Ideal S128x128 .f32) (kj qi) : k0_pay19 k0_pay4 k q (ix2 kj qi)
    = ∑ d : Fin 64, k (ix2 kj ⟨d.val, by omega⟩) * (q (ix2 qi ⟨d.val, by omega⟩) * Ideal.ofBits .f32 0x3E000000#32) := by
  pointwise [k0_pay19, k0_pay4]
  erw [sum_halves]
  simp only [low_half, high_half]
  simp [Scalar.select]

theorem score_high (k : FVec Ideal S256x128 .bf16) (q : Vec Ideal S128x128 .f32) (kj qi) : k0_pay20 k0_pay4 k q (ix2 kj qi)
    = ∑ d : Fin 64, k (ix2 kj ⟨64 + d.val, by omega⟩) * (q (ix2 qi ⟨64 + d.val, by omega⟩) * Ideal.ofBits .f32 0x3E000000#32) := by
  pointwise [k0_pay20, k0_pay4]
  erw [sum_halves]
  simp only [low_half, high_half]
  simp [Scalar.select, IntOp.xori]

theorem mask_bot : Named.named (F := Ideal) κ "mask" (φ := .f32) 4048155338#32 = (⊥ : EReal) :=
  IdealRules.named_const.ideal_named_scalar _ _ _ _ rfl

theorem weights (n : grid0.Coords) (s : FVec Ideal S256x128 .f32) (z : EReal) (kj qi) : k0_pay22 (k0_pay3 n) s z (ix2 kj qi)
    = wt (fun k => if Sees (n 0).val qi k then s (ix2 k qi) else ⊥) z kj
      * Ideal.div 1 (den (fun k => if Sees (n 0).val qi k then s (ix2 k qi) else ⊥) z) := by
  have e : ∀ k, Scalar.select (k0_pay3 n (ix2 k qi)) (s (ix2 k qi)) (Named.named κ "mask" 4048155338#32)
      = if Sees (n 0).val qi k then s (ix2 k qi) else ⊥ := by
    intro k
    rw [mask_word]
    by_cases h : Sees (n 0).val qi k
    · simp [h, Scalar.select]
    · simp only [h, decide_false, if_false]; exact mask_bot
  generalize k0_pay3 n = v at *
  pointwise [k0_pay22]
  simp only [e, neg_inf]
  rfl

/-- One column tile: two heads of one key head, the first in the low lanes. -/
theorem tile (n : grid0.Coords) (B C : Fin 256 → Fin 64 → EReal) (klo khi : FVec Ideal S256x128 .bf16) (vlo vhi : FVec Ideal S128x256 .bf16)
    (q : Vec Ideal S128x128 .f32) (z z' : EReal)
    (hk : ∀ kj (d : Fin 64), klo (ix2 kj ⟨d.val, by omega⟩) = B kj d) (hk' : ∀ kj (d : Fin 64), khi (ix2 kj ⟨64 + d.val, by omega⟩) = B kj d)
    (hv : ∀ kj (d : Fin 64), vlo (ix2 ⟨d.val, by omega⟩ kj) = C kj d) (hv' : ∀ kj (d : Fin 64), vhi (ix2 ⟨64 + d.val, by omega⟩ kj) = C kj d)
    (i j : Fin 128) :
    k0_pay33 k0_pay5 vlo vhi (k0_pay22 (k0_pay3 n) (k0_pay19 k0_pay4 klo q) z) (k0_pay22 (k0_pay3 n) (k0_pay20 k0_pay4 khi q) z') (ix2 i j)
      = outAt (n 0).val i B C (fun d => q (ix2 i ⟨64 * (j.val / 64) + d.val, by omega⟩)) (if j.val < 64 then z else z') ⟨j.val % 64, by omega⟩ := by
  have hw : ∀ kj, k0_pay22 (k0_pay3 n) (k0_pay19 k0_pay4 klo q) z (ix2 kj i) = _ := fun kj => weights n _ z kj i
  have hw' : ∀ kj, k0_pay22 (k0_pay3 n) (k0_pay20 k0_pay4 khi q) z' (ix2 kj i) = _ := fun kj => weights n _ z' kj i
  simp only [score_low, score_high, hk, hk'] at hw hw'
  generalize k0_pay22 (k0_pay3 n) (k0_pay19 k0_pay4 klo q) z = p at *
  generalize k0_pay22 (k0_pay3 n) (k0_pay20 k0_pay4 khi q) z' = p' at *
  pointwise [k0_pay33, k0_pay5]
  simp only [hw, hw']
  rw [show IntOp.cmpi .slt (BitVec.ofNat 32 j.val) 64#32 = _ from low_word j]
  by_cases h : j.val < 64
  · have h0 : j.val / 64 = 0 := by omega
    simp only [h, decide_true, if_true, h0]
    have e : ∀ kj, vlo (ix2 j kj) = C kj ⟨j.val % 64, by omega⟩ := fun kj => by
      rw [← hv]; congr 2; exact Fin.ext (by show j.val = j.val % 64; omega)
    simp only [e]
    unfold outAt scores
    simp only [Nat.mul_zero, Nat.zero_add]
    rfl
  · have h0 : j.val / 64 = 1 := by omega
    simp only [h, decide_false, if_false, h0]
    have e : ∀ kj, vhi (ix2 j kj) = C kj ⟨j.val % 64, by omega⟩ := fun kj => by
      rw [← hv']; congr 2; exact Fin.ext (by show j.val = 64 + j.val % 64; omega)
    simp only [e]
    unfold outAt scores
    simp only [Nat.mul_one]
    rfl

set_option maxHeartbeats 4000000 in
theorem point (c : Dev nD) (t : Fin cfg0.N) (i : Fin 128) (j : Fin 1024) : outsAt0 m c t (ix2 i j)
    = blockOut (grid0.coords t 0).val (X0_0 m c t) (iblk m c 1 t) (iblk m c 2 t) (iblk m c 3 t) (iblk m c 4 t) (iblk m c 5 t) i j := by
  unfold outsAt0
  generalize X0_0 m c t = b0, iblk m c 1 t = b1, iblk m c 2 t = b2, iblk m c 3 t = b3, iblk m c 4 t = b4, iblk m c 5 t = b5
  generalize hy : (ix2 i j : S128x1024.Idx) = y
  unfold out0_A_6
  frame_out
  canon_tiles x h
  all_goals
    subst hy
    idx_vars x
    refine (tile (grid0.coords t) (fun kj d => blockBand b1 b2 kj ⟨64 * (j.val / 256) + d.val, by omega⟩) (fun kj d => blockBand b3 b4 kj ⟨64 * (j.val / 256) + d.val, by omega⟩)
      _ _ _ _ _ _ _ ?_ ?_ ?_ ?_ _ _).trans ?_
  all_goals try
    intro kj d
    pointwise [k0_pay8, k0_pay9, k0_pay10, k0_pay11, k0_pay12, k0_pay13, k0_pay14, k0_pay15, k0_pay16, k0_pay17, k0_pay18, k0_pay6, k0_pay7, blockBand]
    by_cases hkj : kj.val < 128 <;> simp only [hkj, dite_true, dite_false] <;> blk_ext []
  all_goals
    unfold blockOut
    congr 1
    · exact h0.symm
    · funext d; pointwise []; blk_ext []
    · split_ifs <;> pointwise [] <;> blk_ext []
    · exact Fin.ext (by show x1.val % 64 = j.val % 64; omega)

end Cert.AttnIdeal.Value

end
-- ==== Proof.AttnRef.lean ====
/-
  The reference of the attention, read at one query.
-/
module

public import proofs.«01_k».proof.Proof.Gen.AttnRefIdeal.Read
public import proofs.«01_k».proof.Proof.Softmax
public import Idealize.ShloMosaic.Lib.WordCmp
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnRefIdeal.Read

open Cert.AttnRefIdeal Cert.AttnRefIdeal.Gen Cert.Softmax Cert.Attention

/-- The array at (token, feature), and the sinks by key head and group. -/
def at3 (x : FVec Ideal S1x8192x1536 .f32) (r : Fin 8192) (c : Fin 1536) : EReal := x (ix3 0 r c)
def at2 (x : FVec Ideal S1x16 .f32) (h g : Fin 4) : EReal := x (ix2 0 ⟨4 * h.val + g.val, by omega⟩)

variable (x : FVec Ideal S1x8192x1536 .f32) (z : FVec Ideal S1x16 .f32)

theorem ref_q (n : Fin 64) (i : Fin 128) (h g : Fin 4) (d : Fin 64) : val_main_v6 (F := Ideal) x (ix6 0 n i h g d) = at3 x (tok n i) (qcol h g d) := by
  pointwise [val_main_v0, val_main_v1, val_main_v6, at3, tok, qcol]
  blk_ext []

theorem ref_k (n : Fin 64) (kj : Fin 256) (h : Fin 4) (d : Fin 64) : val_main_v12 (F := Ideal) x (ix5 0 n kj h d) = band (at3 x) n (kcol h d) kj := by
  pointwise [val_main_v2, val_main_v3, val_main_v7, val_main_v8, val_main_v9, val_main_v10, val_main_v11, val_main_v12, val_main_cst, at3, band, kcol]
  by_cases h1 : kj.val < 128
  · by_cases h2 : n.val * 128 + kj.val < 128
    · rw [dif_pos h1, dif_pos h2, dif_neg (by omega)]
    · rw [dif_pos h1, dif_neg h2, dif_pos (by omega)]; blk_ext []
  · rw [dif_neg h1, dif_neg (by omega), dif_pos (by omega)]; blk_ext []

theorem ref_v (n : Fin 64) (kj : Fin 256) (h : Fin 4) (d : Fin 64) : val_main_v18 (F := Ideal) x (ix5 0 n kj h d) = band (at3 x) n (vcol h d) kj := by
  pointwise [val_main_v4, val_main_v5, val_main_v13, val_main_v14, val_main_v15, val_main_v16, val_main_v17, val_main_v18, val_main_cst_0, at3, band, vcol]
  by_cases h1 : kj.val < 128
  · by_cases h2 : n.val * 128 + kj.val < 128
    · rw [dif_pos h1, dif_pos h2, dif_neg (by omega)]
    · rw [dif_pos h1, dif_neg h2, dif_pos (by omega)]; blk_ext []
  · rw [dif_neg h1, dif_neg (by omega), dif_pos (by omega)]; blk_ext []

theorem ref_mask (n : Fin 64) (i : Fin 128) (kj : Fin 256) : val_main_v53 (F := Ideal) (ix6 0 n 0 0 i kj) = BitVec.ofBool (decide (Sees n i kj)) := by
  pointwise [val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_c, val_main_c_2, val_main_c_3, val_main_c_4, val_main_c_5, val_main_c_6]
  have hn := n.isLt
  have hk := kj.isLt
  have e : IntOp.cmpi .sge (IntOp.subi (IntOp.addi (IntOp.muli (BitVec.ofNat 32 n.val) 128#32) (BitVec.ofNat 32 kj.val)) 128#32) 0#32
      = BitVec.ofBool (decide (n.val = 0 → 128 ≤ kj.val)) := by
    by_cases h : 128 ≤ n.val * 128 + kj.val
    · have e1 : IntOp.subi (IntOp.addi (IntOp.muli (BitVec.ofNat 32 n.val) 128#32) (BitVec.ofNat 32 kj.val)) 128#32 = BitVec.ofNat 32 (n.val * 128 + kj.val - 128) := by
        apply BitVec.eq_of_toNat_eq; simp [IntOp.subi, IntOp.addi, IntOp.muli]; omega
      rw [e1, show (0#32) = BitVec.ofNat 32 0 from rfl]
      simp (disch := omega) only [hlo_ix]
      congr 2; apply propext; omega
    · have e1 : IntOp.subi (IntOp.addi (IntOp.muli (BitVec.ofNat 32 n.val) 128#32) (BitVec.ofNat 32 kj.val)) 128#32 = BitVec.ofNat 32 (2 ^ 32 - (128 - kj.val)) := by
        apply BitVec.eq_of_toNat_eq; simp [IntOp.subi, IntOp.addi, IntOp.muli]; omega
      rw [e1, show decide (n.val = 0 → 128 ≤ kj.val) = false from decide_eq_false (by omega)]
      obtain ⟨r, hr⟩ : ∃ r : Fin 128, kj.val = r.val := ⟨⟨kj.val, by omega⟩, rfl⟩
      rw [hr]; clear hr; revert r; decide +kernel
  rw [e]
  exact sees_word n.val kj i

theorem ref_score (n : Fin 64) (i : Fin 128) (h g : Fin 4) (kj : Fin 256) : val_main_v54 (F := Ideal) x (ix6 0 n h g i kj) = score (at3 x) n i h g kj := by
  pointwise [val_main_v54, val_main_v22, val_main_v21, val_main_v20, val_main_v19, val_main_call0_v0, val_main_call0_v1, val_main_call0_v2, val_main_cst_7, val_main_cst_1]
  simp only [ref_mask, ref_k, ref_q]
  unfold score
  by_cases hs : Sees n i kj
  · rw [if_pos hs]; simp only [hs, decide_true]; rfl
  · rw [if_neg hs]; simp only [hs, decide_false]; exact neg_inf

theorem ref_fold (n : Fin 64) (i : Fin 128) (h g : Fin 4) : val_main_v56 (F := Ideal) x (ix5 0 n h g i) = Finset.fold max ⊥ (score (at3 x) n i h g) Finset.univ := by
  have e := fun kj => ref_score x n i h g kj
  unfold val_main_v56
  generalize val_main_v54 (F := Ideal) x = a at *
  refine (Host.reduce_eq_fold_single (FloatOps.maximumf (F := Ideal) (φ := .f32)) a _ reducesTo_S1x64x4x4x128x256_S1x64x4x4x128_d5 (by decide) h_S_ _).trans ?_
  refine congrArg₂ (fun (b : EReal) (f : Fin 256 → EReal) => Finset.fold max b f Finset.univ) neg_inf (funext fun kj => ?_)
  exact (congrArg a (funext fun b => Fin.ext (by
    match b with | ⟨0, _⟩ => rfl | ⟨1, _⟩ => rfl | ⟨2, _⟩ => rfl | ⟨3, _⟩ => rfl | ⟨4, _⟩ => rfl | ⟨5, _⟩ => rfl))).trans (e kj)

theorem ref_sink (h g : Fin 4) : val_main_v55 (F := Ideal) z (ix6 0 0 h g 0 0) = at2 z h g := by
  pointwise [val_main_v55, at2]
  blk_ext []

theorem ref_top (n : Fin 64) (i : Fin 128) (h g : Fin 4) : val_main_v59 (F := Ideal) x z (ix6 0 n h g i 0) = top (score (at3 x) n i h g) (at2 z h g) := by
  have e := ref_fold x n i h g
  have e2 := ref_sink z h g
  rw [val_main_v59_apply, val_main_v57_apply, val_main_v58_apply]
  rw [show idx_main_v57 (ix6 0 n h g i 0) = ix5 0 n h g i from by funext b; match b with | ⟨0, _⟩ => rfl | ⟨1, _⟩ => rfl | ⟨2, _⟩ => rfl | ⟨3, _⟩ => rfl | ⟨4, _⟩ => rfl]
  rw [show idx_main_v58 (ix6 0 n h g i 0) = ix6 0 0 h g 0 0 from by funext b; match b with | ⟨0, _⟩ => rfl | ⟨1, _⟩ => rfl | ⟨2, _⟩ => rfl | ⟨3, _⟩ => rfl | ⟨4, _⟩ => rfl | ⟨5, _⟩ => rfl]
  rw [e, e2]
  exact Ideal.maximumf_def _ _

theorem ref_wt (n : Fin 64) (i : Fin 128) (h g : Fin 4) (kj : Fin 256) : val_main_v62 (F := Ideal) x z (ix6 0 n h g i kj) = wt (score (at3 x) n i h g) (at2 z h g) kj := by
  pointwise [val_main_v62, val_main_v61, val_main_v60]
  rw [ref_score, ref_top]
  rfl

theorem ref_sum (n : Fin 64) (i : Fin 128) (h g : Fin 4) : val_main_v63 (F := Ideal) x z (ix5 0 n h g i) = ∑ kj, wt (score (at3 x) n i h g) (at2 z h g) kj := by
  rw [val_main_v63_apply]
  rw [show (val_main_cst_9 (F := Ideal)) (Shape.Idx.first h_S_) = (0 : EReal) from by pointwise [val_main_cst_9], zero_add]
  exact Finset.sum_congr rfl fun kj _ => (congrArg (val_main_v62 (F := Ideal) x z) (by funext b; match b with | ⟨0, _⟩ => rfl | ⟨1, _⟩ => rfl | ⟨2, _⟩ => rfl | ⟨3, _⟩ => rfl | ⟨4, _⟩ => rfl | ⟨5, _⟩ => rfl)).trans (ref_wt x z n i h g kj)

theorem ref_prob (n : Fin 64) (i : Fin 128) (h g : Fin 4) (kj : Fin 256) : val_main_v70 (F := Ideal) x z (ix6 0 n h g i kj) = prob (score (at3 x) n i h g) (at2 z h g) kj := by
  have e1 := ref_wt x z n i h g kj
  have e2 := ref_sum x z n i h g
  have e3 := ref_top x z n i h g
  have e4 := ref_sink z h g
  unfold val_main_v70 val_main_v69 val_main_v68 val_main_v67 val_main_v66 val_main_v65 val_main_v64
  generalize val_main_v62 (F := Ideal) x z = a at *
  generalize val_main_v63 (F := Ideal) x z = b at *
  generalize val_main_v59 (F := Ideal) x z = c at *
  generalize val_main_v55 (F := Ideal) z = d at *
  pointwise []
  rw [e1, e2, e3, e4]
  rfl

theorem ref_out (n : Fin 64) (i : Fin 128) (h g : Fin 4) (d : Fin 64) :
    val_main_v75 (F := Ideal) x z (ix2 (tok n i) ⟨256 * h.val + 64 * g.val + d.val, by omega⟩) = out (at3 x) (at2 z) n i h g d := by
  pointwise [val_main_v71, val_main_v72, val_main_v73, val_main_v74, val_main_v75, tok]
  simp only [ref_v, ref_prob]
  rfl

end Cert.AttnRefIdeal.Read

end
-- ==== Proof.AttnEq.lean ====
/-
  The attention kernel's array is the reference's, for finite arguments.

  The blocks a grid point reads are put at their rows of the argument; the kernel's weights are then the
  softmax's, and its previous block agrees with the reference's wherever a query sees it.
-/
module

public import proofs.«01_k».proof.Proof.AttnValue
public import proofs.«01_k».proof.Proof.AttnRef
public import proofs.«01_k».proof.Proof.GateValue
public import proofs.«01_k».proof.Proof.Gen.Pre_finite_attention
public import proofs.«01_k».proof.Defs

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.Softmax Cert.Attention
open Cert.AttnRefIdeal.Read (at3 at2)

variable (m : (ℓ : Loc nD τ sig) → Buf (Elt Ideal) ℓ)

/-- Over reals, scaling the query first and normalising the weights first give the same output. -/
theorem outAt_eq (n qi : Nat) (B C B' C' : Fin 256 → Fin 64 → EReal) (q : Fin 64 → EReal) (z : ℝ) (d : Fin 64)
    (hB : ∀ kj : Fin 256, Sees n qi kj → B kj = B' kj) (hC : ∀ kj : Fin 256, Sees n qi kj → C kj = C' kj)
    (rB : ∀ kj d, ∃ r : ℝ, B' kj d = r) (rq : ∀ d, ∃ r : ℝ, q d = r) :
    outAt n qi B C q z d
      = ∑ kj, C' kj d * prob (fun kj : Fin 256 => if Sees n qi kj then (∑ d, B' kj d * q d) * Ideal.ofBits .f32 0x3E000000#32 else ⊥) z kj := by
  choose b hb using rB
  choose p hp using rq
  have hs : scores n qi B q = fun kj : Fin 256 => if Sees n qi kj then (((∑ d, b kj d * p d) * (1 / 8) : ℝ) : EReal) else ⊥ := by
    funext kj
    unfold scores
    by_cases h : Sees n qi kj
    · simp only [h, if_true, hB kj h, hb, hp, eighth, ← EReal.coe_mul, ← coe_sum]
      rw [Finset.sum_mul]
      exact congrArg _ (Finset.sum_congr rfl fun d _ => by ring)
    · simp only [h, if_false]
  have hr : (fun kj : Fin 256 => if Sees n qi kj then (∑ d, B' kj d * q d) * Ideal.ofBits .f32 0x3E000000#32 else ⊥)
      = fun kj : Fin 256 => if Sees n qi kj then (((∑ d, b kj d * p d) * (1 / 8) : ℝ) : EReal) else ⊥ := by
    funext kj
    simp only [hb, hp, eighth, ← EReal.coe_mul, ← coe_sum]
  unfold outAt
  rw [hs, hr]
  have hS : ∀ kj : Fin 256, Score (if Sees n qi kj then (((∑ d, b kj d * p d) * (1 / 8) : ℝ) : EReal) else ⊥) := by
    intro kj
    split_ifs
    · exact Or.inr ⟨_, rfl⟩
    · exact Or.inl rfl
  refine Finset.sum_congr rfl fun kj _ => ?_
  rw [wt_mul _ hS]
  by_cases h : Sees n qi kj
  · rw [hC kj h]
  · rw [prob_masked _ hS _ _ (if_neg h), mul_zero, mul_zero]

theorem idx : ∀ t : Fin cfg0.N, win0_0.index t = ![t.val, 0] ∧ win0_1.index t = ![t.val - 1, 4] ∧ win0_2.index t = ![t.val, 4]
    ∧ win0_3.index t = ![t.val - 1, 5] ∧ win0_4.index t = ![t.val, 5] ∧ win0_5.index t = ![0, 0] ∧ win0_6.index t = ![t.val, 0]
    ∧ (grid0.coords t 0).val = t.val :=
  (by decide +kernel : ∀ t : Fin grid0.N, _)

theorem blk_lt (t : Fin cfg0.N) : t.val < 64 := lt_of_lt_of_eq t.isLt N_0

theorem blk0 (c : Dev nD) (t : Fin cfg0.N) (i : Fin 128) (j : Fin 1024) : X0_0 m c t (ix2 i j)
    = at3 (m ((c : Thread nD τ).loc main_arg0)) ⟨128 * t.val + i.val, by have := blk_lt t; omega⟩ ⟨j.val, by omega⟩ := by
  unfold X0_0 Pipeline.Window.fill at3
  rw [dif_pos (moved0_0 t _)]
  blk_point [iblk, V, idx t]

theorem blk1 (c : Dev nD) (t : Fin cfg0.N) (i : Fin 128) (j : Fin 256) : iblk m c 1 t (ix2 i j)
    = at3 (m ((c : Thread nD τ).loc main_arg0)) ⟨128 * (t.val - 1) + i.val, by have := blk_lt t; omega⟩ ⟨1024 + j.val, by omega⟩ := by
  unfold at3
  blk_point [iblk, V, idx t]

theorem blk2 (c : Dev nD) (t : Fin cfg0.N) (i : Fin 128) (j : Fin 256) : iblk m c 2 t (ix2 i j)
    = at3 (m ((c : Thread nD τ).loc main_arg0)) ⟨128 * t.val + i.val, by have := blk_lt t; omega⟩ ⟨1024 + j.val, by omega⟩ := by
  unfold at3
  blk_point [iblk, V, idx t]

theorem blk3 (c : Dev nD) (t : Fin cfg0.N) (i : Fin 128) (j : Fin 256) : iblk m c 3 t (ix2 i j)
    = at3 (m ((c : Thread nD τ).loc main_arg0)) ⟨128 * (t.val - 1) + i.val, by have := blk_lt t; omega⟩ ⟨1280 + j.val, by omega⟩ := by
  unfold at3
  blk_point [iblk, V, idx t]

theorem blk4 (c : Dev nD) (t : Fin cfg0.N) (i : Fin 128) (j : Fin 256) : iblk m c 4 t (ix2 i j)
    = at3 (m ((c : Thread nD τ).loc main_arg0)) ⟨128 * t.val + i.val, by have := blk_lt t; omega⟩ ⟨1280 + j.val, by omega⟩ := by
  unfold at3
  blk_point [iblk, V, idx t]

theorem blk5 (c : Dev nD) (t : Fin cfg0.N) (j : Fin 16) : iblk m c 5 t (ix2 0 j) = m ((c : Thread nD τ).loc main_arg1) (ix2 0 j) := by
  blk_point [iblk, V, idx t]

/-- A seen key of the two blocks is the band's. -/
theorem band_key (c : Dev nD) (t : Fin cfg0.N) (qi : Nat) (kj : Fin 256) (h : Fin 4) (d : Fin 64) (hs : Sees t.val qi kj) :
    blockBand (iblk m c 1 t) (iblk m c 2 t) kj ⟨64 * h.val + d.val, by omega⟩
      = band (at3 (m ((c : Thread nD τ).loc main_arg0))) ⟨t.val, blk_lt t⟩ (kcol h d) kj := by
  have hn := blk_lt t
  obtain ⟨h1, h2, h3⟩ := hs
  unfold blockBand band
  rw [dif_pos (show 128 ≤ 128 * t.val + kj.val by rcases Nat.eq_zero_or_pos t.val with h0 | h0 <;> omega)]
  split_ifs with hk
  · rw [blk1]
    unfold kcol
    congr 1 <;> exact Fin.ext (by simp only; rcases Nat.eq_zero_or_pos t.val with h0 | h0 <;> omega)
  · rw [blk2]
    unfold kcol
    congr 1 <;> exact Fin.ext (by simp only; omega)

theorem band_val (c : Dev nD) (t : Fin cfg0.N) (qi : Nat) (kj : Fin 256) (h : Fin 4) (d : Fin 64) (hs : Sees t.val qi kj) :
    blockBand (iblk m c 3 t) (iblk m c 4 t) kj ⟨64 * h.val + d.val, by omega⟩
      = band (at3 (m ((c : Thread nD τ).loc main_arg0))) ⟨t.val, blk_lt t⟩ (vcol h d) kj := by
  have hn := blk_lt t
  obtain ⟨h1, h2, h3⟩ := hs
  unfold blockBand band
  rw [dif_pos (show 128 ≤ 128 * t.val + kj.val by rcases Nat.eq_zero_or_pos t.val with h0 | h0 <;> omega)]
  split_ifs with hk
  · rw [blk3]
    unfold vcol
    congr 1 <;> exact Fin.ext (by simp only; rcases Nat.eq_zero_or_pos t.val with h0 | h0 <;> omega)
  · rw [blk4]
    unfold vcol
    congr 1 <;> exact Fin.ext (by simp only; omega)

/-- What a grid point stores is the reference's output at its rows. -/
theorem block_eq (c : Dev nD) (t : Fin cfg0.N) (i : Fin 128) (h g : Fin 4) (d : Fin 64)
    (rx : ∀ i, ∃ r : ℝ, m ((c : Thread nD τ).loc main_arg0) i = (r : EReal)) (rz : ∀ i, ∃ r : ℝ, m ((c : Thread nD τ).loc main_arg1) i = (r : EReal)) :
    outsAt0 m c t (ix2 i ⟨256 * h.val + 64 * g.val + d.val, by omega⟩)
      = out (at3 (m ((c : Thread nD τ).loc main_arg0))) (at2 (m ((c : Thread nD τ).loc main_arg1))) ⟨t.val, blk_lt t⟩ i h g d := by
  rw [point, (idx t).2.2.2.2.2.2.2]
  unfold blockOut
  obtain ⟨z, hz⟩ := rz (ix2 0 ⟨4 * h.val + g.val, by omega⟩)
  have e1 : (256 * h.val + 64 * g.val + d.val) / 256 = h.val := by omega
  have e2 : (256 * h.val + 64 * g.val + d.val) / 64 = 4 * h.val + g.val := by omega
  have e3 : (⟨(256 * h.val + 64 * g.val + d.val) % 64, by omega⟩ : Fin 64) = d := Fin.ext (by show (256 * h.val + 64 * g.val + d.val) % 64 = d.val; omega)
  simp only [e1, e2, e3]
  have hz' : iblk m c 5 t (ix2 0 ⟨4 * h.val + g.val, by omega⟩) = (z : EReal) := (blk5 m c t _).trans hz
  have hq : (fun d : Fin 64 => X0_0 m c t (ix2 i ⟨64 * (4 * h.val + g.val) + d.val, by omega⟩))
      = fun d => at3 (m ((c : Thread nD τ).loc main_arg0)) (tok ⟨t.val, blk_lt t⟩ i) (qcol h g d) := by
    funext d
    rw [blk0]
    unfold tok qcol
    congr 1
    exact Fin.ext (by simp only; omega)
  rw [hz', hq]
  have rband : ∀ col kj, ∃ r : ℝ, band (at3 (m ((c : Thread nD τ).loc main_arg0))) ⟨t.val, blk_lt t⟩ col kj = r := by
    intro col kj
    unfold band
    split_ifs
    · exact rx _
    · exact ⟨0, rfl⟩
  refine (outAt_eq t.val i _ _ (fun kj d => band (at3 (m ((c : Thread nD τ).loc main_arg0))) ⟨t.val, blk_lt t⟩ (kcol h d) kj)
    (fun kj d => band (at3 (m ((c : Thread nD τ).loc main_arg0))) ⟨t.val, blk_lt t⟩ (vcol h d) kj) _ z d
    (fun kj hs => funext fun d => band_key m c t i kj h d hs) (fun kj hs => funext fun d => band_val m c t i kj h d hs)
    (fun kj d => rband _ _) (fun d => rx _)).trans ?_
  rw [← hz]
  rfl

theorem final6 (c : Dev nD)
    (rx : ∀ i, ∃ r : ℝ, m ((c : Thread nD τ).loc main_arg0) i = (r : EReal)) (rz : ∀ i, ∃ r : ℝ, m ((c : Thread nD τ).loc main_arg1) i = (r : EReal)) :
    (dats m 0 c).arrAt 6 (cfgs 0).N
      = Cert.AttnRefIdeal.Read.val_main_v75 (F := Ideal) (m ((c : Thread nD τ).loc main_arg0)) (m ((c : Thread nD τ).loc main_arg1)) := by
  refine (dats m 0 c).arrAt_eq_of_covers 6 _ (by decide +kernel) fun t _ y => ?_
  blk_simp
  rw [after0_6]
  idx_vars y
  have hn := blk_lt t
  have hy : y1 = ⟨256 * (y1.val / 256) + 64 * (y1.val / 64 % 4) + y1.val % 64, by omega⟩ := Fin.ext (by simp only; omega)
  have hb := block_eq m c t y0 ⟨y1.val / 256, by omega⟩ ⟨y1.val / 64 % 4, by omega⟩ ⟨y1.val % 64, by omega⟩ rx rz
  rw [← Cert.AttnRefIdeal.Read.ref_out] at hb
  refine ((congrArg (fun j => outsAt0 m c t (ix2 y0 j)) hy).trans hb).trans (congrArg _ ?_)
  unfold tok
  blk_ext [idx t]

end Cert.AttnIdeal.Value

namespace Cert.Proof

theorem algebraic_attn : Cert.algebraic_AttnIdeal_AttnRefIdeal_pre_finite_attention := by
  pair_intro
  · run_from Cert.AttnIdeal.Gen.run_main m g
  · run_from Cert.AttnRefIdeal.Value.run m' g'
    have rx := fun i => real_of_cmp (congrFun (hpre c).1 i)
    have rz := fun i => real_of_cmp (congrFun (hpre c).2 i)
    rw [Cert.AttnRefIdeal.Read.val_main_v75_eq]
    refine Eq.trans ?_ (Cert.AttnIdeal.Value.final6 m c rx rz).symm
    exact congrArg₂ Cert.AttnRefIdeal.Read.val_main_v75 (hagree c).1 (hagree c).2

end Cert.Proof

end
-- ==== Proof.lean ====
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.Gen.MlpIn
public import proofs.«01_k».proof.Proof.Gen.MlpIn.Skeleton
public import proofs.«01_k».proof.Proof.Gen.MlpIn.Launch
public import proofs.«01_k».proof.Proof.Gen.MlpIn.Points
public import proofs.«01_k».proof.Proof.Gen.MlpIn.Frame
public import proofs.«01_k».proof.Proof.Gen.MlpInIdeal
public import proofs.«01_k».proof.Proof.Gen.MlpInIdeal.Skeleton
public import proofs.«01_k».proof.Proof.Gen.MlpInIdeal.Launch
public import proofs.«01_k».proof.Proof.Gen.MlpInIdeal.Points
public import proofs.«01_k».proof.Proof.Gen.MlpInIdeal.Frame
public import proofs.«01_k».proof.Proof.Gen.MlpInRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.DwO
public import proofs.«01_k».proof.Proof.Gen.DwO.Skeleton
public import proofs.«01_k».proof.Proof.Gen.DwO.Launch
public import proofs.«01_k».proof.Proof.Gen.DwO.Points
public import proofs.«01_k».proof.Proof.Gen.DwO.Frame
public import proofs.«01_k».proof.Proof.Gen.DwOIdeal
public import proofs.«01_k».proof.Proof.Gen.DwOIdeal.Skeleton
public import proofs.«01_k».proof.Proof.Gen.DwOIdeal.Launch
public import proofs.«01_k».proof.Proof.Gen.DwOIdeal.Points
public import proofs.«01_k».proof.Proof.Gen.DwOIdeal.Frame
public import proofs.«01_k».proof.Proof.Gen.DwOIdeal.Value
public import proofs.«01_k».proof.Proof.Gen.DwORefIdeal
public import proofs.«01_k».proof.Proof.Gen.DwORefIdeal.Run
public import proofs.«01_k».proof.Proof.Gen.DwORefIdeal.Read
public import proofs.«01_k».proof.Proof.Gen.HgrnIn
public import proofs.«01_k».proof.Proof.Gen.HgrnIn.Skeleton
public import proofs.«01_k».proof.Proof.Gen.HgrnIn.Launch
public import proofs.«01_k».proof.Proof.Gen.HgrnIn.Points
public import proofs.«01_k».proof.Proof.Gen.HgrnIn.Frame
public import proofs.«01_k».proof.Proof.Gen.HgrnInIdeal
public import proofs.«01_k».proof.Proof.Gen.HgrnInIdeal.Skeleton
public import proofs.«01_k».proof.Proof.Gen.HgrnInIdeal.Launch
public import proofs.«01_k».proof.Proof.Gen.HgrnInIdeal.Points
public import proofs.«01_k».proof.Proof.Gen.HgrnInIdeal.Frame
public import proofs.«01_k».proof.Proof.Gen.HgrnInIdeal.Value
public import proofs.«01_k».proof.Proof.Gen.HgrnInRefIdeal
public import proofs.«01_k».proof.Proof.Gen.HgrnInRefIdeal.Run
public import proofs.«01_k».proof.Proof.Gen.HgrnInRefIdeal.Read
public import proofs.«01_k».proof.Proof.Gen.QkvBwd
public import proofs.«01_k».proof.Proof.Gen.QkvBwd.Skeleton
public import proofs.«01_k».proof.Proof.Gen.QkvBwd.Launch
public import proofs.«01_k».proof.Proof.Gen.QkvBwd.Points
public import proofs.«01_k».proof.Proof.Gen.QkvBwd.Frame
public import proofs.«01_k».proof.Proof.Gen.QkvBwdIdeal
public import proofs.«01_k».proof.Proof.Gen.QkvBwdIdeal.Skeleton
public import proofs.«01_k».proof.Proof.Gen.QkvBwdIdeal.Launch
public import proofs.«01_k».proof.Proof.Gen.QkvBwdIdeal.Points
public import proofs.«01_k».proof.Proof.Gen.QkvBwdIdeal.Frame
public import proofs.«01_k».proof.Proof.Gen.QkvBwdIdeal.Value
public import proofs.«01_k».proof.Proof.Gen.QkvBwdRefIdeal
public import proofs.«01_k».proof.Proof.Gen.QkvBwdRefIdeal.Run
public import proofs.«01_k».proof.Proof.Gen.QkvBwdRefIdeal.Read
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdIdeal.Value
public import proofs.«01_k».proof.Proof.Gen.OutBwdRefIdeal
public import proofs.«01_k».proof.Proof.Gen.OutBwdRefIdeal.Run
public import proofs.«01_k».proof.Proof.Gen.OutBwdRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.AdamQkv
public import proofs.«01_k».proof.Proof.Gen.AdamQkv.Skeleton
public import proofs.«01_k».proof.Proof.Gen.AdamQkv.Launch
public import proofs.«01_k».proof.Proof.Gen.AdamQkv.Points
public import proofs.«01_k».proof.Proof.Gen.AdamQkv.Frame
public import proofs.«01_k».proof.Proof.Gen.AdamQkvIdeal
public import proofs.«01_k».proof.Proof.Gen.AdamQkvIdeal.Skeleton
public import proofs.«01_k».proof.Proof.Gen.AdamQkvIdeal.Launch
public import proofs.«01_k».proof.Proof.Gen.AdamQkvIdeal.Points
public import proofs.«01_k».proof.Proof.Gen.AdamQkvIdeal.Frame
public import proofs.«01_k».proof.Proof.Gen.AdamQkvIdeal.Value
public import proofs.«01_k».proof.Proof.Gen.AdamQkvRefIdeal
public import proofs.«01_k».proof.Proof.Gen.AdamQkvRefIdeal.Run
public import proofs.«01_k».proof.Proof.Gen.AdamQkvRefIdeal.Read
public import proofs.«01_k».proof.Proof.Gen.AdamO
public import proofs.«01_k».proof.Proof.Gen.AdamO.Skeleton
public import proofs.«01_k».proof.Proof.Gen.AdamO.Launch
public import proofs.«01_k».proof.Proof.Gen.AdamO.Points
public import proofs.«01_k».proof.Proof.Gen.AdamO.Frame
public import proofs.«01_k».proof.Proof.Gen.AdamOIdeal
public import proofs.«01_k».proof.Proof.Gen.AdamOIdeal.Skeleton
public import proofs.«01_k».proof.Proof.Gen.AdamOIdeal.Launch
public import proofs.«01_k».proof.Proof.Gen.AdamOIdeal.Points
public import proofs.«01_k».proof.Proof.Gen.AdamOIdeal.Frame
public import proofs.«01_k».proof.Proof.Gen.AdamOIdeal.Value
public import proofs.«01_k».proof.Proof.Gen.AdamORefIdeal
public import proofs.«01_k».proof.Proof.Gen.AdamORefIdeal.Run
public import proofs.«01_k».proof.Proof.Gen.AdamORefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.HgrnOut
public import proofs.«01_k».proof.Proof.Gen.HgrnOut.Skeleton
public import proofs.«01_k».proof.Proof.Gen.HgrnOut.Launch
public import proofs.«01_k».proof.Proof.Gen.HgrnOut.Points
public import proofs.«01_k».proof.Proof.Gen.HgrnOut.Frame
public import proofs.«01_k».proof.Proof.Gen.HgrnOutIdeal
public import proofs.«01_k».proof.Proof.Gen.HgrnOutIdeal.Skeleton
public import proofs.«01_k».proof.Proof.Gen.HgrnOutIdeal.Launch
public import proofs.«01_k».proof.Proof.Gen.HgrnOutIdeal.Points
public import proofs.«01_k».proof.Proof.Gen.HgrnOutIdeal.Frame
public import proofs.«01_k».proof.Proof.Gen.HgrnOutIdeal.Value
public import proofs.«01_k».proof.Proof.Gen.HgrnOutRefIdeal
public import proofs.«01_k».proof.Proof.Gen.HgrnOutRefIdeal.Run
public import proofs.«01_k».proof.Proof.Gen.HgrnOutRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.DwQkv
public import proofs.«01_k».proof.Proof.Gen.DwQkv.Skeleton
public import proofs.«01_k».proof.Proof.Gen.DwQkv.Launch
public import proofs.«01_k».proof.Proof.Gen.DwQkv.Points
public import proofs.«01_k».proof.Proof.Gen.DwQkv.Frame
public import proofs.«01_k».proof.Proof.Gen.DwQkvIdeal
public import proofs.«01_k».proof.Proof.Gen.DwQkvIdeal.Skeleton
public import proofs.«01_k».proof.Proof.Gen.DwQkvIdeal.Launch
public import proofs.«01_k».proof.Proof.Gen.DwQkvIdeal.Points
public import proofs.«01_k».proof.Proof.Gen.DwQkvIdeal.Frame
public import proofs.«01_k».proof.Proof.Gen.DwQkvIdeal.Value
public import proofs.«01_k».proof.Proof.Gen.DwQkvRefIdeal
public import proofs.«01_k».proof.Proof.Gen.DwQkvRefIdeal.Run
public import proofs.«01_k».proof.Proof.Gen.DwQkvRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Pre_finite_cotangent
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_attention
public import proofs.«01_k».proof.Proof.Gen.GateIdeal.Value
public import proofs.«01_k».proof.Proof.Gen.ActIdeal.Value
public import proofs.«01_k».proof.Proof.Gen.MlpInIdeal.Value
public import proofs.«01_k».proof.Proof.Gen.GateRefIdeal.Run
public import proofs.«01_k».proof.Proof.Gen.GateRefIdeal.Read
public import proofs.«01_k».proof.Proof.Gen.ActRefIdeal.Run
public import proofs.«01_k».proof.Proof.Gen.ActRefIdeal.Read
public import proofs.«01_k».proof.Proof.Gen.MlpInRefIdeal.Run
public import proofs.«01_k».proof.Proof.Gen.MlpInRefIdeal.Read
public import proofs.«01_k».proof.Proof.Gen.AttnIdeal.Value
public import proofs.«01_k».proof.Proof.Gen.AttnRefIdeal.Run
public import proofs.«01_k».proof.Proof.Gen.AttnRefIdeal.Read
public import proofs.«01_k».proof.Proof.GateValue
public import proofs.«01_k».proof.Proof.ActValue
public import proofs.«01_k».proof.Proof.MlpInValue
public import proofs.«01_k».proof.Proof.UpValue
public import proofs.«01_k».proof.Proof.DownValue
public import proofs.«01_k».proof.Proof.DwRows
public import proofs.«01_k».proof.Proof.DwCols
public import proofs.«01_k».proof.Proof.HgrnInValue
public import proofs.«01_k».proof.Proof.QkvEq
public import proofs.«01_k».proof.Proof.OutValue
public import proofs.«01_k».proof.Proof.AdamQkv
public import proofs.«01_k».proof.Proof.AdamO
public import proofs.«01_k».proof.Proof.AdamIn
public import proofs.«01_k».proof.Proof.AdamUp
public import proofs.«01_k».proof.Proof.AdamDown
public import proofs.«01_k».proof.Proof.DwQkvValue
public import proofs.«01_k».proof.Proof.HgrnOutValue
public import proofs.«01_k».proof.Proof.LossEq
public import proofs.«01_k».proof.Proof.QkvFwdEq
public import proofs.«01_k».proof.Proof.AttnEq
public import Idealize.ShloMosaic.Lib.Quiescent
public import Idealize.ShloMosaic.Adequacy
public import Idealize.ShloMosaic.Init

@[expose] public section

noncomputable section

namespace Cert.Proof

open Idealize.ShloMosaic Idealize.SL.Sem Cert.Gate

theorem claim : Cert.Claim := ⟨Cert.Gate.Gen.facts, Cert.GateIdeal.Gen.facts, Cert.GateRefIdeal.Gen.facts, Cert.Act.Gen.facts, Cert.ActIdeal.Gen.facts, Cert.ActRefIdeal.Gen.facts, Cert.MlpIn.Gen.facts, Cert.MlpInIdeal.Gen.facts, Cert.MlpInRefIdeal.Gen.facts, Cert.Attn.Gen.facts, Cert.AttnIdeal.Gen.facts, Cert.AttnRefIdeal.Gen.facts, Cert.Up.Gen.facts, Cert.UpIdeal.Gen.facts, Cert.UpRefIdeal.Gen.facts, Cert.Down.Gen.facts, Cert.DownIdeal.Gen.facts, Cert.DownRefIdeal.Gen.facts, Cert.DwDown.Gen.facts, Cert.DwDownIdeal.Gen.facts, Cert.DwDownRefIdeal.Gen.facts, Cert.DwUp.Gen.facts, Cert.DwUpIdeal.Gen.facts, Cert.DwUpRefIdeal.Gen.facts, Cert.DwIn.Gen.facts, Cert.DwInIdeal.Gen.facts, Cert.DwInRefIdeal.Gen.facts, Cert.DwO.Gen.facts, Cert.DwOIdeal.Gen.facts, Cert.DwORefIdeal.Gen.facts, Cert.HgrnIn.Gen.facts, Cert.HgrnInIdeal.Gen.facts, Cert.HgrnInRefIdeal.Gen.facts, Cert.QkvBwd.Gen.facts, Cert.QkvBwdIdeal.Gen.facts, Cert.QkvBwdRefIdeal.Gen.facts, Cert.OutBwd.Gen.facts, Cert.OutBwdIdeal.Gen.facts, Cert.OutBwdRefIdeal.Gen.facts, Cert.Out.Gen.facts, Cert.OutIdeal.Gen.facts, Cert.OutRefIdeal.Gen.facts, Cert.HgrnOut.Gen.facts, Cert.HgrnOutIdeal.Gen.facts, Cert.HgrnOutRefIdeal.Gen.facts, Cert.Loss.Gen.facts, Cert.LossIdeal.Gen.facts, Cert.LossRefIdeal.Gen.facts, Cert.DwQkv.Gen.facts, Cert.DwQkvIdeal.Gen.facts, Cert.DwQkvRefIdeal.Gen.facts, Cert.Qkv.Gen.facts, Cert.QkvIdeal.Gen.facts, Cert.QkvRefIdeal.Gen.facts, Cert.AdamQkv.Gen.facts, Cert.AdamQkvIdeal.Gen.facts, Cert.AdamQkvRefIdeal.Gen.facts, Cert.AdamO.Gen.facts, Cert.AdamOIdeal.Gen.facts, Cert.AdamORefIdeal.Gen.facts, Cert.AdamIn.Gen.facts, Cert.AdamInIdeal.Gen.facts, Cert.AdamInRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.Pre_finite_cotangent.Gen.facts, Cert.Pre_finite_attention.Gen.facts,
  fun m ρ _ => Cert.Gate.Gen.frame m ρ,
  fun m ρ _ => Cert.GateIdeal.Gen.frame m ρ,
  fun m ρ _ => Cert.GateIdeal.Gen.frame m ρ,
  fun m g _ => (θ_run Cert.GateRefIdeal.defs _ _).mono (fun r h => ⟨fun c => (h c).2.2.2, sem_eq_zero_of_no_sems (by decide) r.2⟩) (Cert.GateRefIdeal.Value.run (F := Ideal) m g),
  fun m g _ => (θ_run Cert.GateRefIdeal.defs _ _).mono (fun r h => ⟨fun c => (h c).2.2.2, sem_eq_zero_of_no_sems (by decide) r.2⟩) (Cert.GateRefIdeal.Value.run (F := Ideal) m g),
  fun m ρ _ => Cert.Act.Gen.frame m ρ,
  fun m ρ _ => Cert.ActIdeal.Gen.frame m ρ,
  fun m g _ => (θ_run Cert.ActRefIdeal.defs _ _).mono (fun r h => ⟨fun c => (h c).2, sem_eq_zero_of_no_sems (by decide) r.2⟩) (Cert.ActRefIdeal.Value.run (F := Ideal) m g),
  fun m ρ _ => Cert.MlpIn.Gen.frame m ρ,
  fun m ρ _ => Cert.MlpInIdeal.Gen.frame m ρ,
  fun m g _ => (θ_run Cert.MlpInRefIdeal.defs _ _).mono (fun r h => ⟨fun c => (h c).2.2, sem_eq_zero_of_no_sems (by decide) r.2⟩) (Cert.MlpInRefIdeal.Value.run (F := Ideal) m g),
  fun m ρ _ => Cert.Attn.Gen.frame m ρ,
  fun m ρ _ => Cert.AttnIdeal.Gen.frame m ρ,
  fun m ρ _ => Cert.AttnIdeal.Gen.frame m ρ,
  fun m g _ => (θ_run Cert.AttnRefIdeal.defs _ _).mono (fun r h => ⟨fun c => (h c).2, sem_eq_zero_of_no_sems (by decide) r.2⟩) (Cert.AttnRefIdeal.Value.run (F := Ideal) m g),
  fun m g _ => (θ_run Cert.AttnRefIdeal.defs _ _).mono (fun r h => ⟨fun c => (h c).2, sem_eq_zero_of_no_sems (by decide) r.2⟩) (Cert.AttnRefIdeal.Value.run (F := Ideal) m g),
  fun m ρ _ => Cert.Up.Gen.frame m ρ,
  fun m ρ _ => Cert.UpIdeal.Gen.frame m ρ,
  fun m g _ => (θ_run Cert.UpRefIdeal.defs _ _).mono (fun r h => ⟨fun c => (h c).2.2, sem_eq_zero_of_no_sems (by decide) r.2⟩) (Cert.UpRefIdeal.Value.run (F := Ideal) m g),
  fun m ρ _ => Cert.Down.Gen.frame m ρ,
  fun m ρ _ => Cert.DownIdeal.Gen.frame m ρ,
  fun m g _ => (θ_run Cert.DownRefIdeal.defs _ _).mono (fun r h => ⟨fun c => (h c).2.2, sem_eq_zero_of_no_sems (by decide) r.2⟩) (Cert.DownRefIdeal.Value.run (F := Ideal) m g),
  fun m ρ _ => Cert.DwDown.Gen.frame m ρ,
  fun m ρ _ => Cert.DwDownIdeal.Gen.frame m ρ,
  fun m g _ => (θ_run Cert.DwDownRefIdeal.defs _ _).mono (fun r h => ⟨fun c => (h c).2, sem_eq_zero_of_no_sems (by decide) r.2⟩) (Cert.DwDownRefIdeal.Value.run (F := Ideal) m g),
  fun m ρ _ => Cert.DwUp.Gen.frame m ρ,
  fun m ρ _ => Cert.DwUpIdeal.Gen.frame m ρ,
  fun m g _ => (θ_run Cert.DwUpRefIdeal.defs _ _).mono (fun r h => ⟨fun c => (h c).2, sem_eq_zero_of_no_sems (by decide) r.2⟩) (Cert.DwUpRefIdeal.Value.run (F := Ideal) m g),
  fun m ρ _ => Cert.DwIn.Gen.frame m ρ,
  fun m ρ _ => Cert.DwInIdeal.Gen.frame m ρ,
  fun m g _ => (θ_run Cert.DwInRefIdeal.defs _ _).mono (fun r h => ⟨fun c => (h c).2, sem_eq_zero_of_no_sems (by decide) r.2⟩) (Cert.DwInRefIdeal.Value.run (F := Ideal) m g),
  fun m ρ _ => Cert.DwO.Gen.frame m ρ,
  fun m ρ _ => Cert.DwOIdeal.Gen.frame m ρ,
  fun m g _ => (θ_run Cert.DwORefIdeal.defs _ _).mono (fun r h => ⟨fun c => (h c).2, sem_eq_zero_of_no_sems (by decide) r.2⟩) (Cert.DwORefIdeal.Value.run (F := Ideal) m g),
  fun m ρ _ => Cert.HgrnIn.Gen.frame m ρ,
  fun m ρ _ => Cert.HgrnInIdeal.Gen.frame m ρ,
  fun m g _ => (θ_run Cert.HgrnInRefIdeal.defs _ _).mono (fun r h => ⟨fun c => (h c).2.2, sem_eq_zero_of_no_sems (by decide) r.2⟩) (Cert.HgrnInRefIdeal.Value.run (F := Ideal) m g),
  fun m ρ _ => Cert.QkvBwd.Gen.frame m ρ,
  fun m ρ _ => Cert.QkvBwdIdeal.Gen.frame m ρ,
  fun m g _ => (θ_run Cert.QkvBwdRefIdeal.defs _ _).mono (fun r h => ⟨fun c => (h c).2.2.2, sem_eq_zero_of_no_sems (by decide) r.2⟩) (Cert.QkvBwdRefIdeal.Value.run (F := Ideal) m g),
  fun m ρ _ => Cert.OutBwd.Gen.frame m ρ,
  fun m ρ _ => Cert.OutBwdIdeal.Gen.frame m ρ,
  fun m g _ => (θ_run Cert.OutBwdRefIdeal.defs _ _).mono (fun r h => ⟨fun c => (h c).2, sem_eq_zero_of_no_sems (by decide) r.2⟩) (Cert.OutBwdRefIdeal.Value.run (F := Ideal) m g),
  fun m ρ _ => Cert.Out.Gen.frame m ρ,
  fun m ρ _ => Cert.OutIdeal.Gen.frame m ρ,
  fun m g _ => (θ_run Cert.OutRefIdeal.defs _ _).mono (fun r h => ⟨fun c => (h c).2, sem_eq_zero_of_no_sems (by decide) r.2⟩) (Cert.OutRefIdeal.Value.run (F := Ideal) m g),
  fun m ρ _ => Cert.HgrnOut.Gen.frame m ρ,
  fun m ρ _ => Cert.HgrnOutIdeal.Gen.frame m ρ,
  fun m g _ => (θ_run Cert.HgrnOutRefIdeal.defs _ _).mono (fun r h => ⟨fun c => (h c).2.2, sem_eq_zero_of_no_sems (by decide) r.2⟩) (Cert.HgrnOutRefIdeal.Value.run (F := Ideal) m g),
  fun m ρ _ => Cert.Loss.Gen.frame m ρ,
  fun m ρ _ => Cert.LossIdeal.Gen.frame m ρ,
  fun m g _ => (θ_run Cert.LossRefIdeal.defs _ _).mono (fun r h => ⟨fun c => (h c).2.2.2.2, sem_eq_zero_of_no_sems (by decide) r.2⟩) (Cert.LossRefIdeal.Value.run (F := Ideal) m g),
  fun m ρ _ => Cert.DwQkv.Gen.frame m ρ,
  fun m ρ _ => Cert.DwQkvIdeal.Gen.frame m ρ,
  fun m g _ => (θ_run Cert.DwQkvRefIdeal.defs _ _).mono (fun r h => ⟨fun c => (h c).2, sem_eq_zero_of_no_sems (by decide) r.2⟩) (Cert.DwQkvRefIdeal.Value.run (F := Ideal) m g),
  fun m ρ _ => Cert.Qkv.Gen.frame m ρ,
  fun m ρ _ => Cert.QkvIdeal.Gen.frame m ρ,
  fun m g _ => (θ_run Cert.QkvRefIdeal.defs _ _).mono (fun r h => ⟨fun c => (h c).2.2, sem_eq_zero_of_no_sems (by decide) r.2⟩) (Cert.QkvRefIdeal.Value.run (F := Ideal) m g),
  fun m ρ _ => Cert.AdamQkv.Gen.frame m ρ,
  fun m ρ _ => Cert.AdamQkvIdeal.Gen.frame m ρ,
  fun m g _ => (θ_run Cert.AdamQkvRefIdeal.defs _ _).mono (fun r h => ⟨fun c => (h c).2.2.2.2, sem_eq_zero_of_no_sems (by decide) r.2⟩) (Cert.AdamQkvRefIdeal.Value.run (F := Ideal) m g),
  fun m ρ _ => Cert.AdamO.Gen.frame m ρ,
  fun m ρ _ => Cert.AdamOIdeal.Gen.frame m ρ,
  fun m g _ => (θ_run Cert.AdamORefIdeal.defs _ _).mono (fun r h => ⟨fun c => (h c).2.2.2.2, sem_eq_zero_of_no_sems (by decide) r.2⟩) (Cert.AdamORefIdeal.Value.run (F := Ideal) m g),
  fun m ρ _ => Cert.AdamIn.Gen.frame m ρ,
  fun m ρ _ => Cert.AdamInIdeal.Gen.frame m ρ,
  fun m g _ => (θ_run Cert.AdamInRefIdeal.defs _ _).mono (fun r h => ⟨fun c => (h c).2.2.2.2, sem_eq_zero_of_no_sems (by decide) r.2⟩) (Cert.AdamInRefIdeal.Value.run (F := Ideal) m g),
  fun m ρ _ => Cert.AdamUp.Gen.frame m ρ,
  fun m ρ _ => Cert.AdamUpIdeal.Gen.frame m ρ,
  fun m g _ => (θ_run Cert.AdamUpRefIdeal.defs _ _).mono (fun r h => ⟨fun c => (h c).2.2.2.2, sem_eq_zero_of_no_sems (by decide) r.2⟩) (Cert.AdamUpRefIdeal.Value.run (F := Ideal) m g),
  fun m ρ _ => Cert.AdamDown.Gen.frame m ρ,
  fun m ρ _ => Cert.AdamDownIdeal.Gen.frame m ρ,
  fun m g _ => (θ_run Cert.AdamDownRefIdeal.defs _ _).mono (fun r h => ⟨fun c => (h c).2.2.2.2, sem_eq_zero_of_no_sems (by decide) r.2⟩) (Cert.AdamDownRefIdeal.Value.run (F := Ideal) m g),
  trivial,
  Cert.Proof.algebraic_gate,
  trivial,
  Cert.Proof.algebraic_act,
  trivial,
  Cert.Proof.algebraic_mlp_in,
  IdealRules.named_const.statement Cert.AttnIdeal.κ "mask" .f32 0xF149F2CA#32 ⊥ rfl,
  Cert.Proof.algebraic_attn,
  trivial,
  Cert.Proof.algebraic_up,
  trivial,
  Cert.Proof.algebraic_down,
  trivial,
  Cert.Proof.algebraic_dw_down,
  trivial,
  Cert.Proof.algebraic_dw_up,
  trivial,
  Cert.Proof.algebraic_dw_in,
  trivial,
  Cert.Proof.algebraic_dw_o,
  trivial,
  Cert.Proof.algebraic_hgrn_in,
  trivial,
  Cert.Proof.algebraic_qkv_bwd,
  trivial,
  Cert.Proof.algebraic_out_bwd,
  trivial,
  Cert.Proof.algebraic_out,
  trivial,
  Cert.Proof.algebraic_hgrn_out,
  trivial,
  Cert.Proof.algebraic_loss,
  trivial,
  Cert.Proof.algebraic_dw_qkv,
  trivial,
  Cert.Proof.algebraic_qkv,
  trivial,
  Cert.Proof.algebraic_adam_qkv,
  trivial,
  Cert.Proof.algebraic_adam_o,
  trivial,
  Cert.Proof.algebraic_adam_in,
  trivial,
  Cert.Proof.algebraic_adam_up,
  trivial,
  Cert.Proof.algebraic_adam_down⟩

end Cert.Proof

end
